-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175_0) = v0 c
          ∧ r.2.mem ((c.tc : Thread Cert.ReferenceIdeal.nD Cert.ReferenceIdeal.τ).loc Cert.ReferenceIdeal.main_v175_1) = v1 c
          ∧ r.2.mem ((c.tc : Thread Cert.ReferenceIdeal.nD Cert.ReferenceIdeal.τ).loc Cert.ReferenceIdeal.main_v175_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1x2048 : Shape := ⟨3, ![8, 1, 2048]⟩
abbrev S8x1x4x64 : Shape := ⟨4, ![8, 1, 4, 64]⟩
abbrev S8x65536x4x64 : Shape := ⟨4, ![8, 65536, 4, 64]⟩
abbrev S8 : Shape := ⟨1, ![8]⟩
abbrev S8x2048 : Shape := ⟨2, ![8, 2048]⟩
abbrev S32x64 : Shape := ⟨2, ![32, 64]⟩
abbrev S8x4x64x65536 : Shape := ⟨4, ![8, 4, 64, 65536]⟩
abbrev S8x256x65536 : Shape := ⟨3, ![8, 256, 65536]⟩
abbrev S8x256x1152 : Shape := ⟨3, ![8, 256, 1152]⟩
abbrev S128x128 : Shape := ⟨2, ![128, 128]⟩
abbrev S128x256 : Shape := ⟨2, ![128, 256]⟩
abbrev S1 : Shape := ⟨1, ![1]⟩
abbrev S_ : Shape := ⟨0, ![]⟩
abbrev S1x256x1152 : Shape := ⟨3, ![1, 256, 1152]⟩
abbrev S256x1152 : Shape := ⟨2, ![256, 1152]⟩
abbrev S32x256 : Shape := ⟨2, ![32, 256]⟩
abbrev S8x128 : Shape := ⟨2, ![8, 128]⟩
abbrev S32x128 : Shape := ⟨2, ![32, 128]⟩
abbrev S32x1152 : Shape := ⟨2, ![32, 1152]⟩
abbrev S32 : Shape := ⟨1, ![32]⟩
abbrev S32x1 : Shape := ⟨2, ![32, 1]⟩

abbrev nBuf : Space → Nat
  | .hbm => 19
  | .vmem => 12
  | .smem => 1
  | _ => 0

abbrev bufTy : (tb : Table) → Fin (tcTables nBuf tb) → BufTy
  | .hbm, ⟨0, _⟩ => ⟨S8x1x2048, .bf16⟩
  | .hbm, ⟨1, _⟩ => ⟨S8x1x4x64, .bf16⟩
  | .hbm, ⟨2, _⟩ => ⟨S8x1x4x64, .bf16⟩
  | .hbm, ⟨3, _⟩ => ⟨S8x65536x4x64, .fp8e5m2⟩
  | .hbm, ⟨4, _⟩ => ⟨S8x65536x4x64, .fp8e5m2⟩
  | .hbm, ⟨5, _⟩ => ⟨S8, .i32⟩
  | .hbm, ⟨6, _⟩ => ⟨S8x2048, .bf16⟩
  | .hbm, ⟨7, _⟩ => ⟨S32x64, .bf16⟩
  | .hbm, ⟨8, _⟩ => ⟨S32x64, .bf16⟩
  | .hbm, ⟨9, _⟩ => ⟨S8x4x64x65536, .fp8e5m2⟩
  | .hbm, ⟨10, _⟩ => ⟨S8x256x65536, .fp8e5m2⟩
  | .hbm, ⟨11, _⟩ => ⟨S8x4x64x65536, .fp8e5m2⟩
  | .hbm, ⟨12, _⟩ => ⟨S8x256x65536, .fp8e5m2⟩
  | .hbm, ⟨13, _⟩ => ⟨S8x2048, .bf16⟩
  | .hbm, ⟨14, _⟩ => ⟨S32x64, .fp8e5m2⟩
  | .hbm, ⟨15, _⟩ => ⟨S32x64, .fp8e5m2⟩
  | .hbm, ⟨16, _⟩ => ⟨S8x1x2048, .bf16⟩
  | .hbm, ⟨17, _⟩ => ⟨S8x1x4x64, .fp8e5m2⟩
  | .hbm, ⟨18, _⟩ => ⟨S8x1x4x64, .fp8e5m2⟩
  | .local _ .vmem, ⟨0, _⟩ => ⟨S8x2048, .bf16⟩
  | .local _ .vmem, ⟨1, _⟩ => ⟨S32x64, .bf16⟩
  | .local _ .vmem, ⟨2, _⟩ => ⟨S32x64, .bf16⟩
  | .local _ .vmem, ⟨3, _⟩ => ⟨S8x2048, .bf16⟩
  | .local _ .vmem, ⟨4, _⟩ => ⟨S32x64, .fp8e5m2⟩
  | .local _ .vmem, ⟨5, _⟩ => ⟨S32x64, .fp8e5m2⟩
  | .local _ .vmem, ⟨6, _⟩ => ⟨S8x256x1152, .fp8e5m2⟩
  | .local _ .vmem, ⟨7, _⟩ => ⟨S8x256x1152, .fp8e5m2⟩
  | .local _ .vmem, ⟨8, _⟩ => ⟨S128x128, .f32⟩
  | .local _ .vmem, ⟨9, _⟩ => ⟨S128x128, .f32⟩
  | .local _ .vmem, ⟨10, _⟩ => ⟨S128x256, .bf16⟩
  | .local _ .vmem, ⟨11, _⟩ => ⟨S128x256, .bf16⟩
  | .local _ .smem, ⟨0, _⟩ => ⟨S8, .i32⟩
  | _, _ => ⟨S8x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

def k0_mult1 (v0 : BitVec 32) : BitVec 32 :=
  let c1023_i32 : BitVec 32 := 1023#32
  let v1 : BitVec 32 := Scalar.subi v0 c1023_i32
  let c0_i32 : BitVec 32 := 0#32
  let v2 : BitVec 32 := Scalar.maxsi v1 c0_i32
  let c7_i32 : BitVec 32 := 7#32
  let v3 : BitVec 32 := Scalar.shrui v2 c7_i32
  let c128_i32 : BitVec 32 := 128#32
  let v4 : BitVec 32 := Scalar.muli v3 c128_i32
  let c64384_i32 : BitVec 32 := 64384#32
  let v5 : BitVec 32 := Scalar.minsi v4 c64384_i32
  v5

def k0_mult2 (v7 : BitVec 32) : BitVec 32 :=
  let c1023_i32_0 : BitVec 32 := 1023#32
  let v8 : BitVec 32 := Scalar.subi v7 c1023_i32_0
  let c0_i32_1 : BitVec 32 := 0#32
  let v9 : BitVec 32 := Scalar.maxsi v8 c0_i32_1
  let c7_i32_2 : BitVec 32 := 7#32
  let v10 : BitVec 32 := Scalar.shrui v9 c7_i32_2
  let c128_i32_3 : BitVec 32 := 128#32
  let v11 : BitVec 32 := Scalar.muli v10 c128_i32_3
  let c64384_i32_4 : BitVec 32 := 64384#32
  let v12 : BitVec 32 := Scalar.minsi v11 c64384_i32_4
  v12

def k0_mult3 (v14 : BitVec 32) : BitVec 32 :=
  let c1023_i32_5 : BitVec 32 := 1023#32
  let v15 : BitVec 32 := Scalar.subi v14 c1023_i32_5
  let c0_i32_6 : BitVec 32 := 0#32
  let v16 : BitVec 32 := Scalar.maxsi v15 c0_i32_6
  let c7_i32_7 : BitVec 32 := 7#32
  let v17 : BitVec 32 := Scalar.shrui v16 c7_i32_7
  let c128_i32_8 : BitVec 32 := 128#32
  let v18 : BitVec 32 := Scalar.muli v17 c128_i32_8
  let c64384_i32_9 : BitVec 32 := 64384#32
  let v19 : BitVec 32 := Scalar.minsi v18 c64384_i32_9
  v19

def k0_mult4 (v21 : BitVec 32) : BitVec 32 :=
  let c1023_i32_10 : BitVec 32 := 1023#32
  let v22 : BitVec 32 := Scalar.subi v21 c1023_i32_10
  let c0_i32_11 : BitVec 32 := 0#32
  let v23 : BitVec 32 := Scalar.maxsi v22 c0_i32_11
  let c7_i32_12 : BitVec 32 := 7#32
  let v24 : BitVec 32 := Scalar.shrui v23 c7_i32_12
  let c128_i32_13 : BitVec 32 := 128#32
  let v25 : BitVec 32 := Scalar.muli v24 c128_i32_13
  let c64384_i32_14 : BitVec 32 := 64384#32
  let v26 : BitVec 32 := Scalar.minsi v25 c64384_i32_14
  v26

def k0_mult5 (v28 : BitVec 32) : BitVec 32 :=
  let c1023_i32_15 : BitVec 32 := 1023#32
  let v29 : BitVec 32 := Scalar.subi v28 c1023_i32_15
  let c0_i32_16 : BitVec 32 := 0#32
  let v30 : BitVec 32 := Scalar.maxsi v29 c0_i32_16
  let c7_i32_17 : BitVec 32 := 7#32
  let v31 : BitVec 32 := Scalar.shrui v30 c7_i32_17
  let c128_i32_18 : BitVec 32 := 128#32
  let v32 : BitVec 32 := Scalar.muli v31 c128_i32_18
  let c64384_i32_19 : BitVec 32 := 64384#32
  let v33 : BitVec 32 := Scalar.minsi v32 c64384_i32_19
  v33

def k0_mult6 (v35 : BitVec 32) : BitVec 32 :=
  let c1023_i32_20 : BitVec 32 := 1023#32
  let v36 : BitVec 32 := Scalar.subi v35 c1023_i32_20
  let c0_i32_21 : BitVec 32 := 0#32
  let v37 : BitVec 32 := Scalar.maxsi v36 c0_i32_21
  let c7_i32_22 : BitVec 32 := 7#32
  let v38 : BitVec 32 := Scalar.shrui v37 c7_i32_22
  let c128_i32_23 : BitVec 32 := 128#32
  let v39 : BitVec 32 := Scalar.muli v38 c128_i32_23
  let c64384_i32_24 : BitVec 32 := 64384#32
  let v40 : BitVec 32 := Scalar.minsi v39 c64384_i32_24
  v40

def k0_mult7 (v42 : BitVec 32) : BitVec 32 :=
  let c1023_i32_25 : BitVec 32 := 1023#32
  let v43 : BitVec 32 := Scalar.subi v42 c1023_i32_25
  let c0_i32_26 : BitVec 32 := 0#32
  let v44 : BitVec 32 := Scalar.maxsi v43 c0_i32_26
  let c7_i32_27 : BitVec 32 := 7#32
  let v45 : BitVec 32 := Scalar.shrui v44 c7_i32_27
  let c128_i32_28 : BitVec 32 := 128#32
  let v46 : BitVec 32 := Scalar.muli v45 c128_i32_28
  let c64384_i32_29 : BitVec 32 := 64384#32
  let v47 : BitVec 32 := Scalar.minsi v46 c64384_i32_29
  v47

def k0_mult8 (v49 : BitVec 32) : BitVec 32 :=
  let c1023_i32_30 : BitVec 32 := 1023#32
  let v50 : BitVec 32 := Scalar.subi v49 c1023_i32_30
  let c0_i32_31 : BitVec 32 := 0#32
  let v51 : BitVec 32 := Scalar.maxsi v50 c0_i32_31
  let c7_i32_32 : BitVec 32 := 7#32
  let v52 : BitVec 32 := Scalar.shrui v51 c7_i32_32
  let c128_i32_33 : BitVec 32 := 128#32
  let v53 : BitVec 32 := Scalar.muli v52 c128_i32_33
  let c64384_i32_34 : BitVec 32 := 64384#32
  let v54 : BitVec 32 := Scalar.minsi v53 c64384_i32_34
  v54

def k0_off1 (v0 : BitVec 32) : Fin 3 → Nat :=
  let c0_i32_35 : BitVec 32 := 0#32
  let c0_i32_40 : BitVec 32 := 0#32
  let c1023_i32 : BitVec 32 := 1023#32
  let v1 : BitVec 32 := Scalar.subi v0 c1023_i32
  let c0_i32 : BitVec 32 := 0#32
  let v2 : BitVec 32 := Scalar.maxsi v1 c0_i32
  let c7_i32 : BitVec 32 := 7#32
  let v3 : BitVec 32 := Scalar.shrui v2 c7_i32
  let c128_i32 : BitVec 32 := 128#32
  let v4 : BitVec 32 := Scalar.muli v3 c128_i32
  let c64384_i32 : BitVec 32 := 64384#32
  let v5 : BitVec 32 := Scalar.minsi v4 c64384_i32
  let v6 : BitVec 32 := v5
  ![0, 0, v6.toNat]

def k0_chk1 (v0 : BitVec 32) : Prop :=
  (128 ∣ (k0_mult1 v0).toNat) ∧
  (∀ a, (k0_off1 v0) a + S1x256x1152.size a ≤ S8x256x65536.size a) ∧
  (∀ (hinb : ∀ a, (k0_off1 v0) a + S1x256x1152.size a ≤ S8x256x65536.size a), (Rect.unit (s := S8x256x65536) (k0_off1 v0) S1x256x1152.size hinb).WholeWords (EltTy.packing .fp8e5m2))
theorem k0_mult1_dvd : ∀ (v0 : BitVec 32) (k0_hw1 : k0_chk1 v0), 128 ∣ (k0_mult1 v0).toNat := fun v0 k0_hw1 => k0_hw1.1
theorem k0_off1_inb : ∀ (v0 : BitVec 32) (k0_hw1 : k0_chk1 v0), ∀ a, (k0_off1 v0) a + S1x256x1152.size a ≤ S8x256x65536.size a := fun v0 k0_hw1 => k0_hw1.2.1
theorem k0_off1_wordsfp8e5m2 : ∀ (v0 : BitVec 32) (k0_hw1 : k0_chk1 v0), (Rect.unit (s := S8x256x65536) (k0_off1 v0) S1x256x1152.size (k0_off1_inb v0 k0_hw1)).WholeWords (EltTy.packing .fp8e5m2) := fun v0 k0_hw1 => k0_hw1.2.2 (k0_off1_inb v0 k0_hw1)

def k0_off2 (v7 : BitVec 32) : Fin 3 → Nat :=
  let c1_i32 : BitVec 32 := 1#32
  let c0_i32_51 : BitVec 32 := 0#32
  let c1023_i32_0 : BitVec 32 := 1023#32
  let v8 : BitVec 32 := Scalar.subi v7 c1023_i32_0
  let c0_i32_1 : BitVec 32 := 0#32
  let v9 : BitVec 32 := Scalar.maxsi v8 c0_i32_1
  let c7_i32_2 : BitVec 32 := 7#32
  let v10 : BitVec 32 := Scalar.shrui v9 c7_i32_2
  let c128_i32_3 : BitVec 32 := 128#32
  let v11 : BitVec 32 := Scalar.muli v10 c128_i32_3
  let c64384_i32_4 : BitVec 32 := 64384#32
  let v12 : BitVec 32 := Scalar.minsi v11 c64384_i32_4
  let v13 : BitVec 32 := v12
  ![1, 0, v13.toNat]

def k0_chk2 (v7 : BitVec 32) : Prop :=
  (128 ∣ (k0_mult2 v7).toNat) ∧
  (∀ a, (k0_off2 v7) a + S1x256x1152.size a ≤ S8x256x65536.size a) ∧
  (∀ (hinb : ∀ a, (k0_off2 v7) a + S1x256x1152.size a ≤ S8x256x65536.size a), (Rect.unit (s := S8x256x65536) (k0_off2 v7) S1x256x1152.size hinb).WholeWords (EltTy.packing .fp8e5m2))
theorem k0_mult2_dvd : ∀ (v7 : BitVec 32) (k0_hw2 : k0_chk2 v7), 128 ∣ (k0_mult2 v7).toNat := fun v7 k0_hw2 => k0_hw2.1
theorem k0_off2_inb : ∀ (v7 : BitVec 32) (k0_hw2 : k0_chk2 v7), ∀ a, (k0_off2 v7) a + S1x256x1152.size a ≤ S8x256x65536.size a := fun v7 k0_hw2 => k0_hw2.2.1
theorem k0_off2_wordsfp8e5m2 : ∀ (v7 : BitVec 32) (k0_hw2 : k0_chk2 v7), (Rect.unit (s := S8x256x65536) (k0_off2 v7) S1x256x1152.size (k0_off2_inb v7 k0_hw2)).WholeWords (EltTy.packing .fp8e5m2) := fun v7 k0_hw2 => k0_hw2.2.2 (k0_off2_inb v7 k0_hw2)

def k0_off3 (v14 : BitVec 32) : Fin 3 → Nat :=
  let c2_i32 : BitVec 32 := 2#32
  let c0_i32_62 : BitVec 32 := 0#32
  let c1023_i32_5 : BitVec 32 := 1023#32
  let v15 : BitVec 32 := Scalar.subi v14 c1023_i32_5
  let c0_i32_6 : BitVec 32 := 0#32
  let v16 : BitVec 32 := Scalar.maxsi v15 c0_i32_6
  let c7_i32_7 : BitVec 32 := 7#32
  let v17 : BitVec 32 := Scalar.shrui v16 c7_i32_7
  let c128_i32_8 : BitVec 32 := 128#32
  let v18 : BitVec 32 := Scalar.muli v17 c128_i32_8
  let c64384_i32_9 : BitVec 32 := 64384#32
  let v19 : BitVec 32 := Scalar.minsi v18 c64384_i32_9
  let v20 : BitVec 32 := v19
  ![2, 0, v20.toNat]

def k0_chk3 (v14 : BitVec 32) : Prop :=
  (128 ∣ (k0_mult3 v14).toNat) ∧
  (∀ a, (k0_off3 v14) a + S1x256x1152.size a ≤ S8x256x65536.size a) ∧
  (∀ (hinb : ∀ a, (k0_off3 v14) a + S1x256x1152.size a ≤ S8x256x65536.size a), (Rect.unit (s := S8x256x65536) (k0_off3 v14) S1x256x1152.size hinb).WholeWords (EltTy.packing .fp8e5m2))
theorem k0_mult3_dvd : ∀ (v14 : BitVec 32) (k0_hw3 : k0_chk3 v14), 128 ∣ (k0_mult3 v14).toNat := fun v14 k0_hw3 => k0_hw3.1
theorem k0_off3_inb : ∀ (v14 : BitVec 32) (k0_hw3 : k0_chk3 v14), ∀ a, (k0_off3 v14) a + S1x256x1152.size a ≤ S8x256x65536.size a := fun v14 k0_hw3 => k0_hw3.2.1
theorem k0_off3_wordsfp8e5m2 : ∀ (v14 : BitVec 32) (k0_hw3 : k0_chk3 v14), (Rect.unit (s := S8x256x65536) (k0_off3 v14) S1x256x1152.size (k0_off3_inb v14 k0_hw3)).WholeWords (EltTy.packing .fp8e5m2) := fun v14 k0_hw3 => k0_hw3.2.2 (k0_off3_inb v14 k0_hw3)

def k0_off4 (v21 : BitVec 32) : Fin 3 → Nat :=
  let c3_i32 : BitVec 32 := 3#32
  let c0_i32_73 : BitVec 32 := 0#32
  let c1023_i32_10 : BitVec 32 := 1023#32
  let v22 : BitVec 32 := Scalar.subi v21 c1023_i32_10
  let c0_i32_11 : BitVec 32 := 0#32
  let v23 : BitVec 32 := Scalar.maxsi v22 c0_i32_11
  let c7_i32_12 : BitVec 32 := 7#32
  let v24 : BitVec 32 := Scalar.shrui v23 c7_i32_12
  let c128_i32_13 : BitVec 32 := 128#32
  let v25 : BitVec 32 := Scalar.muli v24 c128_i32_13
  let c64384_i32_14 : BitVec 32 := 64384#32
  let v26 : BitVec 32 := Scalar.minsi v25 c64384_i32_14
  let v27 : BitVec 32 := v26
  ![3, 0, v27.toNat]

def k0_chk4 (v21 : BitVec 32) : Prop :=
  (128 ∣ (k0_mult4 v21).toNat) ∧
  (∀ a, (k0_off4 v21) a + S1x256x1152.size a ≤ S8x256x65536.size a) ∧
  (∀ (hinb : ∀ a, (k0_off4 v21) a + S1x256x1152.size a ≤ S8x256x65536.size a), (Rect.unit (s := S8x256x65536) (k0_off4 v21) S1x256x1152.size hinb).WholeWords (EltTy.packing .fp8e5m2))
theorem k0_mult4_dvd : ∀ (v21 : BitVec 32) (k0_hw4 : k0_chk4 v21), 128 ∣ (k0_mult4 v21).toNat := fun v21 k0_hw4 => k0_hw4.1
theorem k0_off4_inb : ∀ (v21 : BitVec 32) (k0_hw4 : k0_chk4 v21), ∀ a, (k0_off4 v21) a + S1x256x1152.size a ≤ S8x256x65536.size a := fun v21 k0_hw4 => k0_hw4.2.1
theorem k0_off4_wordsfp8e5m2 : ∀ (v21 : BitVec 32) (k0_hw4 : k0_chk4 v21), (Rect.unit (s := S8x256x65536) (k0_off4 v21) S1x256x1152.size (k0_off4_inb v21 k0_hw4)).WholeWords (EltTy.packing .fp8e5m2) := fun v21 k0_hw4 => k0_hw4.2.2 (k0_off4_inb v21 k0_hw4)

def k0_off5 (v28 : BitVec 32) : Fin 3 → Nat :=
  let c4_i32 : BitVec 32 := 4#32
  let c0_i32_84 : BitVec 32 := 0#32
  let c1023_i32_15 : BitVec 32 := 1023#32
  let v29 : BitVec 32 := Scalar.subi v28 c1023_i32_15
  let c0_i32_16 : BitVec 32 := 0#32
  let v30 : BitVec 32 := Scalar.maxsi v29 c0_i32_16
  let c7_i32_17 : BitVec 32 := 7#32
  let v31 : BitVec 32 := Scalar.shrui v30 c7_i32_17
  let c128_i32_18 : BitVec 32 := 128#32
  let v32 : BitVec 32 := Scalar.muli v31 c128_i32_18
  let c64384_i32_19 : BitVec 32 := 64384#32
  let v33 : BitVec 32 := Scalar.minsi v32 c64384_i32_19
  let v34 : BitVec 32 := v33
  ![4, 0, v34.toNat]

def k0_chk5 (v28 : BitVec 32) : Prop :=
  (128 ∣ (k0_mult5 v28).toNat) ∧
  (∀ a, (k0_off5 v28) a + S1x256x1152.size a ≤ S8x256x65536.size a) ∧
  (∀ (hinb : ∀ a, (k0_off5 v28) a + S1x256x1152.size a ≤ S8x256x65536.size a), (Rect.unit (s := S8x256x65536) (k0_off5 v28) S1x256x1152.size hinb).WholeWords (EltTy.packing .fp8e5m2))
theorem k0_mult5_dvd : ∀ (v28 : BitVec 32) (k0_hw5 : k0_chk5 v28), 128 ∣ (k0_mult5 v28).toNat := fun v28 k0_hw5 => k0_hw5.1
theorem k0_off5_inb : ∀ (v28 : BitVec 32) (k0_hw5 : k0_chk5 v28), ∀ a, (k0_off5 v28) a + S1x256x1152.size a ≤ S8x256x65536.size a := fun v28 k0_hw5 => k0_hw5.2.1
theorem k0_off5_wordsfp8e5m2 : ∀ (v28 : BitVec 32) (k0_hw5 : k0_chk5 v28), (Rect.unit (s := S8x256x65536) (k0_off5 v28) S1x256x1152.size (k0_off5_inb v28 k0_hw5)).WholeWords (EltTy.packing .fp8e5m2) := fun v28 k0_hw5 => k0_hw5.2.2 (k0_off5_inb v28 k0_hw5)

def k0_off6 (v35 : BitVec 32) : Fin 3 → Nat :=
  let c5_i32 : BitVec 32 := 5#32
  let c0_i32_95 : BitVec 32 := 0#32
  let c1023_i32_20 : BitVec 32 := 1023#32
  let v36 : BitVec 32 := Scalar.subi v35 c1023_i32_20
  let c0_i32_21 : BitVec 32 := 0#32
  let v37 : BitVec 32 := Scalar.maxsi v36 c0_i32_21
  let c7_i32_22 : BitVec 32 := 7#32
  let v38 : BitVec 32 := Scalar.shrui v37 c7_i32_22
  let c128_i32_23 : BitVec 32 := 128#32
  let v39 : BitVec 32 := Scalar.muli v38 c128_i32_23
  let c64384_i32_24 : BitVec 32 := 64384#32
  let v40 : BitVec 32 := Scalar.minsi v39 c64384_i32_24
  let v41 : BitVec 32 := v40
  ![5, 0, v41.toNat]

def k0_chk6 (v35 : BitVec 32) : Prop :=
  (128 ∣ (k0_mult6 v35).toNat) ∧
  (∀ a, (k0_off6 v35) a + S1x256x1152.size a ≤ S8x256x65536.size a) ∧
  (∀ (hinb : ∀ a, (k0_off6 v35) a + S1x256x1152.size a ≤ S8x256x65536.size a), (Rect.unit (s := S8x256x65536) (k0_off6 v35) S1x256x1152.size hinb).WholeWords (EltTy.packing .fp8e5m2))
theorem k0_mult6_dvd : ∀ (v35 : BitVec 32) (k0_hw6 : k0_chk6 v35), 128 ∣ (k0_mult6 v35).toNat := fun v35 k0_hw6 => k0_hw6.1
theorem k0_off6_inb : ∀ (v35 : BitVec 32) (k0_hw6 : k0_chk6 v35), ∀ a, (k0_off6 v35) a + S1x256x1152.size a ≤ S8x256x65536.size a := fun v35 k0_hw6 => k0_hw6.2.1
theorem k0_off6_wordsfp8e5m2 : ∀ (v35 : BitVec 32) (k0_hw6 : k0_chk6 v35), (Rect.unit (s := S8x256x65536) (k0_off6 v35) S1x256x1152.size (k0_off6_inb v35 k0_hw6)).WholeWords (EltTy.packing .fp8e5m2) := fun v35 k0_hw6 => k0_hw6.2.2 (k0_off6_inb v35 k0_hw6)

def k0_off7 (v42 : BitVec 32) : Fin 3 → Nat :=
  let c6_i32 : BitVec 32 := 6#32
  let c0_i32_106 : BitVec 32 := 0#32
  let c1023_i32_25 : BitVec 32 := 1023#32
  let v43 : BitVec 32 := Scalar.subi v42 c1023_i32_25
  let c0_i32_26 : BitVec 32 := 0#32
  let v44 : BitVec 32 := Scalar.maxsi v43 c0_i32_26
  let c7_i32_27 : BitVec 32 := 7#32
  let v45 : BitVec 32 := Scalar.shrui v44 c7_i32_27
  let c128_i32_28 : BitVec 32 := 128#32
  let v46 : BitVec 32 := Scalar.muli v45 c128_i32_28
  let c64384_i32_29 : BitVec 32 := 64384#32
  let v47 : BitVec 32 := Scalar.minsi v46 c64384_i32_29
  let v48 : BitVec 32 := v47
  ![6, 0, v48.toNat]

def k0_chk7 (v42 : BitVec 32) : Prop :=
  (128 ∣ (k0_mult7 v42).toNat) ∧
  (∀ a, (k0_off7 v42) a + S1x256x1152.size a ≤ S8x256x65536.size a) ∧
  (∀ (hinb : ∀ a, (k0_off7 v42) a + S1x256x1152.size a ≤ S8x256x65536.size a), (Rect.unit (s := S8x256x65536) (k0_off7 v42) S1x256x1152.size hinb).WholeWords (EltTy.packing .fp8e5m2))
theorem k0_mult7_dvd : ∀ (v42 : BitVec 32) (k0_hw7 : k0_chk7 v42), 128 ∣ (k0_mult7 v42).toNat := fun v42 k0_hw7 => k0_hw7.1
theorem k0_off7_inb : ∀ (v42 : BitVec 32) (k0_hw7 : k0_chk7 v42), ∀ a, (k0_off7 v42) a + S1x256x1152.size a ≤ S8x256x65536.size a := fun v42 k0_hw7 => k0_hw7.2.1
theorem k0_off7_wordsfp8e5m2 : ∀ (v42 : BitVec 32) (k0_hw7 : k0_chk7 v42), (Rect.unit (s := S8x256x65536) (k0_off7 v42) S1x256x1152.size (k0_off7_inb v42 k0_hw7)).WholeWords (EltTy.packing .fp8e5m2) := fun v42 k0_hw7 => k0_hw7.2.2 (k0_off7_inb v42 k0_hw7)

def k0_off8 (v49 : BitVec 32) : Fin 3 → Nat :=
  let c7_i32_113 : BitVec 32 := 7#32
  let c0_i32_118 : BitVec 32 := 0#32
  let c1023_i32_30 : BitVec 32 := 1023#32
  let v50 : BitVec 32 := Scalar.subi v49 c1023_i32_30
  let c0_i32_31 : BitVec 32 := 0#32
  let v51 : BitVec 32 := Scalar.maxsi v50 c0_i32_31
  let c7_i32_32 : BitVec 32 := 7#32
  let v52 : BitVec 32 := Scalar.shrui v51 c7_i32_32
  let c128_i32_33 : BitVec 32 := 128#32
  let v53 : BitVec 32 := Scalar.muli v52 c128_i32_33
  let c64384_i32_34 : BitVec 32 := 64384#32
  let v54 : BitVec 32 := Scalar.minsi v53 c64384_i32_34
  let v55 : BitVec 32 := v54
  ![7, 0, v55.toNat]

def k0_chk8 (v49 : BitVec 32) : Prop :=
  (128 ∣ (k0_mult8 v49).toNat) ∧
  (∀ a, (k0_off8 v49) a + S1x256x1152.size a ≤ S8x256x65536.size a) ∧
  (∀ (hinb : ∀ a, (k0_off8 v49) a + S1x256x1152.size a ≤ S8x256x65536.size a), (Rect.unit (s := S8x256x65536) (k0_off8 v49) S1x256x1152.size hinb).WholeWords (EltTy.packing .fp8e5m2))
theorem k0_mult8_dvd : ∀ (v49 : BitVec 32) (k0_hw8 : k0_chk8 v49), 128 ∣ (k0_mult8 v49).toNat := fun v49 k0_hw8 => k0_hw8.1
theorem k0_off8_inb : ∀ (v49 : BitVec 32) (k0_hw8 : k0_chk8 v49), ∀ a, (k0_off8 v49) a + S1x256x1152.size a ≤ S8x256x65536.size a := fun v49 k0_hw8 => k0_hw8.2.1
theorem k0_off8_wordsfp8e5m2 : ∀ (v49 : BitVec 32) (k0_hw8 : k0_chk8 v49), (Rect.unit (s := S8x256x65536) (k0_off8 v49) S1x256x1152.size (k0_off8_inb v49 k0_hw8)).WholeWords (EltTy.packing .fp8e5m2) := fun v49 k0_hw8 => k0_hw8.2.2 (k0_off8_inb v49 k0_hw8)

abbrev stage0_0 : Fin 1 → Memref sig .tc .smem S8 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x64 .fp8e5m2 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x64 .fp8e5m2 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S8x1x2048 : Shape := ⟨3, ![8, 1, 2048]⟩
abbrev S8x1x4x64 : Shape := ⟨4, ![8, 1, 4, 64]⟩
abbrev S8x65536x4x64 : Shape := ⟨4, ![8, 65536, 4, 64]⟩
abbrev S8 : Shape := ⟨1, ![8]⟩
abbrev S_ : Shape := ⟨0, ![]⟩
abbrev S1x65536x4x64 : Shape := ⟨4, ![1, 65536, 4, 64]⟩
abbrev S65536x4x64 : Shape := ⟨3, ![65536, 4, 64]⟩
abbrev S1 : Shape := ⟨1, ![1]⟩
abbrev S1023x4x64 : Shape := ⟨3, ![1023, 4, 64]⟩
abbrev S1x1023x4x64 : Shape := ⟨4, ![1, 1023, 4, 64]⟩
abbrev S8x1023x4x64 : Shape := ⟨4, ![8, 1023, 4, 64]⟩
abbrev S8x1 : Shape := ⟨2, ![8, 1]⟩
abbrev S1023 : Shape := ⟨1, ![1023]⟩
abbrev S1x1023 : Shape := ⟨2, ![1, 1023]⟩
abbrev S8x1023 : Shape := ⟨2, ![8, 1023]⟩
abbrev S8x1x1x1023 : Shape := ⟨4, ![8, 1, 1, 1023]⟩
abbrev S8x4x8x1023 : Shape := ⟨4, ![8, 4, 8, 1023]⟩
abbrev S32x8x1023 : Shape := ⟨3, ![32, 8, 1023]⟩
abbrev S8x4x1023x64 : Shape := ⟨4, ![8, 4, 1023, 64]⟩
abbrev S32x1023x64 : Shape := ⟨3, ![32, 1023, 64]⟩
abbrev S32x8x64 : Shape := ⟨3, ![32, 8, 64]⟩
abbrev S32x1x64 : Shape := ⟨3, ![32, 1, 64]⟩
abbrev S32x8x1 : Shape := ⟨3, ![32, 8, 1]⟩
abbrev S32x8 : Shape := ⟨2, ![32, 8]⟩

abbrev nBuf : Space → Nat
  | .hbm => 257
  | .vmem => 9
  | .smem => 0
  | _ => 0

abbrev hbmTy0_0 (i : Nat) : BufTy := match i % 128 with
  | 0 => ⟨S8x1x2048, .bf16⟩
  | 1 => ⟨S8x1x4x64, .bf16⟩
  | 2 => ⟨S8x1x4x64, .bf16⟩
  | 3 => ⟨S8x65536x4x64, .fp8e5m2⟩
  | 4 => ⟨S8x65536x4x64, .fp8e5m2⟩
  | 5 => ⟨S8, .i32⟩
  | 6 => ⟨S_, .i32⟩
  | 7 => ⟨S8, .i32⟩
  | 8 => ⟨S8, .i32⟩
  | 9 => ⟨S_, .i32⟩
  | 10 => ⟨S_, .i32⟩
  | 11 => ⟨S_, .i32⟩
  | 12 => ⟨S8, .i32⟩
  | 13 => ⟨S8, .i32⟩
  | 14 => ⟨S_, .i32⟩
  | 15 => ⟨S8, .i32⟩
  | 16 => ⟨S8, .i32⟩
  | 17 => ⟨S1x65536x4x64, .fp8e5m2⟩
  | 18 => ⟨S65536x4x64, .fp8e5m2⟩
  | 19 => ⟨S1, .i32⟩
  | 20 => ⟨S_, .i32⟩
  | 21 => ⟨S_, .i32⟩
  | 22 => ⟨S_, .i1⟩
  | 23 => ⟨S_, .i32⟩
  | 24 => ⟨S_, .i32⟩
  | 25 => ⟨S_, .i32⟩
  | 26 => ⟨S_, .i32⟩
  | 27 => ⟨S_, .i32⟩
  | 28 => ⟨S1023x4x64, .fp8e5m2⟩
  | 29 => ⟨S1x65536x4x64, .fp8e5m2⟩
  | 30 => ⟨S65536x4x64, .fp8e5m2⟩
  | 31 => ⟨S1, .i32⟩
  | 32 => ⟨S_, .i32⟩
  | 33 => ⟨S_, .i32⟩
  | 34 => ⟨S_, .i1⟩
  | 35 => ⟨S_, .i32⟩
  | 36 => ⟨S_, .i32⟩
  | 37 => ⟨S_, .i32⟩
  | 38 => ⟨S_, .i32⟩
  | 39 => ⟨S_, .i32⟩
  | 40 => ⟨S1023x4x64, .fp8e5m2⟩
  | 41 => ⟨S1x65536x4x64, .fp8e5m2⟩
  | 42 => ⟨S65536x4x64, .fp8e5m2⟩
  | 43 => ⟨S1, .i32⟩
  | 44 => ⟨S_, .i32⟩
  | 45 => ⟨S_, .i32⟩
  | 46 => ⟨S_, .i1⟩
  | 47 => ⟨S_, .i32⟩
  | 48 => ⟨S_, .i32⟩
  | 49 => ⟨S_, .i32⟩
  | 50 => ⟨S_, .i32⟩
  | 51 => ⟨S_, .i32⟩
  | 52 => ⟨S1023x4x64, .fp8e5m2⟩
  | 53 => ⟨S1x65536x4x64, .fp8e5m2⟩
  | 54 => ⟨S65536x4x64, .fp8e5m2⟩
  | 55 => ⟨S1, .i32⟩
  | 56 => ⟨S_, .i32⟩
  | 57 => ⟨S_, .i32⟩
  | 58 => ⟨S_, .i1⟩
  | 59 => ⟨S_, .i32⟩
  | 60 => ⟨S_, .i32⟩
  | 61 => ⟨S_, .i32⟩
  | 62 => ⟨S_, .i32⟩
  | 63 => ⟨S_, .i32⟩
  | 64 => ⟨S1023x4x64, .fp8e5m2⟩
  | 65 => ⟨S1x65536x4x64, .fp8e5m2⟩
  | 66 => ⟨S65536x4x64, .fp8e5m2⟩
  | 67 => ⟨S1, .i32⟩
  | 68 => ⟨S_, .i32⟩
  | 69 => ⟨S_, .i32⟩
  | 70 => ⟨S_, .i1⟩
  | 71 => ⟨S_, .i32⟩
  | 72 => ⟨S_, .i32⟩
  | 73 => ⟨S_, .i32⟩
  | 74 => ⟨S_, .i32⟩
  | 75 => ⟨S_, .i32⟩
  | 76 => ⟨S1023x4x64, .fp8e5m2⟩
  | 77 => ⟨S1x65536x4x64, .fp8e5m2⟩
  | 78 => ⟨S65536x4x64, .fp8e5m2⟩
  | 79 => ⟨S1, .i32⟩
  | 80 => ⟨S_, .i32⟩
  | 81 => ⟨S_, .i32⟩
  | 82 => ⟨S_, .i1⟩
  | 83 => ⟨S_, .i32⟩
  | 84 => ⟨S_, .i32⟩
  | 85 => ⟨S_, .i32⟩
  | 86 => ⟨S_, .i32⟩
  | 87 => ⟨S_, .i32⟩
  | 88 => ⟨S1023x4x64, .fp8e5m2⟩
  | 89 => ⟨S1x65536x4x64, .fp8e5m2⟩
  | 90 => ⟨S65536x4x64, .fp8e5m2⟩
  | 91 => ⟨S1, .i32⟩
  | 92 => ⟨S_, .i32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S_, .i32⟩
  | 100 => ⟨S1023x4x64, .fp8e5m2⟩
  | 101 => ⟨S1x65536x4x64, .fp8e5m2⟩
  | 102 => ⟨S65536x4x64, .fp8e5m2⟩
  | 103 => ⟨S1, .i32⟩
  | 104 => ⟨S_, .i32⟩
  | 105 => ⟨S_, .i32⟩
  | 106 => ⟨S_, .i1⟩
  | 107 => ⟨S_, .i32⟩
  | 108 => ⟨S_, .i32⟩
  | 109 => ⟨S_, .i32⟩
  | 110 => ⟨S_, .i32⟩
  | 111 => ⟨S_, .i32⟩
  | 112 => ⟨S1023x4x64, .fp8e5m2⟩
  | 113 => ⟨S1x1023x4x64, .fp8e5m2⟩
  | 114 => ⟨S1x1023x4x64, .fp8e5m2⟩
  | 115 => ⟨S1x1023x4x64, .fp8e5m2⟩
  | 116 => ⟨S1x1023x4x64, .fp8e5m2⟩
  | 117 => ⟨S1x1023x4x64, .fp8e5m2⟩
  | 118 => ⟨S1x1023x4x64, .fp8e5m2⟩
  | 119 => ⟨S1x1023x4x64, .fp8e5m2⟩
  | 120 => ⟨S1x1023x4x64, .fp8e5m2⟩
  | 121 => ⟨S8x1023x4x64, .fp8e5m2⟩
  | 122 => ⟨S1x65536x4x64, .fp8e5m2⟩
  | 123 => ⟨S65536x4x64, .fp8e5m2⟩
  | 124 => ⟨S1, .i32⟩
  | 125 => ⟨S_, .i32⟩
  | 126 => ⟨S_, .i32⟩
  | 127 => ⟨S_, .i1⟩
  | _ => ⟨S8x1x2048, .bf16⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S1023x4x64, .fp8e5m2⟩
  | 6 => ⟨S1x65536x4x64, .fp8e5m2⟩
  | 7 => ⟨S65536x4x64, .fp8e5m2⟩
  | 8 => ⟨S1, .i32⟩
  | 9 => ⟨S_, .i32⟩
  | 10 => ⟨S_, .i32⟩
  | 11 => ⟨S_, .i1⟩
  | 12 => ⟨S_, .i32⟩
  | 13 => ⟨S_, .i32⟩
  | 14 => ⟨S_, .i32⟩
  | 15 => ⟨S_, .i32⟩
  | 16 => ⟨S_, .i32⟩
  | 17 => ⟨S1023x4x64, .fp8e5m2⟩
  | 18 => ⟨S1x65536x4x64, .fp8e5m2⟩
  | 19 => ⟨S65536x4x64, .fp8e5m2⟩
  | 20 => ⟨S1, .i32⟩
  | 21 => ⟨S_, .i32⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S_, .i32⟩
  | 29 => ⟨S1023x4x64, .fp8e5m2⟩
  | 30 => ⟨S1x65536x4x64, .fp8e5m2⟩
  | 31 => ⟨S65536x4x64, .fp8e5m2⟩
  | 32 => ⟨S1, .i32⟩
  | 33 => ⟨S_, .i32⟩
  | 34 => ⟨S_, .i32⟩
  | 35 => ⟨S_, .i1⟩
  | 36 => ⟨S_, .i32⟩
  | 37 => ⟨S_, .i32⟩
  | 38 => ⟨S_, .i32⟩
  | 39 => ⟨S_, .i32⟩
  | 40 => ⟨S_, .i32⟩
  | 41 => ⟨S1023x4x64, .fp8e5m2⟩
  | 42 => ⟨S1x65536x4x64, .fp8e5m2⟩
  | 43 => ⟨S65536x4x64, .fp8e5m2⟩
  | 44 => ⟨S1, .i32⟩
  | 45 => ⟨S_, .i32⟩
  | 46 => ⟨S_, .i32⟩
  | 47 => ⟨S_, .i1⟩
  | 48 => ⟨S_, .i32⟩
  | 49 => ⟨S_, .i32⟩
  | 50 => ⟨S_, .i32⟩
  | 51 => ⟨S_, .i32⟩
  | 52 => ⟨S_, .i32⟩
  | 53 => ⟨S1023x4x64, .fp8e5m2⟩
  | 54 => ⟨S1x65536x4x64, .fp8e5m2⟩
  | 55 => ⟨S65536x4x64, .fp8e5m2⟩
  | 56 => ⟨S1, .i32⟩
  | 57 => ⟨S_, .i32⟩
  | 58 => ⟨S_, .i32⟩
  | 59 => ⟨S_, .i1⟩
  | 60 => ⟨S_, .i32⟩
  | 61 => ⟨S_, .i32⟩
  | 62 => ⟨S_, .i32⟩
  | 63 => ⟨S_, .i32⟩
  | 64 => ⟨S_, .i32⟩
  | 65 => ⟨S1023x4x64, .fp8e5m2⟩
  | 66 => ⟨S1x65536x4x64, .fp8e5m2⟩
  | 67 => ⟨S65536x4x64, .fp8e5m2⟩
  | 68 => ⟨S1, .i32⟩
  | 69 => ⟨S_, .i32⟩
  | 70 => ⟨S_, .i32⟩
  | 71 => ⟨S_, .i1⟩
  | 72 => ⟨S_, .i32⟩
  | 73 => ⟨S_, .i32⟩
  | 74 => ⟨S_, .i32⟩
  | 75 => ⟨S_, .i32⟩
  | 76 => ⟨S_, .i32⟩
  | 77 => ⟨S1023x4x64, .fp8e5m2⟩
  | 78 => ⟨S1x65536x4x64, .fp8e5m2⟩
  | 79 => ⟨S65536x4x64, .fp8e5m2⟩
  | 80 => ⟨S1, .i32⟩
  | 81 => ⟨S_, .i32⟩
  | 82 => ⟨S_, .i32⟩
  | 83 => ⟨S_, .i1⟩
  | 84 => ⟨S_, .i32⟩
  | 85 => ⟨S_, .i32⟩
  | 86 => ⟨S_, .i32⟩
  | 87 => ⟨S_, .i32⟩
  | 88 => ⟨S_, .i32⟩
  | 89 => ⟨S1023x4x64, .fp8e5m2⟩
  | 90 => ⟨S1x1023x4x64, .fp8e5m2⟩
  | 91 => ⟨S1x1023x4x64, .fp8e5m2⟩
  | 92 => ⟨S1x1023x4x64, .fp8e5m2⟩
  | 93 => ⟨S1x1023x4x64, .fp8e5m2⟩
  | 94 => ⟨S1x1023x4x64, .fp8e5m2⟩
  | 95 => ⟨S1x1023x4x64, .fp8e5m2⟩
  | 96 => ⟨S1x1023x4x64, .fp8e5m2⟩
  | 97 => ⟨S1x1023x4x64, .fp8e5m2⟩
  | 98 => ⟨S8x1023x4x64, .fp8e5m2⟩
  | 99 => ⟨S8x1, .i32⟩
  | 100 => ⟨S1023, .i32⟩
  | 101 => ⟨S1x1023, .i32⟩
  | 102 => ⟨S8x1023, .i32⟩
  | 103 => ⟨S8x1023, .i32⟩
  | 104 => ⟨S8x1023, .i32⟩
  | 105 => ⟨S8x1, .i32⟩
  | 106 => ⟨S8x1023, .i32⟩
  | 107 => ⟨S8x1023, .i1⟩
  | 108 => ⟨S8x1, .i32⟩
  | 109 => ⟨S_, .i32⟩
  | 110 => ⟨S8x1, .i32⟩
  | 111 => ⟨S8x1, .i32⟩
  | 112 => ⟨S8x1023, .i32⟩
  | 113 => ⟨S8x1023, .i1⟩
  | 114 => ⟨S8x1023, .i1⟩
  | 115 => ⟨S8x1x1x1023, .i1⟩
  | 116 => ⟨S8x4x8x1023, .i1⟩
  | 117 => ⟨S32x8x1023, .i1⟩
  | 118 => ⟨S32x8x1023, .i32⟩
  | 119 => ⟨S8x4x1023x64, .fp8e5m2⟩
  | 120 => ⟨S32x1023x64, .fp8e5m2⟩
  | 121 => ⟨S8x4x1023x64, .fp8e5m2⟩
  | 122 => ⟨S32x1023x64, .fp8e5m2⟩
  | 123 => ⟨S32x8x64, .bf16⟩
  | 124 => ⟨S32x1x64, .bf16⟩
  | 125 => ⟨S32x1x64, .bf16⟩
  | 126 => ⟨S8x1x2048, .bf16⟩
  | 127 => ⟨S8x1x4x64, .fp8e5m2⟩
  | _ => ⟨S8x1x2048, .bf16⟩

abbrev hbmTy0_2 (i : Nat) : BufTy := match i % 128 with
  | 0 => ⟨S8x1x4x64, .fp8e5m2⟩
  | _ => ⟨S8x1x2048, .bf16⟩

abbrev hbmTy (i : Nat) : BufTy := match i / 128 with
  | 0 => hbmTy0_0 i
  | 1 => hbmTy0_1 i
  | 2 => hbmTy0_2 i
  | _ => ⟨S8x1x2048, .bf16⟩

abbrev bufTy : (tb : Table) → Fin (tcTables nBuf tb) → BufTy
  | .hbm, ⟨i, _⟩ => hbmTy i
  | .local _ .vmem, ⟨0, _⟩ => ⟨S32x8x64, .bf16⟩
  | .local _ .vmem, ⟨1, _⟩ => ⟨S32x1x64, .bf16⟩
  | .local _ .vmem, ⟨2, _⟩ => ⟨S32x1x64, .bf16⟩
  | .local _ .vmem, ⟨3, _⟩ => ⟨S32x1023x64, .fp8e5m2⟩
  | .local _ .vmem, ⟨4, _⟩ => ⟨S32x1023x64, .fp8e5m2⟩
  | .local _ .vmem, ⟨5, _⟩ => ⟨S32x8x1023, .i32⟩
  | .local _ .vmem, ⟨6, _⟩ => ⟨S8x1x2048, .bf16⟩
  | .local _ .vmem, ⟨7, _⟩ => ⟨S8x1x4x64, .fp8e5m2⟩
  | .local _ .vmem, ⟨8, _⟩ => ⟨S8x1x4x64, .fp8e5m2⟩
  | _, _ => ⟨S8x1x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_c_1 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_2 : Ref sig .tc := ⟨.hbm, 21, rfl⟩
abbrev main_v7 : Ref sig .tc := ⟨.hbm, 22, rfl⟩
abbrev main_c_3 : Ref sig .tc := ⟨.hbm, 23, rfl⟩
abbrev main_v8 : Ref sig .tc := ⟨.hbm, 24, rfl⟩
abbrev main_v9 : Ref sig .tc := ⟨.hbm, 25, rfl⟩
abbrev main_c_4 : Ref sig .tc := ⟨.hbm, 26, rfl⟩
abbrev main_c_5 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c_6 : Ref sig .tc := ⟨.hbm, 33, rfl⟩
abbrev main_v15 : Ref sig .tc := ⟨.hbm, 34, rfl⟩
abbrev main_c_7 : Ref sig .tc := ⟨.hbm, 35, rfl⟩
abbrev main_v16 : Ref sig .tc := ⟨.hbm, 36, rfl⟩
abbrev main_v17 : Ref sig .tc := ⟨.hbm, 37, rfl⟩
abbrev main_c_8 : Ref sig .tc := ⟨.hbm, 38, rfl⟩
abbrev main_c_9 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_10 : Ref sig .tc := ⟨.hbm, 45, rfl⟩
abbrev main_v23 : Ref sig .tc := ⟨.hbm, 46, rfl⟩
abbrev main_c_11 : Ref sig .tc := ⟨.hbm, 47, rfl⟩
abbrev main_v24 : Ref sig .tc := ⟨.hbm, 48, rfl⟩
abbrev main_v25 : Ref sig .tc := ⟨.hbm, 49, rfl⟩
abbrev main_c_12 : Ref sig .tc := ⟨.hbm, 50, rfl⟩
abbrev main_c_13 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_c_14 : Ref sig .tc := ⟨.hbm, 57, rfl⟩
abbrev main_v31 : Ref sig .tc := ⟨.hbm, 58, rfl⟩
abbrev main_c_15 : Ref sig .tc := ⟨.hbm, 59, rfl⟩
abbrev main_v32 : Ref sig .tc := ⟨.hbm, 60, rfl⟩
abbrev main_v33 : Ref sig .tc := ⟨.hbm, 61, rfl⟩
abbrev main_c_16 : Ref sig .tc := ⟨.hbm, 62, rfl⟩
abbrev main_c_17 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_c_18 : Ref sig .tc := ⟨.hbm, 69, rfl⟩
abbrev main_v39 : Ref sig .tc := ⟨.hbm, 70, rfl⟩
abbrev main_c_19 : Ref sig .tc := ⟨.hbm, 71, rfl⟩
abbrev main_v40 : Ref sig .tc := ⟨.hbm, 72, rfl⟩
abbrev main_v41 : Ref sig .tc := ⟨.hbm, 73, rfl⟩
abbrev main_c_20 : Ref sig .tc := ⟨.hbm, 74, rfl⟩
abbrev main_c_21 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_c_22 : Ref sig .tc := ⟨.hbm, 81, rfl⟩
abbrev main_v47 : Ref sig .tc := ⟨.hbm, 82, rfl⟩
abbrev main_c_23 : Ref sig .tc := ⟨.hbm, 83, rfl⟩
abbrev main_v48 : Ref sig .tc := ⟨.hbm, 84, rfl⟩
abbrev main_v49 : Ref sig .tc := ⟨.hbm, 85, rfl⟩
abbrev main_c_24 : Ref sig .tc := ⟨.hbm, 86, rfl⟩
abbrev main_c_25 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_c_26 : Ref sig .tc := ⟨.hbm, 93, rfl⟩
abbrev main_v55 : Ref sig .tc := ⟨.hbm, 94, rfl⟩
abbrev main_c_27 : Ref sig .tc := ⟨.hbm, 95, rfl⟩
abbrev main_v56 : Ref sig .tc := ⟨.hbm, 96, rfl⟩
abbrev main_v57 : Ref sig .tc := ⟨.hbm, 97, rfl⟩
abbrev main_c_28 : Ref sig .tc := ⟨.hbm, 98, rfl⟩
abbrev main_c_29 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_v62 : Ref sig .tc := ⟨.hbm, 104, rfl⟩
abbrev main_c_30 : Ref sig .tc := ⟨.hbm, 105, rfl⟩
abbrev main_v63 : Ref sig .tc := ⟨.hbm, 106, rfl⟩
abbrev main_c_31 : Ref sig .tc := ⟨.hbm, 107, rfl⟩
abbrev main_v64 : Ref sig .tc := ⟨.hbm, 108, rfl⟩
abbrev main_v65 : Ref sig .tc := ⟨.hbm, 109, rfl⟩
abbrev main_c_32 : Ref sig .tc := ⟨.hbm, 110, rfl⟩
abbrev main_c_33 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_c_34 : Ref sig .tc := ⟨.hbm, 126, rfl⟩
abbrev main_v80 : Ref sig .tc := ⟨.hbm, 127, rfl⟩
abbrev main_c_35 : Ref sig .tc := ⟨.hbm, 128, rfl⟩
abbrev main_v81 : Ref sig .tc := ⟨.hbm, 129, rfl⟩
abbrev main_v82 : Ref sig .tc := ⟨.hbm, 130, rfl⟩
abbrev main_c_36 : Ref sig .tc := ⟨.hbm, 131, rfl⟩
abbrev main_c_37 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_c_38 : Ref sig .tc := ⟨.hbm, 138, rfl⟩
abbrev main_v88 : Ref sig .tc := ⟨.hbm, 139, rfl⟩
abbrev main_c_39 : Ref sig .tc := ⟨.hbm, 140, rfl⟩
abbrev main_v89 : Ref sig .tc := ⟨.hbm, 141, rfl⟩
abbrev main_v90 : Ref sig .tc := ⟨.hbm, 142, rfl⟩
abbrev main_c_40 : Ref sig .tc := ⟨.hbm, 143, rfl⟩
abbrev main_c_41 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_c_42 : Ref sig .tc := ⟨.hbm, 150, rfl⟩
abbrev main_v96 : Ref sig .tc := ⟨.hbm, 151, rfl⟩
abbrev main_c_43 : Ref sig .tc := ⟨.hbm, 152, rfl⟩
abbrev main_v97 : Ref sig .tc := ⟨.hbm, 153, rfl⟩
abbrev main_v98 : Ref sig .tc := ⟨.hbm, 154, rfl⟩
abbrev main_c_44 : Ref sig .tc := ⟨.hbm, 155, rfl⟩
abbrev main_c_45 : Ref sig .tc := ⟨.hbm, 156, rfl⟩
abbrev main_v99 : Ref sig .tc := ⟨.hbm, 157, rfl⟩
abbrev main_v100 : Ref sig .tc := ⟨.hbm, 158, rfl⟩
abbrev main_v101 : Ref sig .tc := ⟨.hbm, 159, rfl⟩
abbrev main_v102 : Ref sig .tc := ⟨.hbm, 160, rfl⟩
abbrev main_v103 : Ref sig .tc := ⟨.hbm, 161, rfl⟩
abbrev main_c_46 : Ref sig .tc := ⟨.hbm, 162, rfl⟩
abbrev main_v104 : Ref sig .tc := ⟨.hbm, 163, rfl⟩
abbrev main_c_47 : Ref sig .tc := ⟨.hbm, 164, rfl⟩
abbrev main_v105 : Ref sig .tc := ⟨.hbm, 165, rfl⟩
abbrev main_v106 : Ref sig .tc := ⟨.hbm, 166, rfl⟩
abbrev main_c_48 : Ref sig .tc := ⟨.hbm, 167, rfl⟩
abbrev main_c_49 : Ref sig .tc := ⟨.hbm, 168, rfl⟩
abbrev main_v107 : Ref sig .tc := ⟨.hbm, 169, rfl⟩
abbrev main_v108 : Ref sig .tc := ⟨.hbm, 170, rfl⟩
abbrev main_v109 : Ref sig .tc := ⟨.hbm, 171, rfl⟩
abbrev main_v110 : Ref sig .tc := ⟨.hbm, 172, rfl⟩
abbrev main_v111 : Ref sig .tc := ⟨.hbm, 173, rfl⟩
abbrev main_c_50 : Ref sig .tc := ⟨.hbm, 174, rfl⟩
abbrev main_v112 : Ref sig .tc := ⟨.hbm, 175, rfl⟩
abbrev main_c_51 : Ref sig .tc := ⟨.hbm, 176, rfl⟩
abbrev main_v113 : Ref sig .tc := ⟨.hbm, 177, rfl⟩
abbrev main_v114 : Ref sig .tc := ⟨.hbm, 178, rfl⟩
abbrev main_c_52 : Ref sig .tc := ⟨.hbm, 179, rfl⟩
abbrev main_c_53 : Ref sig .tc := ⟨.hbm, 180, rfl⟩
abbrev main_v115 : Ref sig .tc := ⟨.hbm, 181, rfl⟩
abbrev main_v116 : Ref sig .tc := ⟨.hbm, 182, rfl⟩
abbrev main_v117 : Ref sig .tc := ⟨.hbm, 183, rfl⟩
abbrev main_v118 : Ref sig .tc := ⟨.hbm, 184, rfl⟩
abbrev main_v119 : Ref sig .tc := ⟨.hbm, 185, rfl⟩
abbrev main_c_54 : Ref sig .tc := ⟨.hbm, 186, rfl⟩
abbrev main_v120 : Ref sig .tc := ⟨.hbm, 187, rfl⟩
abbrev main_c_55 : Ref sig .tc := ⟨.hbm, 188, rfl⟩
abbrev main_v121 : Ref sig .tc := ⟨.hbm, 189, rfl⟩
abbrev main_v122 : Ref sig .tc := ⟨.hbm, 190, rfl⟩
abbrev main_c_56 : Ref sig .tc := ⟨.hbm, 191, rfl⟩
abbrev main_c_57 : Ref sig .tc := ⟨.hbm, 192, rfl⟩
abbrev main_v123 : Ref sig .tc := ⟨.hbm, 193, rfl⟩
abbrev main_v124 : Ref sig .tc := ⟨.hbm, 194, rfl⟩
abbrev main_v125 : Ref sig .tc := ⟨.hbm, 195, rfl⟩
abbrev main_v126 : Ref sig .tc := ⟨.hbm, 196, rfl⟩
abbrev main_v127 : Ref sig .tc := ⟨.hbm, 197, rfl⟩
abbrev main_c_58 : Ref sig .tc := ⟨.hbm, 198, rfl⟩
abbrev main_v128 : Ref sig .tc := ⟨.hbm, 199, rfl⟩
abbrev main_c_59 : Ref sig .tc := ⟨.hbm, 200, rfl⟩
abbrev main_v129 : Ref sig .tc := ⟨.hbm, 201, rfl⟩
abbrev main_v130 : Ref sig .tc := ⟨.hbm, 202, rfl⟩
abbrev main_c_60 : Ref sig .tc := ⟨.hbm, 203, rfl⟩
abbrev main_c_61 : Ref sig .tc := ⟨.hbm, 204, rfl⟩
abbrev main_v131 : Ref sig .tc := ⟨.hbm, 205, rfl⟩
abbrev main_v132 : Ref sig .tc := ⟨.hbm, 206, rfl⟩
abbrev main_v133 : Ref sig .tc := ⟨.hbm, 207, rfl⟩
abbrev main_v134 : Ref sig .tc := ⟨.hbm, 208, rfl⟩
abbrev main_v135 : Ref sig .tc := ⟨.hbm, 209, rfl⟩
abbrev main_c_62 : Ref sig .tc := ⟨.hbm, 210, rfl⟩
abbrev main_v136 : Ref sig .tc := ⟨.hbm, 211, rfl⟩
abbrev main_c_63 : Ref sig .tc := ⟨.hbm, 212, rfl⟩
abbrev main_v137 : Ref sig .tc := ⟨.hbm, 213, rfl⟩
abbrev main_v138 : Ref sig .tc := ⟨.hbm, 214, rfl⟩
abbrev main_c_64 : Ref sig .tc := ⟨.hbm, 215, rfl⟩
abbrev main_c_65 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_v149 : Ref sig .tc := ⟨.hbm, 227, rfl⟩
abbrev main_v150 : Ref sig .tc := ⟨.hbm, 228, rfl⟩
abbrev main_v151 : Ref sig .tc := ⟨.hbm, 229, rfl⟩
abbrev main_v152 : Ref sig .tc := ⟨.hbm, 230, rfl⟩
abbrev main_v153 : Ref sig .tc := ⟨.hbm, 231, rfl⟩
abbrev main_v154 : Ref sig .tc := ⟨.hbm, 232, rfl⟩
abbrev main_v155 : Ref sig .tc := ⟨.hbm, 233, rfl⟩
abbrev main_v156 : Ref sig .tc := ⟨.hbm, 234, rfl⟩
abbrev main_v157 : Ref sig .tc := ⟨.hbm, 235, rfl⟩
abbrev main_v158 : Ref sig .tc := ⟨.hbm, 236, rfl⟩
abbrev main_c_66 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_v167 : Ref sig .tc := ⟨.hbm, 246, rfl⟩
abbrev main_v168 : Ref sig .tc := ⟨.hbm, 247, rfl⟩
abbrev main_v169 : Ref sig .tc := ⟨.hbm, 248, rfl⟩
abbrev main_v170 : Ref sig .tc := ⟨.hbm, 249, rfl⟩
abbrev main_v171 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_v175_0 : Ref sig .tc := ⟨.hbm, 254, rfl⟩
abbrev main_v175_1 : Ref sig .tc := ⟨.hbm, 255, rfl⟩
abbrev main_v175_2 : Ref sig .tc := ⟨.hbm, 256, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S32x8x64 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x1x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x1x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x1023x64 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x1023x64 .fp8e5m2 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x8x1023 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1x4x64 .fp8e5m2 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x1x4x64 .fp8e5m2 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Word.lean ====
/- The first position of a sequence's span of the cache, as a word: the arithmetic behind every offset of the kernel. -/
module

public import Idealize.ShloMosaic.Lib.Affine

@[expose] public section

namespace Cert.Word

open Idealize.ShloMosaic

/-- The kernel's span start computed from a cache length: `min((max(n - 1023, 0) >>> 7) * 128, 64384)`. -/
def spanWord (v : BitVec 32) : BitVec 32 :=
  Scalar.minsi (Scalar.muli (Scalar.shrui (Scalar.maxsi (Scalar.subi v 1023#32) 0#32) 7#32) 128#32) 64384#32

/-- The first cached position that a window of 1023 positions ending at `n` may hold, not below zero. -/
def first (v : BitVec 32) : Nat := (v - 1023#32).toInt.toNat

/-- The span starts at the multiple of 128 at or below `first`, capped so that 1152 positions remain. -/
theorem spanWord_toNat (v : BitVec 32) : (spanWord v).toNat = min (first v / 128 * 128) 64384 := by
  unfold spanWord first
  have h1 : (Scalar.maxsi (Scalar.subi v 1023#32) 0#32).toNat = (v - 1023#32).toInt.toNat ∧
      (Scalar.maxsi (Scalar.subi v 1023#32) 0#32).toNat < 2 ^ 31 := by
    have e : Scalar.maxsi (Scalar.subi v 1023#32) 0#32 = if (0#32).slt (v - 1023#32) then v - 1023#32 else 0#32 := rfl
    rw [e]
    generalize v - 1023#32 = w
    split
    · next h =>
      rw [BitVec.slt_iff_toInt_lt] at h
      have := BitVec.toInt_eq_toNat_cond w
      have hw := w.isLt
      simp only [BitVec.toInt_zero] at h
      split at this <;> omega
    · next h =>
      rw [BitVec.slt_iff_toInt_lt] at h
      simp only [BitVec.toInt_zero] at h
      simp only [BitVec.toNat_ofNat]
      omega
  revert h1
  generalize Scalar.maxsi (Scalar.subi v 1023#32) 0#32 = u
  generalize (v - 1023#32).toInt.toNat = f
  rintro ⟨rfl, hlt⟩
  have h2 : (Scalar.muli (Scalar.shrui u 7#32) 128#32).toNat = u.toNat / 128 * 128 := by
    have e : Scalar.muli (Scalar.shrui u 7#32) 128#32 = (u >>> (7#32 : BitVec 32)) * 128#32 := rfl
    rw [e, BitVec.toNat_mul, BitVec.ushiftRight_eq', BitVec.toNat_ushiftRight]
    simp only [BitVec.toNat_ofNat, Nat.shiftRight_eq_div_pow]
    show u.toNat / 2 ^ 7 * 128 % 2 ^ 32 = _
    omega
  have e : Scalar.minsi (Scalar.muli (Scalar.shrui u 7#32) 128#32) 64384#32
      = if (Scalar.muli (Scalar.shrui u 7#32) 128#32).slt 64384#32 then Scalar.muli (Scalar.shrui u 7#32) 128#32 else 64384#32 := rfl
  rw [e]
  revert h2
  generalize Scalar.muli (Scalar.shrui u 7#32) 128#32 = w
  intro h2
  have hc := BitVec.toInt_eq_toNat_cond w
  have h64 : (64384#32 : BitVec 32).toInt = 64384 := by decide
  split
  · next h =>
    rw [BitVec.slt_iff_toInt_lt, h64] at h
    split at hc <;> omega
  · next h =>
    rw [BitVec.slt_iff_toInt_lt, h64] at h
    simp only [BitVec.toNat_ofNat]
    split at hc <;> omega

theorem spanWord_le (v : BitVec 32) : (spanWord v).toNat ≤ 64384 := by rw [spanWord_toNat]; omega
theorem spanWord_dvd (v : BitVec 32) : 128 ∣ (spanWord v).toNat := by rw [spanWord_toNat]; omega

end Cert.Word

end
-- ==== Proof.Chk_Kernel.lean ====
/- The side conditions the body assumes of the cache lengths hold of every word: the span starts at a multiple of 128
   and ends inside the cache. -/
module

public import proofs.«01_k».proof.Kernel
public import proofs.«01_k».proof.Proof.Gen.Kernel
public import proofs.«01_k».proof.Proof.Word

@[expose] public section

namespace Cert.Kernel.Chk

open Idealize.ShloMosaic Cert.Kernel Cert.Word

/-- The span of batch `b` fits the cache, for every cache length. -/
theorem fits (b : Nat) (hb : b < 8) (v : BitVec 32) (a : Fin 3) :
    (![b, 0, (spanWord v).toNat] : Fin 3 → Nat) a + S1x256x1152.size a ≤ S8x256x65536.size a := by
  have := spanWord_le v
  fin_cases a
  · show b + 1 ≤ 8; omega
  · show 0 + 256 ≤ 256; omega
  · show (spanWord v).toNat + 1152 ≤ 65536; omega

/-- The side condition of batch 0. -/
theorem chk1 (v : BitVec 32) : k0_chk1 v :=
  ⟨spanWord_dvd v, fits 0 (by omega) v, fun _ => .inr ⟨by decide, rfl, rfl, rfl⟩⟩
/-- The side condition of batch 1. -/
theorem chk2 (v : BitVec 32) : k0_chk2 v :=
  ⟨spanWord_dvd v, fits 1 (by omega) v, fun _ => .inr ⟨by decide, rfl, rfl, rfl⟩⟩
/-- The side condition of batch 2. -/
theorem chk3 (v : BitVec 32) : k0_chk3 v :=
  ⟨spanWord_dvd v, fits 2 (by omega) v, fun _ => .inr ⟨by decide, rfl, rfl, rfl⟩⟩
/-- The side condition of batch 3. -/
theorem chk4 (v : BitVec 32) : k0_chk4 v :=
  ⟨spanWord_dvd v, fits 3 (by omega) v, fun _ => .inr ⟨by decide, rfl, rfl, rfl⟩⟩
/-- The side condition of batch 4. -/
theorem chk5 (v : BitVec 32) : k0_chk5 v :=
  ⟨spanWord_dvd v, fits 4 (by omega) v, fun _ => .inr ⟨by decide, rfl, rfl, rfl⟩⟩
/-- The side condition of batch 5. -/
theorem chk6 (v : BitVec 32) : k0_chk6 v :=
  ⟨spanWord_dvd v, fits 5 (by omega) v, fun _ => .inr ⟨by decide, rfl, rfl, rfl⟩⟩
/-- The side condition of batch 6. -/
theorem chk7 (v : BitVec 32) : k0_chk7 v :=
  ⟨spanWord_dvd v, fits 6 (by omega) v, fun _ => .inr ⟨by decide, rfl, rfl, rfl⟩⟩
/-- The side condition of batch 7. -/
theorem chk8 (v : BitVec 32) : k0_chk8 v :=
  ⟨spanWord_dvd v, fits 7 (by omega) v, fun _ => .inr ⟨by decide, rfl, rfl, rfl⟩⟩

end Cert.Kernel.Chk

end
-- ==== Proof.PRuns.lean ====
/- What the run of the printed kernel is stated over: @main around its region, the staged blocks, the scratch operands, its transfers' counters and the words it assumes bounded. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffixR
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v10, main_v8, main_v9}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (Pipeline.UD sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (Pipeline.UD sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (Pipeline.UD sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).2 main_arg2 (Finset.mem_sdiff.mpr ⟨Pipeline.mem_restRefs_of main_arg2 (by decide) (by decide), by decide⟩)).trans (V_main_arg2 m c),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      (Pipeline.RDat.FramePostR.arr_in h c 0 rfl).trans ((hA c 0).trans (V_main_arg5 m c))⟩) h

/-! ## The kernel body on any staging memrefs: a subtype the run finds -/

/-- Each window's current staging memref at point `t`, spelled as the pipeline passes it (`bodyAt0`), and its wholeness. -/
abbrev ms0_0 (t : Fin cfg0.N) : Memref sig .tc .smem S8 .i32 := win0_0.stage (cfg0.slots t 0)
abbrev hs0_0 (t : Fin cfg0.N) : (ms0_0 t).IsWhole := hstage0_0 0
abbrev ms0_1 (t : Fin cfg0.N) : Memref sig .tc .vmem S8x2048 .bf16 := win0_1.stage (cfg0.slots t 1)
abbrev hs0_1 (t : Fin cfg0.N) : (ms0_1 t).IsWhole := hstage0_1 0
abbrev ms0_2 (t : Fin cfg0.N) : Memref sig .tc .vmem S32x64 .bf16 := win0_2.stage (cfg0.slots t 2)
abbrev hs0_2 (t : Fin cfg0.N) : (ms0_2 t).IsWhole := hstage0_2 0
abbrev ms0_3 (t : Fin cfg0.N) : Memref sig .tc .vmem S32x64 .bf16 := win0_3.stage (cfg0.slots t 3)
abbrev hs0_3 (t : Fin cfg0.N) : (ms0_3 t).IsWhole := hstage0_3 0
abbrev ms0_4 (t : Fin cfg0.N) : Memref sig .tc .vmem S8x2048 .bf16 := win0_4.stage (cfg0.slots t 4)
abbrev hs0_4 (t : Fin cfg0.N) : (ms0_4 t).IsWhole := hstage0_4 0
abbrev ms0_5 (t : Fin cfg0.N) : Memref sig .tc .vmem S32x64 .fp8e5m2 := win0_5.stage (cfg0.slots t 5)
abbrev hs0_5 (t : Fin cfg0.N) : (ms0_5 t).IsWhole := hstage0_5 0
abbrev ms0_6 (t : Fin cfg0.N) : Memref sig .tc .vmem S32x64 .fp8e5m2 := win0_6.stage (cfg0.slots t 6)
abbrev hs0_6 (t : Fin cfg0.N) : (ms0_6 t).IsWhole := hstage0_6 0

/-! ## The side conditions the body assumes, as the frame's hypothesis -/

/-- The side conditions the body ASSUMES of words it loads from its input SMEM windows, or inside a counted
    loop of the loop's carried counter at every trip (the printed `TpuEff.assume
    (kK_chkN …)`: facts computed from the words that no program decides for every word), at EVERY point, over the
    words of the argument blocks there — spelled as each case's run reads them (`View.readAt` through the window's
    memref at its held contents), each under the conditions of the branches it sits inside. The frame holds
    under it; Proof.lean proves it (`hyps`), from the side conditions that `Chk_Kernel` shows of
    every word. -/
def Hyps (m : (ℓ : Loc nD τ sig) → Buf (Elt F) ℓ) : Prop :=
  ∀ (c : Dev nD) (t : Fin cfg0.N),
    k0_chk1 ((ms0_0 t).view.readAt (Elt F) (Rect.unit (s := S8) ![0] S1.size inb_S8_S1_0).toLoadRect ((hs0_0 t).unread (iblk m c 0 t)) (Shape.Idx.first (numel1_S1.symm ▸ Nat.one_pos)))
    ∧ k0_chk2 ((ms0_0 t).view.readAt (Elt F) (Rect.unit (s := S8) ![1] S1.size inb_S8_S1_1).toLoadRect ((hs0_0 t).unread (iblk m c 0 t)) (Shape.Idx.first (numel1_S1.symm ▸ Nat.one_pos)))
    ∧ k0_chk3 ((ms0_0 t).view.readAt (Elt F) (Rect.unit (s := S8) ![2] S1.size inb_S8_S1_2).toLoadRect ((hs0_0 t).unread (iblk m c 0 t)) (Shape.Idx.first (numel1_S1.symm ▸ Nat.one_pos)))
    ∧ k0_chk4 ((ms0_0 t).view.readAt (Elt F) (Rect.unit (s := S8) ![3] S1.size inb_S8_S1_3).toLoadRect ((hs0_0 t).unread (iblk m c 0 t)) (Shape.Idx.first (numel1_S1.symm ▸ Nat.one_pos)))
    ∧ k0_chk5 ((ms0_0 t).view.readAt (Elt F) (Rect.unit (s := S8) ![4] S1.size inb_S8_S1_4).toLoadRect ((hs0_0 t).unread (iblk m c 0 t)) (Shape.Idx.first (numel1_S1.symm ▸ Nat.one_pos)))
    ∧ k0_chk6 ((ms0_0 t).view.readAt (Elt F) (Rect.unit (s := S8) ![5] S1.size inb_S8_S1_5).toLoadRect ((hs0_0 t).unread (iblk m c 0 t)) (Shape.Idx.first (numel1_S1.symm ▸ Nat.one_pos)))
    ∧ k0_chk7 ((ms0_0 t).view.readAt (Elt F) (Rect.unit (s := S8) ![6] S1.size inb_S8_S1_6).toLoadRect ((hs0_0 t).unread (iblk m c 0 t)) (Shape.Idx.first (numel1_S1.symm ▸ Nat.one_pos)))
    ∧ k0_chk8 ((ms0_0 t).view.readAt (Elt F) (Rect.unit (s := S8) ![7] S1.size inb_S8_S1_7).toLoadRect ((hs0_0 t).unread (iblk m c 0 t)) (Shape.Idx.first (numel1_S1.symm ▸ Nat.one_pos)))

/-! Each conjunct of `Gen.Hyps` by name: its statement (`Hyps.pN`), a lemma citing it (`Hyps.cN`: what a run, or a
    statement over it, takes for that side condition), and `Gen.Hyps` built from one proof per conjunct (`Hyps.of`). -/

/-- Conjunct 0 of `Gen.Hyps` at point `t`: the side condition `k0_chk1` the body assumes as `k0_hw1`. -/
abbrev Hyps.p0 (m : (ℓ : Loc nD τ sig) → Buf (Elt F) ℓ) (c : Dev nD) (t : Fin cfg0.N) : Prop :=
  k0_chk1 ((ms0_0 t).view.readAt (Elt F) (Rect.unit (s := S8) ![0] S1.size inb_S8_S1_0).toLoadRect ((hs0_0 t).unread (iblk m c 0 t)) (Shape.Idx.first (numel1_S1.symm ▸ Nat.one_pos)))
variable {m} in
theorem Hyps.c0 (hH : Hyps m) (c : Dev nD) (t : Fin cfg0.N) :
    k0_chk1 ((ms0_0 t).view.readAt (Elt F) (Rect.unit (s := S8) ![0] S1.size inb_S8_S1_0).toLoadRect ((hs0_0 t).unread (iblk m c 0 t)) (Shape.Idx.first (numel1_S1.symm ▸ Nat.one_pos))) := (hH c t).1
/-- Conjunct 1 of `Gen.Hyps` at point `t`: the side condition `k0_chk2` the body assumes as `k0_hw2`. -/
abbrev Hyps.p1 (m : (ℓ : Loc nD τ sig) → Buf (Elt F) ℓ) (c : Dev nD) (t : Fin cfg0.N) : Prop :=
  k0_chk2 ((ms0_0 t).view.readAt (Elt F) (Rect.unit (s := S8) ![1] S1.size inb_S8_S1_1).toLoadRect ((hs0_0 t).unread (iblk m c 0 t)) (Shape.Idx.first (numel1_S1.symm ▸ Nat.one_pos)))
variable {m} in
theorem Hyps.c1 (hH : Hyps m) (c : Dev nD) (t : Fin cfg0.N) :
    k0_chk2 ((ms0_0 t).view.readAt (Elt F) (Rect.unit (s := S8) ![1] S1.size inb_S8_S1_1).toLoadRect ((hs0_0 t).unread (iblk m c 0 t)) (Shape.Idx.first (numel1_S1.symm ▸ Nat.one_pos))) := (hH c t).2.1
/-- Conjunct 2 of `Gen.Hyps` at point `t`: the side condition `k0_chk3` the body assumes as `k0_hw3`. -/
abbrev Hyps.p2 (m : (ℓ : Loc nD τ sig) → Buf (Elt F) ℓ) (c : Dev nD) (t : Fin cfg0.N) : Prop :=
  k0_chk3 ((ms0_0 t).view.readAt (Elt F) (Rect.unit (s := S8) ![2] S1.size inb_S8_S1_2).toLoadRect ((hs0_0 t).unread (iblk m c 0 t)) (Shape.Idx.first (numel1_S1.symm ▸ Nat.one_pos)))
variable {m} in
theorem Hyps.c2 (hH : Hyps m) (c : Dev nD) (t : Fin cfg0.N) :
    k0_chk3 ((ms0_0 t).view.readAt (Elt F) (Rect.unit (s := S8) ![2] S1.size inb_S8_S1_2).toLoadRect ((hs0_0 t).unread (iblk m c 0 t)) (Shape.Idx.first (numel1_S1.symm ▸ Nat.one_pos))) := (hH c t).2.2.1
/-- Conjunct 3 of `Gen.Hyps` at point `t`: the side condition `k0_chk4` the body assumes as `k0_hw4`. -/
abbrev Hyps.p3 (m : (ℓ : Loc nD τ sig) → Buf (Elt F) ℓ) (c : Dev nD) (t : Fin cfg0.N) : Prop :=
  k0_chk4 ((ms0_0 t).view.readAt (Elt F) (Rect.unit (s := S8) ![3] S1.size inb_S8_S1_3).toLoadRect ((hs0_0 t).unread (iblk m c 0 t)) (Shape.Idx.first (numel1_S1.symm ▸ Nat.one_pos)))
variable {m} in
theorem Hyps.c3 (hH : Hyps m) (c : Dev nD) (t : Fin cfg0.N) :
    k0_chk4 ((ms0_0 t).view.readAt (Elt F) (Rect.unit (s := S8) ![3] S1.size inb_S8_S1_3).toLoadRect ((hs0_0 t).unread (iblk m c 0 t)) (Shape.Idx.first (numel1_S1.symm ▸ Nat.one_pos))) := (hH c t).2.2.2.1
/-- Conjunct 4 of `Gen.Hyps` at point `t`: the side condition `k0_chk5` the body assumes as `k0_hw5`. -/
abbrev Hyps.p4 (m : (ℓ : Loc nD τ sig) → Buf (Elt F) ℓ) (c : Dev nD) (t : Fin cfg0.N) : Prop :=
  k0_chk5 ((ms0_0 t).view.readAt (Elt F) (Rect.unit (s := S8) ![4] S1.size inb_S8_S1_4).toLoadRect ((hs0_0 t).unread (iblk m c 0 t)) (Shape.Idx.first (numel1_S1.symm ▸ Nat.one_pos)))
variable {m} in
theorem Hyps.c4 (hH : Hyps m) (c : Dev nD) (t : Fin cfg0.N) :
    k0_chk5 ((ms0_0 t).view.readAt (Elt F) (Rect.unit (s := S8) ![4] S1.size inb_S8_S1_4).toLoadRect ((hs0_0 t).unread (iblk m c 0 t)) (Shape.Idx.first (numel1_S1.symm ▸ Nat.one_pos))) := (hH c t).2.2.2.2.1
/-- Conjunct 5 of `Gen.Hyps` at point `t`: the side condition `k0_chk6` the body assumes as `k0_hw6`. -/
abbrev Hyps.p5 (m : (ℓ : Loc nD τ sig) → Buf (Elt F) ℓ) (c : Dev nD) (t : Fin cfg0.N) : Prop :=
  k0_chk6 ((ms0_0 t).view.readAt (Elt F) (Rect.unit (s := S8) ![5] S1.size inb_S8_S1_5).toLoadRect ((hs0_0 t).unread (iblk m c 0 t)) (Shape.Idx.first (numel1_S1.symm ▸ Nat.one_pos)))
variable {m} in
theorem Hyps.c5 (hH : Hyps m) (c : Dev nD) (t : Fin cfg0.N) :
    k0_chk6 ((ms0_0 t).view.readAt (Elt F) (Rect.unit (s := S8) ![5] S1.size inb_S8_S1_5).toLoadRect ((hs0_0 t).unread (iblk m c 0 t)) (Shape.Idx.first (numel1_S1.symm ▸ Nat.one_pos))) := (hH c t).2.2.2.2.2.1
/-- Conjunct 6 of `Gen.Hyps` at point `t`: the side condition `k0_chk7` the body assumes as `k0_hw7`. -/
abbrev Hyps.p6 (m : (ℓ : Loc nD τ sig) → Buf (Elt F) ℓ) (c : Dev nD) (t : Fin cfg0.N) : Prop :=
  k0_chk7 ((ms0_0 t).view.readAt (Elt F) (Rect.unit (s := S8) ![6] S1.size inb_S8_S1_6).toLoadRect ((hs0_0 t).unread (iblk m c 0 t)) (Shape.Idx.first (numel1_S1.symm ▸ Nat.one_pos)))
variable {m} in
theorem Hyps.c6 (hH : Hyps m) (c : Dev nD) (t : Fin cfg0.N) :
    k0_chk7 ((ms0_0 t).view.readAt (Elt F) (Rect.unit (s := S8) ![6] S1.size inb_S8_S1_6).toLoadRect ((hs0_0 t).unread (iblk m c 0 t)) (Shape.Idx.first (numel1_S1.symm ▸ Nat.one_pos))) := (hH c t).2.2.2.2.2.2.1
/-- Conjunct 7 of `Gen.Hyps` at point `t`: the side condition `k0_chk8` the body assumes as `k0_hw8`. -/
abbrev Hyps.p7 (m : (ℓ : Loc nD τ sig) → Buf (Elt F) ℓ) (c : Dev nD) (t : Fin cfg0.N) : Prop :=
  k0_chk8 ((ms0_0 t).view.readAt (Elt F) (Rect.unit (s := S8) ![7] S1.size inb_S8_S1_7).toLoadRect ((hs0_0 t).unread (iblk m c 0 t)) (Shape.Idx.first (numel1_S1.symm ▸ Nat.one_pos)))
variable {m} in
theorem Hyps.c7 (hH : Hyps m) (c : Dev nD) (t : Fin cfg0.N) :
    k0_chk8 ((ms0_0 t).view.readAt (Elt F) (Rect.unit (s := S8) ![7] S1.size inb_S8_S1_7).toLoadRect ((hs0_0 t).unread (iblk m c 0 t)) (Shape.Idx.first (numel1_S1.symm ▸ Nat.one_pos))) := (hH c t).2.2.2.2.2.2.2
variable {m} in
theorem Hyps.of
    (p0 : ∀ (c : Dev nD) (t : Fin cfg0.N), Hyps.p0 m c t)
    (p1 : ∀ (c : Dev nD) (t : Fin cfg0.N), Hyps.p1 m c t)
    (p2 : ∀ (c : Dev nD) (t : Fin cfg0.N), Hyps.p2 m c t)
    (p3 : ∀ (c : Dev nD) (t : Fin cfg0.N), Hyps.p3 m c t)
    (p4 : ∀ (c : Dev nD) (t : Fin cfg0.N), Hyps.p4 m c t)
    (p5 : ∀ (c : Dev nD) (t : Fin cfg0.N), Hyps.p5 m c t)
    (p6 : ∀ (c : Dev nD) (t : Fin cfg0.N), Hyps.p6 m c t)
    (p7 : ∀ (c : Dev nD) (t : Fin cfg0.N), Hyps.p7 m c t) :
    Hyps m := fun c t =>
  And.intro (p0 c t) (And.intro (p1 c t) (And.intro (p2 c t) (And.intro (p3 c t) (And.intro (p4 c t) (And.intro (p5 c t) (And.intro (p6 c t) (p7 c t)))))))

/-- The scratch operands: whole scoped buffers of the kernel's own, passed beside the windows. -/
abbrev scM0_0 : Memref sig .tc .vmem S8x256x1152 .fp8e5m2 := Memref.whole cc0_scratch0
abbrev scM0_1 : Memref sig .tc .vmem S8x256x1152 .fp8e5m2 := Memref.whole cc0_scratch1
abbrev scM0_2 : Memref sig .tc .vmem S128x128 .f32 := Memref.whole cc0_scratch2
abbrev scM0_3 : Memref sig .tc .vmem S128x128 .f32 := Memref.whole cc0_scratch3
abbrev scM0_4 : Memref sig .tc .vmem S128x256 .bf16 := Memref.whole cc0_scratch4
abbrev scM0_5 : Memref sig .tc .vmem S128x256 .bf16 := Memref.whole cc0_scratch5
/-- The operands left in HBM that the body copies into scratch itself, whole. -/
abbrev hbM0_0 : Memref sig .tc .hbm S8x256x65536 .fp8e5m2 := Memref.whole main_v4
abbrev hbM0_1 : Memref sig .tc .hbm S8x256x65536 .fp8e5m2 := Memref.whole main_v6
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 16 → SemLoc sig := fun j => (![SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22] : Fin 16 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0) := by
  rw [Pipeline.ownSems0_eq_of_list c osem0 [0, 1, 2, 3, 4, 5, 6, 7, 8, 9, 10, 11, 12, 13, 14, 15] (by decide) (by decide)]; rfl
/-- The HBM operands the body moves, as references: unscoped, no window's array (`Pipeline.restRefs`). -/
def H0 : Finset (Ref sig .tc) := {main_v4, main_v6}
theorem H0_sub : H0 ⊆ Pipeline.restRefs sig spec0 := by decide
/-- The lines after the region touch none of the operands the body moves: each operation's buffers are unscoped
    TensorCore references, none of them in `H0` (`Pipeline.sub_tailRefsBut`). -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl | rfl | rfl
    all_goals intro b hb; simp only [H0, Finset.mem_insert, Finset.mem_singleton] at hb
    all_goals rcases hb with rfl | rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v4) ∗ hbPt0 c hbM0_1 (V m c main_v6)) := by
  rw [BI.bigSep_eq_bigSepL_of_eq [main_v4, main_v6] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r) ∗ iprop(semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0) ∗ iprop(hbPt0 c hbM0_0 (V m c main_v4) ∗ hbPt0 c hbM0_1 (V m c main_v6))) := by
  rw [Pipeline.ΦD_eq, scopedRest0_eq, ownSems00_eq, hbmPts0_eq]; simp only [scM0_0, scM0_1, scM0_2, scM0_3, scM0_4, scM0_5, owns_whole]; try rfl

end Cert.Kernel.Run

end
-- ==== Proof.PRun.lean ====
/- The run of the printed kernel's body: it terminates, hands back what it was given, and says nothing of its results' contents. -/
module

public import proofs.«01_k».proof.Proof.PRuns

@[expose] public section

-- membership in a rectangle of production extents (`View.cover_of_tiled`): the elaborator's structural look
-- recurses once per coordinate of the long axes
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 2616000 in set_option sl_exec.dmaWindow true in set_option sl_exec.dmaWindowSet true in set_option sl_exec.stridedRows true in
/-- The body's triple: on whole staging memrefs — the inputs' at their contents,
    the FORGOTTEN outputs' (4, 5, 6) at anything, handed back at some contents nothing names —
    the body runs to the continuation holding the inputs' as they were, the scratch at some contents: the printed functions are their skeletons (`Gen.*_eq_skeleton`),
    which `sl_exec` runs (Lib/Exec.lean). -/
theorem kernelRun0_A (c : Dev nD) (arg0 : Memref sig .tc .smem S8 .i32) (harg0 : arg0.IsWhole) (arg1 : Memref sig .tc .vmem S8x2048 .bf16) (harg1 : arg1.IsWhole) (arg2 : Memref sig .tc .vmem S32x64 .bf16) (harg2 : arg2.IsWhole) (arg3 : Memref sig .tc .vmem S32x64 .bf16) (harg3 : arg3.IsWhole) (arg6 : Memref sig .tc .vmem S8x2048 .bf16) (harg6 : arg6.IsWhole) (arg7 : Memref sig .tc .vmem S32x64 .fp8e5m2) (harg7 : arg7.IsWhole) (arg8 : Memref sig .tc .vmem S32x64 .fp8e5m2) (harg8 : arg8.IsWhole) (arg9 : Memref sig .tc .vmem S8x256x1152 .fp8e5m2) (harg9 : arg9.IsWhole) (arg10 : Memref sig .tc .vmem S8x256x1152 .fp8e5m2) (harg10 : arg10.IsWhole) (arg11 : Memref sig .tc .vmem S128x128 .f32) (harg11 : arg11.IsWhole) (arg12 : Memref sig .tc .vmem S128x128 .f32) (harg12 : arg12.IsWhole) (arg13 : Memref sig .tc .vmem S128x256 .bf16) (harg13 : arg13.IsWhole) (arg14 : Memref sig .tc .vmem S128x256 .bf16) (harg14 : arg14.IsWhole)
    (x0 : Vec F S8 .i32) (x1 : Vec F S8x2048 .bf16) (x2 : Vec F S32x64 .bf16) (x3 : Vec F S32x64 .bf16) (fh0 : HbBuf0 (F := F) c hbM0_0) (fh1 : HbBuf0 (F := F) c hbM0_1) (k0_hw1 : k0_chk1 (arg0.view.readAt (Elt F) (Rect.unit (s := S8) ![0] S1.size inb_S8_S1_0).toLoadRect (harg0.unread x0) (Shape.Idx.first (numel1_S1.symm ▸ Nat.one_pos)))) (k0_hw2 : k0_chk2 (arg0.view.readAt (Elt F) (Rect.unit (s := S8) ![1] S1.size inb_S8_S1_1).toLoadRect (harg0.unread x0) (Shape.Idx.first (numel1_S1.symm ▸ Nat.one_pos)))) (k0_hw3 : k0_chk3 (arg0.view.readAt (Elt F) (Rect.unit (s := S8) ![2] S1.size inb_S8_S1_2).toLoadRect (harg0.unread x0) (Shape.Idx.first (numel1_S1.symm ▸ Nat.one_pos)))) (k0_hw4 : k0_chk4 (arg0.view.readAt (Elt F) (Rect.unit (s := S8) ![3] S1.size inb_S8_S1_3).toLoadRect (harg0.unread x0) (Shape.Idx.first (numel1_S1.symm ▸ Nat.one_pos)))) (k0_hw5 : k0_chk5 (arg0.view.readAt (Elt F) (Rect.unit (s := S8) ![4] S1.size inb_S8_S1_4).toLoadRect (harg0.unread x0) (Shape.Idx.first (numel1_S1.symm ▸ Nat.one_pos)))) (k0_hw6 : k0_chk6 (arg0.view.readAt (Elt F) (Rect.unit (s := S8) ![5] S1.size inb_S8_S1_5).toLoadRect (harg0.unread x0) (Shape.Idx.first (numel1_S1.symm ▸ Nat.one_pos)))) (k0_hw7 : k0_chk7 (arg0.view.readAt (Elt F) (Rect.unit (s := S8) ![6] S1.size inb_S8_S1_6).toLoadRect (harg0.unread x0) (Shape.Idx.first (numel1_S1.symm ▸ Nat.one_pos)))) (k0_hw8 : k0_chk8 (arg0.view.readAt (Elt F) (Rect.unit (s := S8) ![7] S1.size inb_S8_S1_7).toLoadRect (harg0.unread x0) (Shape.Idx.first (numel1_S1.symm ▸ Nat.one_pos)))) :
      ∀ (W : Waits sig Unit) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ hbPt0 c hbM0_0 fh0 ∗ hbPt0 c hbM0_1 fh1 ∗ owes (c : Thread nD τ) 0 W
            ∗ (iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_window_attn arg0 harg0 arg1 harg1 arg2 harg2 arg3 harg3 (Memref.whole main_v4) (Memref.isWhole_whole _) (Memref.whole main_v6) (Memref.isWhole_whole _) arg6 harg6 arg7 harg7 arg8 harg8 arg9 harg9 arg10 harg10 arg11 harg11 arg12 harg12 arg13 harg13 arg14 harg14 cc0_scratch6 cc0_scratch7) K := by
    intro W K
    simp only [cc0_window_attn_eq_skeleton]; unfold cc0_window_attn_skel
    simp only [k0_part34_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hq0, Hq1, Hq2, Hq3, Hq4, Hq5, Hq6, Hq7, Hq8, Hq9, Hq10, Hq11, Hq12, Hq13, Hq14, Hq15, Hh0, Hh1, HW, Hk⟩
    obtain rfl := harg0.eq_unread hf0; obtain rfl := harg1.eq_unread hf1; obtain rfl := harg2.eq_unread hf2; obtain rfl := harg3.eq_unread hf3
    sl_exec (disch := first | sl_exact k0_hw1 | sl_exact k0_hw2 | sl_exact k0_hw3 | sl_exact k0_hw4 | sl_exact k0_hw5 | sl_exact k0_hw6 | sl_exact k0_hw7 | sl_exact k0_hw8)
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _, _; isplitr; swap; · iexact H4
      ipureintro; rfl
    isplitl [H5]
    · iexists _, _; isplitr; swap; · iexact H5
      ipureintro; rfl
    isplitl [H6]
    · iexists _, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hh0]; · iexact Hh0
    isplitl [Hh1]; · iexact Hh1
    iexists _; iexact HW

end Cert.Kernel.Run

end
-- ==== Proof.PFrame.lean ====
/- The frame of the printed kernel: every argument is as it was and every counter at zero, at any values. -/
module

public import proofs.«01_k».proof.Proof.PRun
public import Idealize.ShloMosaic.Lib.Claim

@[expose] public section

-- membership in a rectangle of production extents (`View.cover_of_tiled`): the elaborator's structural look
-- recurses once per coordinate of the long axes
set_option maxRecDepth 16384

noncomputable section

namespace Cert.Kernel.Run

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)
/-! ## The pipeline's proof data -/

/-- The output windows this certificate FORGETS (4, 5, 6): nothing reads what the kernel leaves in them, so nothing
    of it is named (Lib/Pipeline/Dat.lean `Dat.toRForget`). -/
def forgets0 : Fin 7 → Bool := fun w => w.val == 4 || w.val == 5 || w.val == 6

/-- The proof data of the one pipeline on core `c`: the arrays as the region finds them (`V`); after the body at
    point `t` each input's buffer at its block and the outputs, FORGOTTEN, at `Dat.unnamed`; the invariant
    (Lib/Pipeline/Frame.lean `ΦD`: the scoped rest, the generator register, the own cells at zero, the HBM operands at
    their launch contents); nothing owed; full shares. -/
def dats (hH : Hyps m) (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Pipeline.Dat.unnamed (cfg := cfg0) ⟨4, h⟩ t
    | ⟨5, h⟩ => Pipeline.Dat.unnamed (cfg := cfg0) ⟨5, h⟩ t
    | ⟨6, h⟩ => Pipeline.Dat.unnamed (cfg := cfg0) ⟨6, h⟩ t
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (hH : Hyps m) (c : Dev nD) (w : Fin cfg0.W) : (dats m hH 0 c).A w = V m c (Pipeline.arrRef spec0 w) := by
  dsimp only [dats]

/-- What the body leaves, window by window (the proof data's `match` reduced by `dsimp`). -/
theorem after0_0 (hH : Hyps m) (c : Dev nD) (t : Fin cfg0.N) : (dats m hH 0 c).after 0 t = iblk m c 0 t := by dsimp only [dats]
theorem after0_1 (hH : Hyps m) (c : Dev nD) (t : Fin cfg0.N) : (dats m hH 0 c).after 1 t = iblk m c 1 t := by dsimp only [dats]
theorem after0_2 (hH : Hyps m) (c : Dev nD) (t : Fin cfg0.N) : (dats m hH 0 c).after 2 t = iblk m c 2 t := by dsimp only [dats]
theorem after0_3 (hH : Hyps m) (c : Dev nD) (t : Fin cfg0.N) : (dats m hH 0 c).after 3 t = iblk m c 3 t := by dsimp only [dats]

/-- Each input's current staging buffer holds its block at every point, fetched there or not (`beforeK_W_of`). -/
theorem before0_0 (hH : Hyps m) (c : Dev nD) (t : Fin cfg0.N) (d) : (dats m hH 0 c).before 0 t d = iblk m c 0 t :=
  before0_0_of m (dats m hH 0 c) (A_eq m hH c 0) (after0_0 m hH c) t d
theorem before0_1 (hH : Hyps m) (c : Dev nD) (t : Fin cfg0.N) (d) : (dats m hH 0 c).before 1 t d = iblk m c 1 t :=
  before0_1_of m (dats m hH 0 c) (A_eq m hH c 1) (after0_1 m hH c) t d
theorem before0_2 (hH : Hyps m) (c : Dev nD) (t : Fin cfg0.N) (d) : (dats m hH 0 c).before 2 t d = iblk m c 2 t :=
  before0_2_of m (dats m hH 0 c) (A_eq m hH c 2) (after0_2 m hH c) t d
theorem before0_3 (hH : Hyps m) (c : Dev nD) (t : Fin cfg0.N) (d) : (dats m hH 0 c).before 3 t d = iblk m c 3 t :=
  before0_3_of m (dats m hH 0 c) (A_eq m hH c 3) (after0_3 m hH c) t d

/-! ## The body obligation, at a generic point -/

/-- What the body is called with at point `t` (Lib/Pipeline.lean `BodyObligation`'s precondition, the windows one by one), -/
def bodyPre (hH : Hyps m) (c : Dev nD) (t : Fin cfg0.N) : sProp 𝕄 :=
  iprop((dats m hH 0 c).Φ t.castSucc ∗ (dats m hH 0 c).owesAt () t.castSucc
    ∗ (∃ d, owns (c : Thread nD τ) (ms0_0 t) fullShare ((dats m hH 0 c).before 0 t d))
    ∗ (∃ d, owns (c : Thread nD τ) (ms0_1 t) fullShare ((dats m hH 0 c).before 1 t d))
    ∗ (∃ d, owns (c : Thread nD τ) (ms0_2 t) fullShare ((dats m hH 0 c).before 2 t d))
    ∗ (∃ d, owns (c : Thread nD τ) (ms0_3 t) fullShare ((dats m hH 0 c).before 3 t d))
    ∗ (∃ d, owns (c : Thread nD τ) (ms0_4 t) fullShare d)
    ∗ (∃ d, owns (c : Thread nD τ) (ms0_5 t) fullShare d)
    ∗ (∃ d, owns (c : Thread nD τ) (ms0_6 t) fullShare d))

/-- and what it returns. -/
def bodyPost (hH : Hyps m) (c : Dev nD) (t : Fin cfg0.N) : sProp 𝕄 :=
  iprop((dats m hH 0 c).Φ t.succ ∗ (dats m hH 0 c).owesAt () t.succ
    ∗ owns (c : Thread nD τ) (ms0_0 t) fullShare ((dats m hH 0 c).after 0 t)
    ∗ owns (c : Thread nD τ) (ms0_1 t) fullShare ((dats m hH 0 c).after 1 t)
    ∗ owns (c : Thread nD τ) (ms0_2 t) fullShare ((dats m hH 0 c).after 2 t)
    ∗ owns (c : Thread nD τ) (ms0_3 t) fullShare ((dats m hH 0 c).after 3 t)
    ∗ (∃ d, owns (c : Thread nD τ) (ms0_4 t) fullShare d)
    ∗ (∃ d, owns (c : Thread nD τ) (ms0_5 t) fullShare d)
    ∗ (∃ d, owns (c : Thread nD τ) (ms0_6 t) fullShare d))

set_option maxHeartbeats 1200000 in
/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (hH : Hyps m) (c : Dev nD) (t : Fin cfg0.N) :
    bodyPre m hH c t ⊢ wp frame (wpE (defs₀ (F := F)) Variants.none c none) Set.univ (bodyAt0 t) (fun _ => bodyPost m hH c t) := by
  unfold bodyPre bodyPost bodyAt0
  simp only [before0_0, before0_1, before0_2, before0_3]
  rw [show (dats m hH 0 c).Φ t.succ = (dats m hH 0 c).Φ t.castSucc from rfl,
    after0_0, after0_1, after0_2, after0_3]
  rw [show (dats m hH 0 c).Φ t.castSucc = Pipeline.ΦD osem0 spec0 H0 (V m) c from rfl, PhiD0_eq]
  unfold Dat.owesAt Pipeline.owesWithin
  rw [show (dats m hH 0 c).owed t.castSucc = 0 from rfl, show (dats m hH 0 c).owed t.succ = 0 from rfl]
  iintro ⟨⟨⟨HS0, HS1, HS2, HS3, HS4, HS5⟩, Hg, ⟨Hq0, Hq1, Hq2, Hq3, Hq4, Hq5, Hq6, Hq7, Hq8, Hq9, Hq10, Hq11, Hq12, Hq13, Hq14, Hq15⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩⟩
  iapply ((kernelRun0_A c _ _ _ _ _ _ _ _ _ _ _ _ _ _ _ _ _ _ _ _ _ _ _ _ _ _ (iblk m c 0 t) (iblk m c 1 t) (iblk m c 2 t) (iblk m c 3 t) (V m c main_v4) (V m c main_v6) (Hyps.c0 hH c t) (Hyps.c1 hH c t) (Hyps.c2 hH c t) (Hyps.c3 hH c t) (Hyps.c4 hH c t) (Hyps.c5 hH c t) (Hyps.c6 hH c t) (Hyps.c7 hH c t)) W _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hh0]; · iexact Hh0
  isplitl [Hh1]; · iexact Hh1
  isplitl [HW]; · iexact HW
  iintro ⟨H0, H1, H2, H3, H4, H5, H6, HS0, HS1, HS2, HS3, HS4, HS5, Hq0, Hq1, Hq2, Hq3, Hq4, Hq5, Hq6, Hq7, Hq8, Hq9, Hq10, Hq11, Hq12, Hq13, Hq14, Hq15, Hh0, Hh1, ⟨%W', HW'⟩⟩
  isplitl [HS0 HS1 HS2 HS3 HS4 HS5 Hg Hq0 Hq1 Hq2 Hq3 Hq4 Hq5 Hq6 Hq7 Hq8 Hq9 Hq10 Hq11 Hq12 Hq13 Hq14 Hq15 Hh0 Hh1]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    isplitl [Hg]
    · iexact Hg
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  isplitl [H5]; · iexact H5
  iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (hH : Hyps m) (c : Dev nD) : BodyObligation (dats (F := F) m hH 0 c) (defs₀ (F := F)) Variants.none () Set.univ forgets0 := fun t => by
  rw [bigSep_W0, bigSep_W0, defs₀_row]
  exact triple_restated (sound_body m hH c t) rfl .rfl fun _ => .rfl

/-! ## The run and the frame -/

-- `θ_run_frame_dma_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent (hH : Hyps m) : θ_run defs (onTc (τ := τ) (main (F := F))) (s₀ m ρ) (fun r => (Pipeline.RDat.FramePostR (cfgs 0) (fun c => (dats m hH 0 c).toRForget forgets0) T0 (V m)) r ∧ r.2.sem = fun _ => 0) :=
  Pipeline.θ_run_frame_dma_around_T_forget (Q' := _) cfgs (dats m hH) (0 : Fin 1) launch0 osem0 defs₀ Variants.none forgets0 ownSemFacts0 H0 T0 H0_sub m ρ main
    (hbody := fun c => (body_obligation m hH c).loose) (hshare := fun c => (dats m hH 0 c).share_full fun _ => rfl)
    (howed := fun _ _ => rfl) (V₀ := V0 m) (opss := [hostOps1]) (hsub := sfx_but) (hfresh := sfx_fresh) (hkeep := sfx_keeps) (hT := sfx_writes)
    (hmain := hmain m Variants.none) (hA := A_eq m hH) (hin := fun _ => .rfl) (hout := fun _ => .rfl)

/-- At the compiled mesh, for any values, from any memory with zero counters: every weakly fair execution of @main on the
    TensorCores terminates, and every final state has every INPUT array of the pipeline unchanged, nothing stated of the
    FORGOTTEN outputs (windows 4, 5, 6) (Lib/Pipeline/Frame.lean `RDat.FramePostR` over the proof data with those windows
    forgotten, Dat.lean `Dat.toRForget`), and every other unscoped buffer outside `T0` at its region-entry contents. -/
theorem run_main (hH : Hyps m) : θ_run defs (onTc (τ := τ) (main (F := F))) (s₀ m ρ) (Pipeline.RDat.FramePostR (cfgs 0) (fun c => (dats m hH 0 c).toRForget forgets0) T0 (V m)) :=
  (θ_run defs _ _).mono (fun _ h => h.1) (run_main_quiescent m ρ hH)

/-- `frame` without the counters: the argument arrays end unchanged. -/
theorem unchanged (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (fun c => (dats m hH 0 c).toRForget forgets0) (A_eq m hH) (run_main m ρ hH)

/-- The frame: `Cert.quiescent_Kernel`'s statement (Defs.lean) at any `F`, under the side conditions `Hyps` that the body
    assumes at every point. Proof.lean cites it at `Bits`. -/
theorem frame (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hH) ((θ_run defs _ _).mono (fun _ h => h.2) (run_main_quiescent m ρ hH))

end Cert.Kernel.Run

end
-- ==== Proof.KRuns.lean ====
/- The run of the kernel body needs a transfer algebra the generated kit does not carry: this module states, at that
   algebra, @main around its region, the host lines after it, the staged blocks, the scratch operands, the body's own
   DMA semaphores and the two caches it reads in place. -/
module

public import proofs.«01_k».proof.Proof.Gen.KernelIdeal.Skeleton
public import proofs.«01_k».proof.Proof.Gen.KernelIdeal.Frame

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen (V0 V iblk hostOps0_fresh sfx_fresh sfx_keeps V_main_arg0 V_main_arg1 V_main_arg2 V_main_arg3 V_main_arg4 V_main_arg5)
open Cert.KernelIdeal.Gen hiding hmain before0_0_of before0_1_of before0_2_of before0_3_of frame_of W_main_arg0 W_main_arg1 W_main_arg2 W_main_arg3 W_main_arg4

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- No host operation after the region writes `main_arg0`: it ends as launched. -/
theorem W_main_arg0 (dats : (p : Fin _) → (c : Dev nD) → Dat τ (Elt F) Unit ℕ (Pipeline.UD sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (Pipeline.UD sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg2`: it ends as launched. -/
theorem W_main_arg2 (dats : (p : Fin _) → (c : Dev nD) → Dat τ (Elt F) Unit ℕ (Pipeline.UD sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c
/-- No host operation after the region writes `main_arg3`: it ends as launched. -/
theorem W_main_arg3 (dats : (p : Fin _) → (c : Dev nD) → Dat τ (Elt F) Unit ℕ (Pipeline.UD sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (Pipeline.UD sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The kernel body on any staging memrefs: a subtype the run finds -/

/-- Each window's current staging memref at point `t`, spelled as the pipeline passes it (`bodyAt0`), and its wholeness. -/
abbrev ms0_0 (t : Fin cfg0.N) : Memref sig .tc .smem S8 .i32 := win0_0.stage (cfg0.slots t 0)
abbrev hs0_0 (t : Fin cfg0.N) : (ms0_0 t).IsWhole := hstage0_0 0
abbrev ms0_1 (t : Fin cfg0.N) : Memref sig .tc .vmem S8x2048 .bf16 := win0_1.stage (cfg0.slots t 1)
abbrev hs0_1 (t : Fin cfg0.N) : (ms0_1 t).IsWhole := hstage0_1 0
abbrev ms0_2 (t : Fin cfg0.N) : Memref sig .tc .vmem S32x64 .bf16 := win0_2.stage (cfg0.slots t 2)
abbrev hs0_2 (t : Fin cfg0.N) : (ms0_2 t).IsWhole := hstage0_2 0
abbrev ms0_3 (t : Fin cfg0.N) : Memref sig .tc .vmem S32x64 .bf16 := win0_3.stage (cfg0.slots t 3)
abbrev hs0_3 (t : Fin cfg0.N) : (ms0_3 t).IsWhole := hstage0_3 0
abbrev ms0_4 (t : Fin cfg0.N) : Memref sig .tc .vmem S8x2048 .bf16 := win0_4.stage (cfg0.slots t 4)
abbrev hs0_4 (t : Fin cfg0.N) : (ms0_4 t).IsWhole := hstage0_4 0
abbrev ms0_5 (t : Fin cfg0.N) : Memref sig .tc .vmem S32x64 .fp8e5m2 := win0_5.stage (cfg0.slots t 5)
abbrev hs0_5 (t : Fin cfg0.N) : (ms0_5 t).IsWhole := hstage0_5 0
abbrev ms0_6 (t : Fin cfg0.N) : Memref sig .tc .vmem S32x64 .fp8e5m2 := win0_6.stage (cfg0.slots t 6)
abbrev hs0_6 (t : Fin cfg0.N) : (ms0_6 t).IsWhole := hstage0_6 0

/-- The scratch operands: whole scoped buffers of the kernel's own, passed beside the windows. -/
abbrev scM0_0 : Memref sig .tc .vmem S8x256x1152 .fp8e5m2 := Memref.whole cc0_scratch0
abbrev scM0_1 : Memref sig .tc .vmem S8x256x1152 .fp8e5m2 := Memref.whole cc0_scratch1
abbrev scM0_2 : Memref sig .tc .vmem S128x128 .f32 := Memref.whole cc0_scratch2
abbrev scM0_3 : Memref sig .tc .vmem S128x128 .f32 := Memref.whole cc0_scratch3
abbrev scM0_4 : Memref sig .tc .vmem S128x256 .bf16 := Memref.whole cc0_scratch4
abbrev scM0_5 : Memref sig .tc .vmem S128x256 .bf16 := Memref.whole cc0_scratch5
/-- The operands left in HBM that the body copies into scratch itself, whole. -/
abbrev hbM0_0 : Memref sig .tc .hbm S8x256x65536 .fp8e5m2 := Memref.whole main_v4
abbrev hbM0_1 : Memref sig .tc .hbm S8x256x65536 .fp8e5m2 := Memref.whole main_v6
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 16 → SemLoc sig := fun j => (![SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22] : Fin 16 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0) := by
  rw [Pipeline.ownSems0_eq_of_list c osem0 [0, 1, 2, 3, 4, 5, 6, 7, 8, 9, 10, 11, 12, 13, 14, 15] (by decide) (by decide)]; rfl
/-- The HBM operands the body moves, as references: unscoped, no window's array (`Pipeline.restRefs`). -/
def H0 : Finset (Ref sig .tc) := {main_v4, main_v6}
theorem H0_sub : H0 ⊆ Pipeline.restRefs sig spec0 := by decide
/-- The lines after the region touch none of the operands the body moves: each operation's buffers are unscoped
    TensorCore references, none of them in `H0` (`Pipeline.sub_tailRefsBut`). -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  · refine Pipeline.sub_tailRefsBut Pipeline.Prefetch.none spec0 H0 op ((List.forall_iff_forall_mem.mp hostOps1_sub) op hop) (fun j => j.elim0) ?_
    simp only [hostOps1, List.mem_cons, List.mem_nil_iff, or_false] at hop
    rcases hop with rfl | rfl | rfl
    all_goals intro b hb; simp only [H0, Finset.mem_insert, Finset.mem_singleton] at hb
    all_goals rcases hb with rfl | rfl <;>
      simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- Their points-tos at the launch contents, listed. -/
theorem hbmPts0_eq (c : Dev nD) :
    (bigSep H0 (fun b => ((c : Thread nD τ).loc b) ↦{fullShare} V m c b) : sProp 𝕄) = iprop(hbPt0 c hbM0_0 (V m c main_v4) ∗ hbPt0 c hbM0_1 (V m c main_v6)) := by
  rw [BI.bigSep_eq_bigSepL_of_eq [main_v4, main_v6] (by decide) (by decide)]; rfl

/-- The invariant of a body with transfers of its own, `Pipeline.ΦD`, conjunct by conjunct: the scratch operands owned at
    some contents, the generator register at some state, the own cells at zero, the HBM operands at their launch
    contents — what the body obligation hands the run and takes back. -/
theorem PhiD0_eq (c : Dev nD) :
    (Pipeline.ΦD osem0 spec0 H0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r) ∗ iprop(semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0) ∗ iprop(hbPt0 c hbM0_0 (V m c main_v4) ∗ hbPt0 c hbM0_1 (V m c main_v6))) := by
  rw [Pipeline.ΦD_eq, scopedRest0_eq, ownSems00_eq, hbmPts0_eq]; simp only [scM0_0, scM0_1, scM0_2, scM0_3, scM0_4, scM0_5, owns_whole]; try rfl

end Cert.KernelIdeal.Run

end
-- ==== Proof.KRun.lean ====
/- The kernel's body run once, symbolically: what it leaves in its three results, found by the run. -/
module

public import proofs.«01_k».proof.Proof.KRuns

@[expose] public section

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen (V0 V iblk hostOps0_fresh sfx_fresh sfx_keeps V_main_arg0 V_main_arg1 V_main_arg2 V_main_arg3 V_main_arg4 V_main_arg5)
open Cert.KernelIdeal.Gen hiding hmain before0_0_of before0_1_of before0_2_of before0_3_of frame_of W_main_arg0 W_main_arg1 W_main_arg2 W_main_arg3 W_main_arg4

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

-- (the run's proof term is large: checking it walks past the default budget)
set_option maxHeartbeats 2616000 in set_option sl_exec.dmaWindow true in set_option sl_exec.dmaWindowSet true in set_option sl_exec.stridedRows true in
/-- The body's triple on whole staging memrefs: from the inputs at their contents, the results and the scratch at
    anything, the semaphores at zero and the two caches as launched, the body runs to the continuation holding the inputs
    and caches as they were and each result at a function (the witness) of the inputs, the caches, and of what the result
    and the two window buffers held before. -/
def kernelRun (c : Dev nD) (arg0 : Memref sig .tc .smem S8 .i32) (harg0 : arg0.IsWhole) (arg1 : Memref sig .tc .vmem S8x2048 .bf16) (harg1 : arg1.IsWhole) (arg2 : Memref sig .tc .vmem S32x64 .bf16) (harg2 : arg2.IsWhole) (arg3 : Memref sig .tc .vmem S32x64 .bf16) (harg3 : arg3.IsWhole) (arg6 : Memref sig .tc .vmem S8x2048 .bf16) (harg6 : arg6.IsWhole) (arg7 : Memref sig .tc .vmem S32x64 .fp8e5m2) (harg7 : arg7.IsWhole) (arg8 : Memref sig .tc .vmem S32x64 .fp8e5m2) (harg8 : arg8.IsWhole) (arg9 : Memref sig .tc .vmem S8x256x1152 .fp8e5m2) (harg9 : arg9.IsWhole) (arg10 : Memref sig .tc .vmem S8x256x1152 .fp8e5m2) (harg10 : arg10.IsWhole) (arg11 : Memref sig .tc .vmem S128x128 .f32) (harg11 : arg11.IsWhole) (arg12 : Memref sig .tc .vmem S128x128 .f32) (harg12 : arg12.IsWhole) (arg13 : Memref sig .tc .vmem S128x256 .bf16) (harg13 : arg13.IsWhole) (arg14 : Memref sig .tc .vmem S128x256 .bf16) (harg14 : arg14.IsWhole)
    (x0 : Vec F S8 .i32) (x1 : Vec F S8x2048 .bf16) (x2 : Vec F S32x64 .bf16) (x3 : Vec F S32x64 .bf16) (fh0 : HbBuf0 (F := F) c hbM0_0) (fh1 : HbBuf0 (F := F) c hbM0_1) (k0_hw1 : k0_chk1 (arg0.view.readAt (Elt F) (Rect.unit (s := S8) ![0] S1.size inb_S8_S1_0).toLoadRect (harg0.unread x0) (Shape.Idx.first (numel1_S1.symm ▸ Nat.one_pos)))) (k0_hw2 : k0_chk2 (arg0.view.readAt (Elt F) (Rect.unit (s := S8) ![1] S1.size inb_S8_S1_1).toLoadRect (harg0.unread x0) (Shape.Idx.first (numel1_S1.symm ▸ Nat.one_pos)))) (k0_hw3 : k0_chk3 (arg0.view.readAt (Elt F) (Rect.unit (s := S8) ![2] S1.size inb_S8_S1_2).toLoadRect (harg0.unread x0) (Shape.Idx.first (numel1_S1.symm ▸ Nat.one_pos)))) (k0_hw4 : k0_chk4 (arg0.view.readAt (Elt F) (Rect.unit (s := S8) ![3] S1.size inb_S8_S1_3).toLoadRect (harg0.unread x0) (Shape.Idx.first (numel1_S1.symm ▸ Nat.one_pos)))) (k0_hw5 : k0_chk5 (arg0.view.readAt (Elt F) (Rect.unit (s := S8) ![4] S1.size inb_S8_S1_4).toLoadRect (harg0.unread x0) (Shape.Idx.first (numel1_S1.symm ▸ Nat.one_pos)))) (k0_hw6 : k0_chk6 (arg0.view.readAt (Elt F) (Rect.unit (s := S8) ![5] S1.size inb_S8_S1_5).toLoadRect (harg0.unread x0) (Shape.Idx.first (numel1_S1.symm ▸ Nat.one_pos)))) (k0_hw7 : k0_chk7 (arg0.view.readAt (Elt F) (Rect.unit (s := S8) ![6] S1.size inb_S8_S1_6).toLoadRect (harg0.unread x0) (Shape.Idx.first (numel1_S1.symm ▸ Nat.one_pos)))) (k0_hw8 : k0_chk8 (arg0.view.readAt (Elt F) (Rect.unit (s := S8) ![7] S1.size inb_S8_S1_7).toLoadRect (harg0.unread x0) (Shape.Idx.first (numel1_S1.symm ▸ Nat.one_pos)))) :
      { O : (arg6.view.ty.Contents (Elt F) → arg9.view.ty.Contents (Elt F) → arg10.view.ty.Contents (Elt F) → Vec F S8x2048 .bf16)
          × (arg7.view.ty.Contents (Elt F) → Vec F S32x64 .fp8e5m2) × (arg8.view.ty.Contents (Elt F) → Vec F S32x64 .fp8e5m2) //
      ∀ (W : Waits sig Unit) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ hbPt0 c hbM0_0 fh0 ∗ hbPt0 c hbM0_1 fh1 ∗ owes (c : Thread nD τ) 0 W
            ∗ (iprop(owns (c : Thread nD τ) arg0 fullShare x0 ∗ owns (c : Thread nD τ) arg1 fullShare x1 ∗ owns (c : Thread nD τ) arg2 fullShare x2 ∗ owns (c : Thread nD τ) arg3 fullShare x3 ∗ (∃ f4 fs0 fs1, owns (c : Thread nD τ) arg6 fullShare (O.1 f4 fs0 fs1)) ∗ (∃ f5, owns (c : Thread nD τ) arg7 fullShare (O.2.1 f5)) ∗ (∃ f6, owns (c : Thread nD τ) arg8 fullShare (O.2.2 f6)) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_window_attn arg0 harg0 arg1 harg1 arg2 harg2 arg3 harg3 (Memref.whole main_v4) (Memref.isWhole_whole _) (Memref.whole main_v6) (Memref.isWhole_whole _) arg6 harg6 arg7 harg7 arg8 harg8 arg9 harg9 arg10 harg10 arg11 harg11 arg12 harg12 arg13 harg13 arg14 harg14 cc0_scratch6 cc0_scratch7) K } := by
    refine ⟨(?_, ?_, ?_), fun W K => ?run⟩
    case run =>
    dsimp only
    simp only [cc0_window_attn_eq_skeleton]; unfold cc0_window_attn_skel
    simp only [k0_part34_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, Hq0, Hq1, Hq2, Hq3, Hq4, Hq5, Hq6, Hq7, Hq8, Hq9, Hq10, Hq11, Hq12, Hq13, Hq14, Hq15, Hh0, Hh1, HW, Hk⟩
    obtain rfl := harg0.eq_unread hf0; obtain rfl := harg1.eq_unread hf1; obtain rfl := harg2.eq_unread hf2; obtain rfl := harg3.eq_unread hf3
    sl_exec (disch := first | sl_exact k0_hw1 | sl_exact k0_hw2 | sl_exact k0_hw3 | sl_exact k0_hw4 | sl_exact k0_hw5 | sl_exact k0_hw6 | sl_exact k0_hw7 | sl_exact k0_hw8)
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists f4, fs0, fs1, _; isplitr; swap; · iexact H4
      ipureintro; rfl
    isplitl [H5]
    · iexists f5, _; isplitr; swap; · iexact H5
      ipureintro; rfl
    isplitl [H6]
    · iexists f6, _; isplitr; swap; · iexact H6
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    isplitl [HS4]
    · iexists _, _; isplitr; swap; · iexact HS4
      ipureintro; rfl
    isplitl [HS5]
    · iexists _, _; isplitr; swap; · iexact HS5
      ipureintro; rfl
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hq6]; · iexact Hq6
    isplitl [Hq7]; · iexact Hq7
    isplitl [Hq8]; · iexact Hq8
    isplitl [Hq9]; · iexact Hq9
    isplitl [Hq10]; · iexact Hq10
    isplitl [Hq11]; · iexact Hq11
    isplitl [Hq12]; · iexact Hq12
    isplitl [Hq13]; · iexact Hq13
    isplitl [Hq14]; · iexact Hq14
    isplitl [Hq15]; · iexact Hq15
    isplitl [Hh0]; · iexact Hh0
    isplitl [Hh1]; · iexact Hh1
    iexists _; iexact HW

end Cert.KernelIdeal.Run

end
-- ==== Proof.KBlock.lean ====
/- The kernel attends batch row after batch row with the same operations; the printed text cuts the eight copies at
   different places. This module names ONE copy as a function of what the copies differ in — the four-fold batch number, the
   span's start, the cached length, two eight-row blocks of the query, the cached keys and values of the batch row — and
   shows that each of the sixteen blocks stored is that function at the copy's own values. -/
module

public import proofs.«01_k».proof.Proof.Gen.KernelIdeal.Skeleton

@[expose] public section

noncomputable section

namespace Cert.KernelIdeal.Block

open Cert.KernelIdeal Cert.KernelIdeal.Gen Idealize.ShloMosaic Idealize.ShloMosaic.TcCoe

variable {F : FTy → Type} [FloatOps F]

/-- The key/value head that each of the 32 query rows reads. -/
def kvRow : IVec S32x128 32 := k0_pay35 k0_pay33 4#32 k0_pay34
/-- The lane number, over 128 lanes. -/
def lane : IVec S32x128 32 := iota .tc S32x128 32 [1] iota_S32x128_d1_w32
/-- The column number, over the 1152 cached positions held. -/
def col : IVec S32x1152 32 := iota .tc S32x1152 32 [1] iota_S32x1152_d1_w32

/-- The 32 query rows of one batch row, each placed in the 64 columns of its key/value head and zero elsewhere. -/
def query (e0 e1 : Vec F S8x128 .f32) : FVec F S32x256 .bf16 := k0_pay129 k0_pay29 k0_pay30 k0_pay32 e0 e1

/-- The scores against the new keys: kept at the lane of the row's own new key, `-∞` at the others. -/
def newScores (bw : BitVec 32) (e0 e1 : Vec F S8x128 .f32) (kn4 : Vec F S128x256 .bf16) : FVec F S32x128 .f32 :=
  select (cmpi .eq lane (addi kvRow (broadcast S32x128 bw)))
    (mulf (matmul dot_S32x256_S128x256_S32x128_1_1_0_0_n_n none (query e0 e1) kn4 (constant S32x128 .f32 0x00000000#32))
      (broadcast S32x128 (Scalar.ofBits .f32 0x3E000000#32)))
    (broadcast S32x128 (Scalar.ofBits .f32 0xFF800000#32))

/-- The attention of one batch row: the 32 query rows' outputs, in all 256 channels. -/
def attend (bw w n : BitVec 32) (e0 e1 : Vec F S8x128 .f32) (kn4 : Vec F S128x256 .bf16) (kb vb : Vec F S1x256x1152 .fp8e5m2)
    (vn4 : Vec F S128x256 .bf16) : FVec F S32x256 .f32 :=
  k0_pay138 (k0_pay136 w col (query e0 e1) (newScores bw e0 e1 kn4) kb n)
    (k0_pay137 w col (query e0 e1) (newScores bw e0 e1 kn4) kb n) vb vn4

/-- The first eight head pairs of the outputs: two rows of 64 channels side by side. -/
def half0 (o : FVec F S32x256 .f32) : FVec F S8x128 .f32 :=
  shapeCast S8x128 (select k0_pay31
    (select k0_pay30 (extractStridedSlice S8x128 ![0, 0] o slices_S32x256_o0_0_S8x128) (extractStridedSlice S8x128 ![16, 0] o slices_S32x256_o16_0_S8x128))
    (dynamicRotate 1 64#32 none
      (select k0_pay30 (extractStridedSlice S8x128 ![16, 0] o slices_S32x256_o16_0_S8x128) (extractStridedSlice S8x128 ![0, 0] o slices_S32x256_o0_0_S8x128))
      rotates_S8x128_d1)) shapeCasts_S8x128_S8x128

/-- The last eight head pairs of the outputs. -/
def half1 (o : FVec F S32x256 .f32) : FVec F S8x128 .f32 :=
  shapeCast S8x128 (select k0_pay31
    (select k0_pay30 (extractStridedSlice S8x128 ![8, 128] o slices_S32x256_o8_128_S8x128) (extractStridedSlice S8x128 ![24, 128] o slices_S32x256_o24_128_S8x128))
    (dynamicRotate 1 64#32 none
      (select k0_pay30 (extractStridedSlice S8x128 ![24, 128] o slices_S32x256_o24_128_S8x128) (extractStridedSlice S8x128 ![8, 128] o slices_S32x256_o8_128_S8x128))
      rotates_S8x128_d1)) shapeCasts_S8x128_S8x128

variable (w n : BitVec 32) (e0 e1 : Vec F S8x128 .f32) (kn4 : Vec F S128x256 .bf16) (kb vb : Vec F S1x256x1152 .fp8e5m2)
    (vn4 : Vec F S128x256 .bf16)

/-- Batch row 0, half 0. -/
theorem piece0_0 : k0_pay43 k0_pay30 k0_pay31 ((k0_pay37 kvRow lane (k0_pay36 k0_pay29 k0_pay30 k0_pay32 e0 e1) kn4)) ((k0_pay40 w kvRow lane col (k0_pay36 k0_pay29 k0_pay30 k0_pay32 e0 e1) kn4 kb n)) ((k0_pay41 w kvRow lane col (k0_pay36 k0_pay29 k0_pay30 k0_pay32 e0 e1) kn4 kb n)) vb vn4
    = half0 (attend 0#32 w n e0 e1 kn4 kb vb vn4) := rfl

/-- Batch row 0, half 1. -/
theorem piece0_1 : k0_pay47 k0_pay30 k0_pay31 ((k0_pay44 ((k0_pay37 kvRow lane (k0_pay36 k0_pay29 k0_pay30 k0_pay32 e0 e1) kn4)) ((k0_pay40 w kvRow lane col (k0_pay36 k0_pay29 k0_pay30 k0_pay32 e0 e1) kn4 kb n)) ((k0_pay41 w kvRow lane col (k0_pay36 k0_pay29 k0_pay30 k0_pay32 e0 e1) kn4 kb n)) vb vn4)) ((k0_pay45 ((k0_pay37 kvRow lane (k0_pay36 k0_pay29 k0_pay30 k0_pay32 e0 e1) kn4)) ((k0_pay40 w kvRow lane col (k0_pay36 k0_pay29 k0_pay30 k0_pay32 e0 e1) kn4 kb n)) ((k0_pay41 w kvRow lane col (k0_pay36 k0_pay29 k0_pay30 k0_pay32 e0 e1) kn4 kb n)) vb vn4)) ((k0_pay46 k0_pay30 ((k0_pay37 kvRow lane (k0_pay36 k0_pay29 k0_pay30 k0_pay32 e0 e1) kn4)) ((k0_pay40 w kvRow lane col (k0_pay36 k0_pay29 k0_pay30 k0_pay32 e0 e1) kn4 kb n)) ((k0_pay41 w kvRow lane col (k0_pay36 k0_pay29 k0_pay30 k0_pay32 e0 e1) kn4 kb n)) vb vn4))
    = half1 (attend 0#32 w n e0 e1 kn4 kb vb vn4) := rfl

/-- Batch row 1, half 0. -/
theorem piece1_0 : k0_pay58 k0_pay30 k0_pay31 ((k0_pay55 w col (k0_pay48 k0_pay29 k0_pay30 k0_pay32 e0 e1) (k0_pay49 k0_pay29 k0_pay30 k0_pay32 kvRow lane e0 e1 kn4) kb n)) ((k0_pay56 w col (k0_pay48 k0_pay29 k0_pay30 k0_pay32 e0 e1) (k0_pay49 k0_pay29 k0_pay30 k0_pay32 kvRow lane e0 e1 kn4) kb n)) vb vn4
    = half0 (attend 4#32 w n e0 e1 kn4 kb vb vn4) := rfl

/-- Batch row 1, half 1. -/
theorem piece1_1 : k0_pay59 k0_pay30 k0_pay31 ((k0_pay55 w col (k0_pay48 k0_pay29 k0_pay30 k0_pay32 e0 e1) (k0_pay49 k0_pay29 k0_pay30 k0_pay32 kvRow lane e0 e1 kn4) kb n)) ((k0_pay56 w col (k0_pay48 k0_pay29 k0_pay30 k0_pay32 e0 e1) (k0_pay49 k0_pay29 k0_pay30 k0_pay32 kvRow lane e0 e1 kn4) kb n)) vb vn4
    = half1 (attend 4#32 w n e0 e1 kn4 kb vb vn4) := rfl

/-- Batch row 2, half 0. -/
theorem piece2_0 : k0_pay76 k0_pay30 k0_pay31 ((k0_pay73 ((k0_pay64 k0_pay29 k0_pay30 k0_pay32 kvRow lane (k0_pay61 k0_pay29 k0_pay30 k0_pay32 e0) (k0_pay62 k0_pay29 k0_pay30 k0_pay32 e0) e1 kn4)) ((k0_pay65 k0_pay29 k0_pay30 k0_pay32 (k0_pay61 k0_pay29 k0_pay30 k0_pay32 e0) (k0_pay62 k0_pay29 k0_pay30 k0_pay32 e0) e1 kb)) (k0_pay66 w col) n ((k0_pay67 (F := F) w col n)) 1024#32)) ((k0_pay74 ((k0_pay64 k0_pay29 k0_pay30 k0_pay32 kvRow lane (k0_pay61 k0_pay29 k0_pay30 k0_pay32 e0) (k0_pay62 k0_pay29 k0_pay30 k0_pay32 e0) e1 kn4)) ((k0_pay65 k0_pay29 k0_pay30 k0_pay32 (k0_pay61 k0_pay29 k0_pay30 k0_pay32 e0) (k0_pay62 k0_pay29 k0_pay30 k0_pay32 e0) e1 kb)) (k0_pay66 w col) n ((k0_pay67 (F := F) w col n)) (1024#32) vb)) vn4 (constant S32x256 FTy.f32 0#32)
    = half0 (attend 8#32 w n e0 e1 kn4 kb vb vn4) := rfl

/-- Batch row 2, half 1. -/
theorem piece2_1 : k0_pay77 k0_pay30 k0_pay31 ((k0_pay73 ((k0_pay64 k0_pay29 k0_pay30 k0_pay32 kvRow lane (k0_pay61 k0_pay29 k0_pay30 k0_pay32 e0) (k0_pay62 k0_pay29 k0_pay30 k0_pay32 e0) e1 kn4)) ((k0_pay65 k0_pay29 k0_pay30 k0_pay32 (k0_pay61 k0_pay29 k0_pay30 k0_pay32 e0) (k0_pay62 k0_pay29 k0_pay30 k0_pay32 e0) e1 kb)) (k0_pay66 w col) n ((k0_pay67 (F := F) w col n)) 1024#32)) ((k0_pay74 ((k0_pay64 k0_pay29 k0_pay30 k0_pay32 kvRow lane (k0_pay61 k0_pay29 k0_pay30 k0_pay32 e0) (k0_pay62 k0_pay29 k0_pay30 k0_pay32 e0) e1 kn4)) ((k0_pay65 k0_pay29 k0_pay30 k0_pay32 (k0_pay61 k0_pay29 k0_pay30 k0_pay32 e0) (k0_pay62 k0_pay29 k0_pay30 k0_pay32 e0) e1 kb)) (k0_pay66 w col) n ((k0_pay67 (F := F) w col n)) (1024#32) vb)) vn4 (constant S32x256 FTy.f32 0#32)
    = half1 (attend 8#32 w n e0 e1 kn4 kb vb vn4) := rfl

/-- Batch row 3, half 0. -/
theorem piece3_0 : k0_pay86 k0_pay30 k0_pay31 ((k0_pay83 w kvRow lane col (k0_pay78 k0_pay29 k0_pay30 k0_pay32 e0 e1) (k0_pay79 k0_pay29 k0_pay30 k0_pay32 e0 e1 kn4) (FloatOps.ofBits FTy.f32 1040187392#32) kb n)) ((k0_pay84 w kvRow lane col (k0_pay78 k0_pay29 k0_pay30 k0_pay32 e0 e1) (k0_pay79 k0_pay29 k0_pay30 k0_pay32 e0 e1 kn4) (FloatOps.ofBits FTy.f32 1040187392#32) kb n)) vb vn4
    = half0 (attend 12#32 w n e0 e1 kn4 kb vb vn4) := rfl

/-- Batch row 3, half 1. -/
theorem piece3_1 : k0_pay91 k0_pay31 ((k0_pay89 k0_pay30 ((k0_pay83 w kvRow lane col (k0_pay78 k0_pay29 k0_pay30 k0_pay32 e0 e1) (k0_pay79 k0_pay29 k0_pay30 k0_pay32 e0 e1 kn4) (FloatOps.ofBits FTy.f32 1040187392#32) kb n)) ((k0_pay84 w kvRow lane col (k0_pay78 k0_pay29 k0_pay30 k0_pay32 e0 e1) (k0_pay79 k0_pay29 k0_pay30 k0_pay32 e0 e1 kn4) (FloatOps.ofBits FTy.f32 1040187392#32) kb n)) vb vn4)) ((k0_pay90 k0_pay30 ((k0_pay83 w kvRow lane col (k0_pay78 k0_pay29 k0_pay30 k0_pay32 e0 e1) (k0_pay79 k0_pay29 k0_pay30 k0_pay32 e0 e1 kn4) (FloatOps.ofBits FTy.f32 1040187392#32) kb n)) ((k0_pay84 w kvRow lane col (k0_pay78 k0_pay29 k0_pay30 k0_pay32 e0 e1) (k0_pay79 k0_pay29 k0_pay30 k0_pay32 e0 e1 kn4) (FloatOps.ofBits FTy.f32 1040187392#32) kb n)) vb vn4))
    = half1 (attend 12#32 w n e0 e1 kn4 kb vb vn4) := rfl

/-- Batch row 4, half 0. -/
theorem piece4_0 : k0_pay102 k0_pay30 k0_pay31 ((k0_pay99 w col (k0_pay92 k0_pay29 k0_pay30 k0_pay32 e0 e1) (k0_pay93 k0_pay29 k0_pay30 k0_pay32 kvRow lane e0 e1 kn4) kb n)) ((k0_pay100 w col (k0_pay92 k0_pay29 k0_pay30 k0_pay32 e0 e1) (k0_pay93 k0_pay29 k0_pay30 k0_pay32 kvRow lane e0 e1 kn4) kb n)) vb vn4
    = half0 (attend 16#32 w n e0 e1 kn4 kb vb vn4) := rfl

/-- Batch row 4, half 1. -/
theorem piece4_1 : k0_pay103 k0_pay30 k0_pay31 ((k0_pay99 w col (k0_pay92 k0_pay29 k0_pay30 k0_pay32 e0 e1) (k0_pay93 k0_pay29 k0_pay30 k0_pay32 kvRow lane e0 e1 kn4) kb n)) ((k0_pay100 w col (k0_pay92 k0_pay29 k0_pay30 k0_pay32 e0 e1) (k0_pay93 k0_pay29 k0_pay30 k0_pay32 kvRow lane e0 e1 kn4) kb n)) vb vn4
    = half1 (attend 16#32 w n e0 e1 kn4 kb vb vn4) := rfl

/-- Batch row 5, half 0. -/
theorem piece5_0 : k0_pay115 k0_pay30 k0_pay31 ((k0_pay113 ((k0_pay108 k0_pay29 k0_pay30 k0_pay32 kvRow lane (k0_pay105 k0_pay29 k0_pay30 k0_pay32 e0) (k0_pay106 k0_pay29 k0_pay30 k0_pay32 e0) e1 kn4)) ((k0_pay109 k0_pay29 k0_pay30 k0_pay32 (k0_pay105 k0_pay29 k0_pay30 k0_pay32 e0) (k0_pay106 k0_pay29 k0_pay30 k0_pay32 e0) e1 kb)) ((k0_pay111 (F := F) w col n)) ((k0_pay112 (F := F) w col n)) vb vn4)) ((k0_pay114 ((k0_pay108 k0_pay29 k0_pay30 k0_pay32 kvRow lane (k0_pay105 k0_pay29 k0_pay30 k0_pay32 e0) (k0_pay106 k0_pay29 k0_pay30 k0_pay32 e0) e1 kn4)) ((k0_pay109 k0_pay29 k0_pay30 k0_pay32 (k0_pay105 k0_pay29 k0_pay30 k0_pay32 e0) (k0_pay106 k0_pay29 k0_pay30 k0_pay32 e0) e1 kb)) ((k0_pay111 (F := F) w col n)) ((k0_pay112 (F := F) w col n)) vb vn4))
    = half0 (attend 20#32 w n e0 e1 kn4 kb vb vn4) := rfl

/-- Batch row 5, half 1. -/
theorem piece5_1 : k0_pay116 k0_pay30 k0_pay31 ((k0_pay113 ((k0_pay108 k0_pay29 k0_pay30 k0_pay32 kvRow lane (k0_pay105 k0_pay29 k0_pay30 k0_pay32 e0) (k0_pay106 k0_pay29 k0_pay30 k0_pay32 e0) e1 kn4)) ((k0_pay109 k0_pay29 k0_pay30 k0_pay32 (k0_pay105 k0_pay29 k0_pay30 k0_pay32 e0) (k0_pay106 k0_pay29 k0_pay30 k0_pay32 e0) e1 kb)) ((k0_pay111 (F := F) w col n)) ((k0_pay112 (F := F) w col n)) vb vn4))
    = half1 (attend 20#32 w n e0 e1 kn4 kb vb vn4) := rfl

/-- Batch row 6, half 0. -/
theorem piece6_0 : k0_pay126 k0_pay30 k0_pay31 ((k0_pay122 w kvRow lane col (k0_pay117 k0_pay29 k0_pay30 k0_pay32 e0 e1) (k0_pay118 k0_pay29 k0_pay30 k0_pay32 e0 e1 kn4) (24#32) kb n)) ((k0_pay123 w kvRow lane col (k0_pay117 k0_pay29 k0_pay30 k0_pay32 e0 e1) (k0_pay118 k0_pay29 k0_pay30 k0_pay32 e0 e1 kn4) (24#32) kb n)) ((k0_pay124 w kvRow lane col (k0_pay117 k0_pay29 k0_pay30 k0_pay32 e0 e1) (k0_pay118 k0_pay29 k0_pay30 k0_pay32 e0 e1 kn4) (24#32) kb n)) vb vn4
    = half0 (attend 24#32 w n e0 e1 kn4 kb vb vn4) := rfl

/-- Batch row 6, half 1. -/
theorem piece6_1 : k0_pay128 ((k0_pay127 k0_pay30 k0_pay31 ((k0_pay122 w kvRow lane col (k0_pay117 k0_pay29 k0_pay30 k0_pay32 e0 e1) (k0_pay118 k0_pay29 k0_pay30 k0_pay32 e0 e1 kn4) (24#32) kb n)) ((k0_pay123 w kvRow lane col (k0_pay117 k0_pay29 k0_pay30 k0_pay32 e0 e1) (k0_pay118 k0_pay29 k0_pay30 k0_pay32 e0 e1 kn4) (24#32) kb n)) ((k0_pay124 w kvRow lane col (k0_pay117 k0_pay29 k0_pay30 k0_pay32 e0 e1) (k0_pay118 k0_pay29 k0_pay30 k0_pay32 e0 e1 kn4) (24#32) kb n)) vb vn4))
    = half1 (attend 24#32 w n e0 e1 kn4 kb vb vn4) := rfl

/-- Batch row 7, half 0. -/
theorem piece7_0 : k0_pay139 k0_pay30 k0_pay31 ((k0_pay136 w col (k0_pay129 k0_pay29 k0_pay30 k0_pay32 e0 e1) (k0_pay130 k0_pay29 k0_pay30 k0_pay32 kvRow lane e0 e1 kn4) kb n)) ((k0_pay137 w col (k0_pay129 k0_pay29 k0_pay30 k0_pay32 e0 e1) (k0_pay130 k0_pay29 k0_pay30 k0_pay32 kvRow lane e0 e1 kn4) kb n)) vb vn4
    = half0 (attend 28#32 w n e0 e1 kn4 kb vb vn4) := rfl

/-- Batch row 7, half 1. -/
theorem piece7_1 : k0_pay140 k0_pay30 k0_pay31 ((k0_pay136 w col (k0_pay129 k0_pay29 k0_pay30 k0_pay32 e0 e1) (k0_pay130 k0_pay29 k0_pay30 k0_pay32 kvRow lane e0 e1 kn4) kb n)) ((k0_pay137 w col (k0_pay129 k0_pay29 k0_pay30 k0_pay32 e0 e1) (k0_pay130 k0_pay29 k0_pay30 k0_pay32 kvRow lane e0 e1 kn4) kb n)) vb vn4
    = half1 (attend 28#32 w n e0 e1 kn4 kb vb vn4) := rfl

end Cert.KernelIdeal.Block
-- ==== Proof.KSlices.lean ====
/- The buffers the kernel's copies fill: eight slices of one array, each written through its own slice, and the slice of a
   batch row read back afterwards. -/
module

public import proofs.«01_k».proof.Proof.Gen.KernelIdeal.Skeleton
public import Idealize.ShloMosaic.Lib.QrPanel.Stack
public import Idealize.ShloMosaic.Lib.Pointwise.Index

@[expose] public section

noncomputable section

namespace Cert.KernelIdeal.Slices

open Cert.KernelIdeal Cert.KernelIdeal.Gen Idealize.ShloMosaic Idealize.ShloMosaic.TcCoe

variable {Val : EltTy → Type} {sg : RefSig} {κ : Kind} {sp : Space} {e : EltTy}

/-- The index of one batch row's slice, among the slice's own indices and among the whole array's. -/
theorem emb_slice {d : Nat} (off : Fin 3 → ℕ) (b : Fin 8) (o : ℕ) (h : off = ![b.val, 0, o]) (inb)
    (hq : S1x256x1152.Squeezes S256x1152) (c : Fin 256) (t : Fin 1152) (ht : o + t.val < d) :
    (Rect.unit (s := (⟨3, ![8, 256, d]⟩ : Shape)) off S1x256x1152.size inb).emb (Shape.reshapeEquiv hq.numel_eq (ix2 c t)) = ix3 b c ⟨o + t.val, ht⟩ := by
  subst h
  rw [Shape.reshapeEquiv_cons_one]
  funext a
  apply Fin.ext
  rw [Rect.emb_apply]
  match a with
  | ⟨0, _⟩ => show b.val + 1 * 0 = b.val; omega
  | ⟨1, _⟩ => show 0 + 1 * c.val = c.val; omega
  | ⟨2, _⟩ => show o + 1 * t.val = o + t.val; omega

/-- A copy into one batch row's slice leaves the other rows as they were. -/
theorem read_write_other (M : Memref sg κ sp S8x256x1152 e) (b b' : Fin 8) (hb : b' ≠ b) (off : Fin 3 → ℕ) (h : off = ![b'.val, 0, 0]) (inb) (hr)
    (hq : S1x256x1152.Squeezes S256x1152) (f : M.view.ty.Contents Val) (w : S256x1152.Idx → Val e) (c : Fin 256) (t : Fin 1152) :
    M.view.read Val (View.write Val ((M.slice (Rect.unit (s := S8x256x1152) off S1x256x1152.size inb) hr).squeeze S256x1152 hq).view f w Finset.univ) (ix3 b c t)
      = M.view.read Val f (ix3 b c t) := by
  apply View.read_congr_at
  apply View.write_of_not_mem
  intro hm
  obtain ⟨x, _, hx⟩ := Finset.mem_map.mp hm
  obtain ⟨c', t', rfl⟩ : ∃ c' t', x = ix2 c' t' := ⟨x 0, x 1, eq_ix2 x⟩
  have e : (((M.slice (Rect.unit (s := S8x256x1152) off S1x256x1152.size inb) hr).squeeze S256x1152 hq).view).emb (ix2 c' t')
      = M.view.emb ((Rect.unit (s := S8x256x1152) off S1x256x1152.size inb).emb (Shape.reshapeEquiv hq.numel_eq (ix2 c' t'))) := rfl
  rw [e] at hx
  have h1 := M.view.emb.injective hx
  rw [show (Rect.unit (s := S8x256x1152) off S1x256x1152.size inb).emb (Shape.reshapeEquiv hq.numel_eq (ix2 c' t')) = ix3 b' c' ⟨0 + t'.val, by omega⟩
    from emb_slice off b' 0 h inb hq c' t' _] at h1
  exact hb (congrFun h1 0)

/-- A copy into one batch row's slice leaves the copied values in that row. -/
theorem read_write_own (M : Memref sg κ sp S8x256x1152 e) (b : Fin 8) (off : Fin 3 → ℕ) (h : off = ![b.val, 0, 0]) (inb) (hr)
    (hq : S1x256x1152.Squeezes S256x1152) (f : M.view.ty.Contents Val) (w : S256x1152.Idx → Val e) (c : Fin 256) (t : Fin 1152) :
    M.view.read Val (View.write Val ((M.slice (Rect.unit (s := S8x256x1152) off S1x256x1152.size inb) hr).squeeze S256x1152 hq).view f w Finset.univ) (ix3 b c t)
      = w (ix2 c t) := by
  have e1 : (ix3 b c t : S8x256x1152.Idx) = ix3 b c ⟨0 + t.val, by omega⟩ := by congr 1; apply Fin.ext; simp
  rw [e1, ← emb_slice (d := 1152) off b 0 h inb hq c t]
  exact View.read_write_of_mem (v := ((M.slice (Rect.unit (s := S8x256x1152) off S1x256x1152.size inb) hr).squeeze S256x1152 hq).view) f w (Finset.mem_univ (ix2 c t))

/-- What a slice of one batch row, from position `o` on, reads of a whole cache. -/
theorem read_slice (M : Memref sg κ sp S8x256x65536 e) (b : Fin 8) (o : ℕ) (ho : o + 1152 ≤ 65536) (off : Fin 3 → ℕ) (h : off = ![b.val, 0, o]) (inb) (hr)
    (hq : S1x256x1152.Squeezes S256x1152) (f : M.view.ty.Contents Val) (c : Fin 256) (t : Fin 1152) :
    View.read Val ((M.slice (Rect.unit (s := S8x256x65536) off S1x256x1152.size inb) hr).squeeze S256x1152 hq).view f (ix2 c t)
      = M.view.read Val f (ix3 b c ⟨o + t.val, by omega⟩) := by
  rw [← emb_slice (d := 65536) off b o h inb hq c t]
  rfl

/-- The eight copies read back: row `b` holds what copy `b` brought. -/
theorem read_eight (M : Memref sg κ sp S8x256x1152 e) (b : Fin 8) (f : M.view.ty.Contents Val) (w : Fin 8 → S256x1152.Idx → Val e)
    {h0 r0 q0 h1 r1 q1 h2 r2 q2 h3 r3 q3 h4 r4 q4 h5 r5 q5 h6 r6 q6 h7 r7 q7} (c : Fin 256) (t : Fin 1152) :
    M.view.read Val (View.write Val ((M.slice (Rect.unit (s := S8x256x1152) ![7, 0, 0] S1x256x1152.size h7) r7).squeeze S256x1152 q7).view
      (View.write Val ((M.slice (Rect.unit (s := S8x256x1152) ![6, 0, 0] S1x256x1152.size h6) r6).squeeze S256x1152 q6).view
      (View.write Val ((M.slice (Rect.unit (s := S8x256x1152) ![5, 0, 0] S1x256x1152.size h5) r5).squeeze S256x1152 q5).view
      (View.write Val ((M.slice (Rect.unit (s := S8x256x1152) ![4, 0, 0] S1x256x1152.size h4) r4).squeeze S256x1152 q4).view
      (View.write Val ((M.slice (Rect.unit (s := S8x256x1152) ![3, 0, 0] S1x256x1152.size h3) r3).squeeze S256x1152 q3).view
      (View.write Val ((M.slice (Rect.unit (s := S8x256x1152) ![2, 0, 0] S1x256x1152.size h2) r2).squeeze S256x1152 q2).view
      (View.write Val ((M.slice (Rect.unit (s := S8x256x1152) ![1, 0, 0] S1x256x1152.size h1) r1).squeeze S256x1152 q1).view
      (View.write Val ((M.slice (Rect.unit (s := S8x256x1152) ![0, 0, 0] S1x256x1152.size h0) r0).squeeze S256x1152 q0).view
      (f) (w 0) Finset.univ) (w 1) Finset.univ) (w 2) Finset.univ) (w 3) Finset.univ) (w 4) Finset.univ) (w 5) Finset.univ) (w 6) Finset.univ) (w 7) Finset.univ) (ix3 b c t)
      = w b (ix2 c t) := by
  fin_cases b
  · refine (read_write_other M 0 7 (by decide) _ rfl _ _ _ _ _ c t).trans ?_
    refine (read_write_other M 0 6 (by decide) _ rfl _ _ _ _ _ c t).trans ?_
    refine (read_write_other M 0 5 (by decide) _ rfl _ _ _ _ _ c t).trans ?_
    refine (read_write_other M 0 4 (by decide) _ rfl _ _ _ _ _ c t).trans ?_
    refine (read_write_other M 0 3 (by decide) _ rfl _ _ _ _ _ c t).trans ?_
    refine (read_write_other M 0 2 (by decide) _ rfl _ _ _ _ _ c t).trans ?_
    refine (read_write_other M 0 1 (by decide) _ rfl _ _ _ _ _ c t).trans ?_
    exact read_write_own M 0 _ rfl _ _ _ _ _ c t
  · refine (read_write_other M 1 7 (by decide) _ rfl _ _ _ _ _ c t).trans ?_
    refine (read_write_other M 1 6 (by decide) _ rfl _ _ _ _ _ c t).trans ?_
    refine (read_write_other M 1 5 (by decide) _ rfl _ _ _ _ _ c t).trans ?_
    refine (read_write_other M 1 4 (by decide) _ rfl _ _ _ _ _ c t).trans ?_
    refine (read_write_other M 1 3 (by decide) _ rfl _ _ _ _ _ c t).trans ?_
    refine (read_write_other M 1 2 (by decide) _ rfl _ _ _ _ _ c t).trans ?_
    exact read_write_own M 1 _ rfl _ _ _ _ _ c t
  · refine (read_write_other M 2 7 (by decide) _ rfl _ _ _ _ _ c t).trans ?_
    refine (read_write_other M 2 6 (by decide) _ rfl _ _ _ _ _ c t).trans ?_
    refine (read_write_other M 2 5 (by decide) _ rfl _ _ _ _ _ c t).trans ?_
    refine (read_write_other M 2 4 (by decide) _ rfl _ _ _ _ _ c t).trans ?_
    refine (read_write_other M 2 3 (by decide) _ rfl _ _ _ _ _ c t).trans ?_
    exact read_write_own M 2 _ rfl _ _ _ _ _ c t
  · refine (read_write_other M 3 7 (by decide) _ rfl _ _ _ _ _ c t).trans ?_
    refine (read_write_other M 3 6 (by decide) _ rfl _ _ _ _ _ c t).trans ?_
    refine (read_write_other M 3 5 (by decide) _ rfl _ _ _ _ _ c t).trans ?_
    refine (read_write_other M 3 4 (by decide) _ rfl _ _ _ _ _ c t).trans ?_
    exact read_write_own M 3 _ rfl _ _ _ _ _ c t
  · refine (read_write_other M 4 7 (by decide) _ rfl _ _ _ _ _ c t).trans ?_
    refine (read_write_other M 4 6 (by decide) _ rfl _ _ _ _ _ c t).trans ?_
    refine (read_write_other M 4 5 (by decide) _ rfl _ _ _ _ _ c t).trans ?_
    exact read_write_own M 4 _ rfl _ _ _ _ _ c t
  · refine (read_write_other M 5 7 (by decide) _ rfl _ _ _ _ _ c t).trans ?_
    refine (read_write_other M 5 6 (by decide) _ rfl _ _ _ _ _ c t).trans ?_
    exact read_write_own M 5 _ rfl _ _ _ _ _ c t
  · refine (read_write_other M 6 7 (by decide) _ rfl _ _ _ _ _ c t).trans ?_
    exact read_write_own M 6 _ rfl _ _ _ _ _ c t
  · exact read_write_own M 7 _ rfl _ _ _ _ _ c t

end Cert.KernelIdeal.Slices

end
-- ==== Proof.KValue.lean ====
/- What the kernel's one run leaves in its three results, as functions of the staged inputs and the two caches alone:
   whatever the results and the two window buffers held before, every element is stored by the run. -/
module

public import proofs.«01_k».proof.Proof.KRun
public import proofs.«01_k».proof.Proof.KBlock
public import proofs.«01_k».proof.Proof.KSlices
public import proofs.«01_k».proof.Proof.Word
public import Idealize.ShloMosaic.Lib.WholeRead
public import Idealize.ShloMosaic.Lib.Pipeline.Value

@[expose] public section

noncomputable section

namespace Cert.KernelIdeal.Value

open Cert.KernelIdeal Cert.KernelIdeal.Run Cert.KernelIdeal.Block Cert.KernelIdeal.Slices Cert.Word
open Cert.KernelIdeal.Gen hiding hmain before0_0_of before0_1_of before0_2_of before0_3_of frame_of W_main_arg0 W_main_arg1 W_main_arg2 W_main_arg3 W_main_arg4
open Idealize.ShloMosaic Idealize.ShloMosaic.TcCoe

variable {F : FTy → Type} [FloatOps F]

/-- The inputs' rows widened, row `16 b + j` holding columns `128 j …` of batch row `b`. -/
def xrow (x1 : Vec F S8x2048 .bf16) : Vec F S128x128 .f32 := fun y =>
  extf .f32 x1 bitsLt_bf16_f32 (ix2 (⟨(y 0).val / 16, by have : (y 0).val < 128 := (y 0).isLt; omega⟩ : Fin 8)
    (⟨128 * ((y 0).val % 16) + (y 1).val, by have : (y 1).val < 128 := (y 1).isLt; omega⟩ : Fin 2048))

/-- Eight of those rows: half `t` of batch row `b`. -/
def xBlk (x1 : Vec F S8x2048 .bf16) (b : Fin 8) (t : Fin 2) : Vec F S8x128 .f32 := fun y =>
  xrow x1 (ix2 (⟨16 * b.val + 8 * t.val + (y 0).val, by have : (y 0).val < 8 := (y 0).isLt; omega⟩ : Fin 128) (y 1))

/-- The new keys (values): their codes widened, four times side by side, over rows of zeros. -/
def wideNew (x2 : Vec F S32x64 .bf16) : Vec F S128x256 .bf16 := fun y =>
  if h : (y 0).val < 32 then k0_pay6 x2 (ix2 (⟨(y 0).val, h⟩ : Fin 32) (y 1)) else k0_pay5 y

/-- The cached positions held of batch row `b`: 1152 from `w` on. -/
def cacheWin (kc : Vec F S8x256x65536 .fp8e5m2) (b : Fin 8) (n : BitVec 32) : Vec F S1x256x1152 .fp8e5m2 := fun y =>
  kc (ix3 b (y 1) (⟨(spanWord n).toNat + (y 2).val, by have : (y 2).val < 1152 := (y 2).isLt; have := spanWord_le n; omega⟩ : Fin 65536))

/-- The attention of batch row `b`. -/
def attendB (x0 : Vec F S8 .i32) (x1 : Vec F S8x2048 .bf16) (x2 x3 : Vec F S32x64 .bf16) (kc vc : Vec F S8x256x65536 .fp8e5m2) (b : Fin 8) : FVec F S32x256 .f32 :=
  attend (BitVec.ofNat 32 (4 * b.val)) (spanWord (x0 (ix1 b))) (x0 (ix1 b)) (xBlk x1 b 0) (xBlk x1 b 1) (wideNew x2)
    (cacheWin kc b (x0 (ix1 b))) (cacheWin vc b (x0 (ix1 b))) (wideNew x3)

/-- The outputs' rows: row `16 b + j` holds head pair `j` of batch row `b`. -/
def orow (x0 : Vec F S8 .i32) (x1 : Vec F S8x2048 .bf16) (x2 x3 : Vec F S32x64 .bf16) (kc vc : Vec F S8x256x65536 .fp8e5m2) : Vec F S128x128 .f32 := fun y =>
  (if (y 0).val / 8 % 2 = 0 then half0 else half1)
    (attendB x0 x1 x2 x3 kc vc ⟨(y 0).val / 16, by have : (y 0).val < 128 := (y 0).isLt; omega⟩) (ix2 (⟨(y 0).val % 8, by omega⟩ : Fin 8) (y 1))

/-- The first result. -/
def outV (x0 : Vec F S8 .i32) (x1 : Vec F S8x2048 .bf16) (x2 x3 : Vec F S32x64 .bf16) (kc vc : Vec F S8x256x65536 .fp8e5m2) : Vec F S8x2048 .bf16 :=
  truncf .bf16 (fun y => orow x0 x1 x2 x3 kc vc (ix2 (⟨16 * (y 0).val + (y 1).val / 128, by
      have : (y 0).val < 8 := (y 0).isLt; have : (y 1).val < 2048 := (y 1).isLt; omega⟩ : Fin 128) (⟨(y 1).val % 128, by omega⟩ : Fin 128)) : FVec F S8x2048 .f32) bitsLt_bf16_f32

/-- Eight consecutive rows of an array of 128. -/
theorem rows_at {α : Type} (G : S128x128.Idx → α) (off : Fin 2 → ℕ) (r : ℕ) (h : off = ![r, 0]) (hr : r + 8 ≤ 128) (inb) (j : S8x128.Idx) :
    G ((Rect.unit (s := S128x128) off S8x128.size inb).toLoadRect.idx j)
      = G (ix2 (⟨r + (j 0).val, by have : (j 0).val < 8 := (j 0).isLt; omega⟩ : Fin 128) (j 1)) := by
  subst h
  congr 1
  funext a
  apply Fin.ext
  match a with
  | ⟨0, _⟩ => show r + 1 * (j 0).val = r + (j 0).val; omega
  | ⟨1, _⟩ => show 0 + 1 * (j 1).val = (j 1).val; omega

/-- Every eighth-row band of sixteen covers the array of 128 rows. -/
theorem band_mem (y : S128x128.Idx) (k : ℕ) (h : (y 0).val / 8 = k) (off : Fin 2 → ℕ) (ho : off = ![8 * k, 0]) (inb) :
    y ∈ (Rect.unit (s := S128x128) off S8x128.size inb).set := by
  subst ho
  rw [Rect.mem_set_unit]
  intro a
  match a with
  | ⟨0, _⟩ => show 8 * k ≤ (y 0).val ∧ (y 0).val < 8 * k + 8; omega
  | ⟨1, _⟩ => show 0 ≤ (y 1).val ∧ (y 1).val < 0 + 128; have : (y 1).val < 128 := (y 1).isLt; omega

/-- Every sixteenth row, from each of sixteen starts, covers the array of 128 rows. -/
theorem comb_mem (y : S128x128.Idx) (k : ℕ) (h : (y 0).val % 16 = k) (B : LoadRect S128x128) (h0 : B.off = ![k, 0]) (h1 : B.size = S8x128.size) (h2 : B.stride = ![16, 1]) :
    y ∈ B.set := by
  rw [LoadRect.mem_set]
  intro a
  rw [h0, h1, h2]
  match a with
  | ⟨0, _⟩ => exact ⟨(y 0).val / 16, by show _ < 8; have : (y 0).val < 128 := (y 0).isLt; omega, by show (y 0).val = k + 16 * ((y 0).val / 16); omega⟩
  | ⟨1, _⟩ => exact ⟨(y 1).val, (y 1).isLt, by show (y 1).val = 0 + 1 * (y 1).val; omega⟩

/-- Sixteen 128-wide column bands cover the result. -/
theorem col_mem (y : S8x2048.Idx) (k : ℕ) (h : (y 1).val / 128 = k) (off : Fin 2 → ℕ) (ho : off = ![0, 128 * k]) (inb) :
    y ∈ (Rect.unit (s := S8x2048) off S8x128.size inb).set := by
  subst ho
  rw [Rect.mem_set_unit]
  intro a
  match a with
  | ⟨0, _⟩ => show 0 ≤ (y 0).val ∧ (y 0).val < 0 + 8; have : (y 0).val < 8 := (y 0).isLt; omega
  | ⟨1, _⟩ => show 128 * k ≤ (y 1).val ∧ (y 1).val < 128 * k + 128; omega

variable (c : Dev nD) (arg0 : Memref sig .tc .smem S8 .i32) (harg0 : arg0.IsWhole) (arg1 : Memref sig .tc .vmem S8x2048 .bf16) (harg1 : arg1.IsWhole) (arg2 : Memref sig .tc .vmem S32x64 .bf16) (harg2 : arg2.IsWhole) (arg3 : Memref sig .tc .vmem S32x64 .bf16) (harg3 : arg3.IsWhole) (arg6 : Memref sig .tc .vmem S8x2048 .bf16) (harg6 : arg6.IsWhole) (arg7 : Memref sig .tc .vmem S32x64 .fp8e5m2) (harg7 : arg7.IsWhole) (arg8 : Memref sig .tc .vmem S32x64 .fp8e5m2) (harg8 : arg8.IsWhole) (arg9 : Memref sig .tc .vmem S8x256x1152 .fp8e5m2) (harg9 : arg9.IsWhole) (arg10 : Memref sig .tc .vmem S8x256x1152 .fp8e5m2) (harg10 : arg10.IsWhole) (arg11 : Memref sig .tc .vmem S128x128 .f32) (harg11 : arg11.IsWhole) (arg12 : Memref sig .tc .vmem S128x128 .f32) (harg12 : arg12.IsWhole) (arg13 : Memref sig .tc .vmem S128x256 .bf16) (harg13 : arg13.IsWhole) (arg14 : Memref sig .tc .vmem S128x256 .bf16) (harg14 : arg14.IsWhole)
    (x0 : Vec F S8 .i32) (x1 : Vec F S8x2048 .bf16) (x2 : Vec F S32x64 .bf16) (x3 : Vec F S32x64 .bf16) (fh0 : HbBuf0 (F := F) c hbM0_0) (fh1 : HbBuf0 (F := F) c hbM0_1) (k0_hw1 : k0_chk1 (arg0.view.readAt (Elt F) (Rect.unit (s := S8) ![0] S1.size inb_S8_S1_0).toLoadRect (harg0.unread x0) (Shape.Idx.first (numel1_S1.symm ▸ Nat.one_pos)))) (k0_hw2 : k0_chk2 (arg0.view.readAt (Elt F) (Rect.unit (s := S8) ![1] S1.size inb_S8_S1_1).toLoadRect (harg0.unread x0) (Shape.Idx.first (numel1_S1.symm ▸ Nat.one_pos)))) (k0_hw3 : k0_chk3 (arg0.view.readAt (Elt F) (Rect.unit (s := S8) ![2] S1.size inb_S8_S1_2).toLoadRect (harg0.unread x0) (Shape.Idx.first (numel1_S1.symm ▸ Nat.one_pos)))) (k0_hw4 : k0_chk4 (arg0.view.readAt (Elt F) (Rect.unit (s := S8) ![3] S1.size inb_S8_S1_3).toLoadRect (harg0.unread x0) (Shape.Idx.first (numel1_S1.symm ▸ Nat.one_pos)))) (k0_hw5 : k0_chk5 (arg0.view.readAt (Elt F) (Rect.unit (s := S8) ![4] S1.size inb_S8_S1_4).toLoadRect (harg0.unread x0) (Shape.Idx.first (numel1_S1.symm ▸ Nat.one_pos)))) (k0_hw6 : k0_chk6 (arg0.view.readAt (Elt F) (Rect.unit (s := S8) ![5] S1.size inb_S8_S1_5).toLoadRect (harg0.unread x0) (Shape.Idx.first (numel1_S1.symm ▸ Nat.one_pos)))) (k0_hw7 : k0_chk7 (arg0.view.readAt (Elt F) (Rect.unit (s := S8) ![6] S1.size inb_S8_S1_6).toLoadRect (harg0.unread x0) (Shape.Idx.first (numel1_S1.symm ▸ Nat.one_pos)))) (k0_hw8 : k0_chk8 (arg0.view.readAt (Elt F) (Rect.unit (s := S8) ![7] S1.size inb_S8_S1_7).toLoadRect (harg0.unread x0) (Shape.Idx.first (numel1_S1.symm ▸ Nat.one_pos))))
  (fs0 : arg9.view.ty.Contents (Elt F)) (fs1 : arg10.view.ty.Contents (Elt F))

/-- A piece of the widened inputs at its place. -/
theorem xrow_piece (j : ℕ) (hj : j < 16) (oB : Fin 2 → ℕ) (hB : oB = ![0, 128 * j]) (inb) (inbR) (spos) (x : S8x128.Idx) :
    shapeCast S8x128 (extf .f32 (shapeCast S8x128 (View.readAt (Elt F) arg1.view (Rect.unit (s := S8x2048) oB S8x128.size inb).toLoadRect (harg1.unread x1)) shapeCasts_S8x128_S8x128) bitsLt_bf16_f32) shapeCasts_S8x128_S8x128 x
      = xrow x1 ((⟨⟨![j, 0], S8x128.size, ![16, 1], inbR⟩, spos⟩ : Rect S128x128).emb x) := by
  subst hB
  have l0 : (x 0).val < 8 := (x 0).isLt
  have l1 : (x 1).val < 128 := (x 1).isLt
  rw [shapeCast_self]
  refine (congrFun (congrArg (fun v : Vec F S8x128 .bf16 => (extf .f32 v bitsLt_bf16_f32 : FVec F S8x128 .f32)) ((shapeCast_self (s := S8x128) (α := Elt F .bf16) _ _).trans (funext fun z => harg1.readAt_unread x1 (Rect.unit (s := S8x2048) _ S8x128.size inb).toLoadRect z))) x).trans ?_
  show extf .f32 x1 bitsLt_bf16_f32 _ = extf .f32 x1 bitsLt_bf16_f32 _
  congr 1
  funext a
  apply Fin.ext
  match a with
  | ⟨0, _⟩ => show 0 + 1 * (x 0).val = (j + 16 * (x 0).val) / 16; omega
  | ⟨1, _⟩ => show 128 * j + 1 * (x 1).val = 128 * ((j + 16 * (x 0).val) % 16) + (0 + 1 * (x 1).val); omega

set_option maxHeartbeats 4000000 in
/-- The widened inputs, whatever the scratch held. -/
theorem xr_canon : View.canon (kernelRun.sl.HS2_16 (F := F) c arg1 harg1 x1) = xrow x1 := by
  funext y
  refine View.canon_apply_of_pieces (xrow x1) _ ?_ y ?_
  · unfold kernelRun.sl.HS2_16
    simp only [List.forall_mem_cons, List.not_mem_nil, false_imp_iff, implies_true, and_true]
    refine ⟨?_, ?_, ?_, ?_, ?_, ?_, ?_, ?_, ?_, ?_, ?_, ?_, ?_, ?_, ?_, ?_⟩
    · exact fun x => xrow_piece arg1 harg1 x1 15 (by omega) ![0, 1920] rfl _ _ _ x
    · exact fun x => xrow_piece arg1 harg1 x1 14 (by omega) ![0, 1792] rfl _ _ _ x
    · exact fun x => xrow_piece arg1 harg1 x1 13 (by omega) ![0, 1664] rfl _ _ _ x
    · exact fun x => xrow_piece arg1 harg1 x1 12 (by omega) ![0, 1536] rfl _ _ _ x
    · exact fun x => xrow_piece arg1 harg1 x1 11 (by omega) ![0, 1408] rfl _ _ _ x
    · exact fun x => xrow_piece arg1 harg1 x1 10 (by omega) ![0, 1280] rfl _ _ _ x
    · exact fun x => xrow_piece arg1 harg1 x1 9 (by omega) ![0, 1152] rfl _ _ _ x
    · exact fun x => xrow_piece arg1 harg1 x1 8 (by omega) ![0, 1024] rfl _ _ _ x
    · exact fun x => xrow_piece arg1 harg1 x1 7 (by omega) ![0, 896] rfl _ _ _ x
    · exact fun x => xrow_piece arg1 harg1 x1 6 (by omega) ![0, 768] rfl _ _ _ x
    · exact fun x => xrow_piece arg1 harg1 x1 5 (by omega) ![0, 640] rfl _ _ _ x
    · exact fun x => xrow_piece arg1 harg1 x1 4 (by omega) ![0, 512] rfl _ _ _ x
    · exact fun x => xrow_piece arg1 harg1 x1 3 (by omega) ![0, 384] rfl _ _ _ x
    · exact fun x => xrow_piece arg1 harg1 x1 2 (by omega) ![0, 256] rfl _ _ _ x
    · exact fun x => xrow_piece arg1 harg1 x1 1 (by omega) ![0, 128] rfl _ _ _ x
    · exact fun x => xrow_piece arg1 harg1 x1 0 (by omega) ![0, 0] rfl _ _ _ x
  · unfold kernelRun.sl.HS2_16
    have hlt : (y 0).val % 16 < 16 := Nat.mod_lt _ (by omega)
    obtain ⟨k, hk⟩ : ∃ k, (y 0).val % 16 = k := ⟨_, rfl⟩
    rw [hk] at hlt
    interval_cases k
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), comb_mem y 0 hk _ rfl rfl rfl⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), comb_mem y 1 hk _ rfl rfl rfl⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), comb_mem y 2 hk _ rfl rfl rfl⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), comb_mem y 3 hk _ rfl rfl rfl⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), comb_mem y 4 hk _ rfl rfl rfl⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), comb_mem y 5 hk _ rfl rfl rfl⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), comb_mem y 6 hk _ rfl rfl rfl⟩
    · exact ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), comb_mem y 7 hk _ rfl rfl rfl⟩
    · exact ⟨_, (List.mem_cons_of_mem _ (List.mem_cons_of_mem _ (List.mem_cons_of_mem _ (List.mem_cons_of_mem _ (List.mem_cons_of_mem _ (List.mem_cons_of_mem _ (List.mem_cons_of_mem _ List.mem_cons_self))))))), comb_mem y 8 hk _ rfl rfl rfl⟩
    · exact ⟨_, (List.mem_cons_of_mem _ (List.mem_cons_of_mem _ (List.mem_cons_of_mem _ (List.mem_cons_of_mem _ (List.mem_cons_of_mem _ (List.mem_cons_of_mem _ List.mem_cons_self)))))), comb_mem y 9 hk _ rfl rfl rfl⟩
    · exact ⟨_, (List.mem_cons_of_mem _ (List.mem_cons_of_mem _ (List.mem_cons_of_mem _ (List.mem_cons_of_mem _ (List.mem_cons_of_mem _ List.mem_cons_self))))), comb_mem y 10 hk _ rfl rfl rfl⟩
    · exact ⟨_, (List.mem_cons_of_mem _ (List.mem_cons_of_mem _ (List.mem_cons_of_mem _ (List.mem_cons_of_mem _ List.mem_cons_self)))), comb_mem y 11 hk _ rfl rfl rfl⟩
    · exact ⟨_, (List.mem_cons_of_mem _ (List.mem_cons_of_mem _ (List.mem_cons_of_mem _ List.mem_cons_self))), comb_mem y 12 hk _ rfl rfl rfl⟩
    · exact ⟨_, (List.mem_cons_of_mem _ (List.mem_cons_of_mem _ List.mem_cons_self)), comb_mem y 13 hk _ rfl rfl rfl⟩
    · exact ⟨_, (List.mem_cons_of_mem _ List.mem_cons_self), comb_mem y 14 hk _ rfl rfl rfl⟩
    · exact ⟨_, List.mem_cons_self, comb_mem y 15 hk _ rfl rfl rfl⟩

theorem v338_eq : kernelRun.sl.v338 (F := F) c arg1 harg1 arg11 x1 = xBlk x1 0 0 := by
  refine (View.readCov_eq_canon' _ _ _).trans ?_
  rw [xr_canon]
  exact funext fun j => rows_at (xrow x1) _ 0 rfl (by omega) _ j

theorem v346_eq : kernelRun.sl.v346 (F := F) c arg1 harg1 arg11 x1 = xBlk x1 0 1 := by
  refine (View.readCov_eq_canon' _ _ _).trans ?_
  rw [xr_canon]
  exact funext fun j => rows_at (xrow x1) _ 8 rfl (by omega) _ j

theorem v443_eq : kernelRun.sl.v443 (F := F) c arg1 harg1 arg11 x1 = xBlk x1 1 0 := by
  refine (View.readCov_eq_canon' _ _ _).trans ?_
  rw [xr_canon]
  exact funext fun j => rows_at (xrow x1) _ 16 rfl (by omega) _ j

theorem v451_eq : kernelRun.sl.v451 (F := F) c arg1 harg1 arg11 x1 = xBlk x1 1 1 := by
  refine (View.readCov_eq_canon' _ _ _).trans ?_
  rw [xr_canon]
  exact funext fun j => rows_at (xrow x1) _ 24 rfl (by omega) _ j

theorem v548_eq : kernelRun.sl.v548 (F := F) c arg1 harg1 arg11 x1 = xBlk x1 2 0 := by
  refine (View.readCov_eq_canon' _ _ _).trans ?_
  rw [xr_canon]
  exact funext fun j => rows_at (xrow x1) _ 32 rfl (by omega) _ j

theorem v556_eq : kernelRun.sl.v556 (F := F) c arg1 harg1 arg11 x1 = xBlk x1 2 1 := by
  refine (View.readCov_eq_canon' _ _ _).trans ?_
  rw [xr_canon]
  exact funext fun j => rows_at (xrow x1) _ 40 rfl (by omega) _ j

theorem v653_eq : kernelRun.sl.v653 (F := F) c arg1 harg1 arg11 x1 = xBlk x1 3 0 := by
  refine (View.readCov_eq_canon' _ _ _).trans ?_
  rw [xr_canon]
  exact funext fun j => rows_at (xrow x1) _ 48 rfl (by omega) _ j

theorem v661_eq : kernelRun.sl.v661 (F := F) c arg1 harg1 arg11 x1 = xBlk x1 3 1 := by
  refine (View.readCov_eq_canon' _ _ _).trans ?_
  rw [xr_canon]
  exact funext fun j => rows_at (xrow x1) _ 56 rfl (by omega) _ j

theorem v758_eq : kernelRun.sl.v758 (F := F) c arg1 harg1 arg11 x1 = xBlk x1 4 0 := by
  refine (View.readCov_eq_canon' _ _ _).trans ?_
  rw [xr_canon]
  exact funext fun j => rows_at (xrow x1) _ 64 rfl (by omega) _ j

theorem v766_eq : kernelRun.sl.v766 (F := F) c arg1 harg1 arg11 x1 = xBlk x1 4 1 := by
  refine (View.readCov_eq_canon' _ _ _).trans ?_
  rw [xr_canon]
  exact funext fun j => rows_at (xrow x1) _ 72 rfl (by omega) _ j

theorem v863_eq : kernelRun.sl.v863 (F := F) c arg1 harg1 arg11 x1 = xBlk x1 5 0 := by
  refine (View.readCov_eq_canon' _ _ _).trans ?_
  rw [xr_canon]
  exact funext fun j => rows_at (xrow x1) _ 80 rfl (by omega) _ j

theorem v871_eq : kernelRun.sl.v871 (F := F) c arg1 harg1 arg11 x1 = xBlk x1 5 1 := by
  refine (View.readCov_eq_canon' _ _ _).trans ?_
  rw [xr_canon]
  exact funext fun j => rows_at (xrow x1) _ 88 rfl (by omega) _ j

theorem v968_eq : kernelRun.sl.v968 (F := F) c arg1 harg1 arg11 x1 = xBlk x1 6 0 := by
  refine (View.readCov_eq_canon' _ _ _).trans ?_
  rw [xr_canon]
  exact funext fun j => rows_at (xrow x1) _ 96 rfl (by omega) _ j

theorem v976_eq : kernelRun.sl.v976 (F := F) c arg1 harg1 arg11 x1 = xBlk x1 6 1 := by
  refine (View.readCov_eq_canon' _ _ _).trans ?_
  rw [xr_canon]
  exact funext fun j => rows_at (xrow x1) _ 104 rfl (by omega) _ j

theorem v1073_eq : kernelRun.sl.v1073 (F := F) c arg1 harg1 arg11 x1 = xBlk x1 7 0 := by
  refine (View.readCov_eq_canon' _ _ _).trans ?_
  rw [xr_canon]
  exact funext fun j => rows_at (xrow x1) _ 112 rfl (by omega) _ j

theorem v1081_eq : kernelRun.sl.v1081 (F := F) c arg1 harg1 arg11 x1 = xBlk x1 7 1 := by
  refine (View.readCov_eq_canon' _ _ _).trans ?_
  rw [xr_canon]
  exact funext fun j => rows_at (xrow x1) _ 120 rfl (by omega) _ j

/-- Thirty-two rows of codes stored over a block of zeros. -/
theorem wide_canon (x : Vec F S32x64 .bf16) :
    View.canon [(⟨Rect.unit (s := S128x256) ![0, 0] S32x256.size inb_S128x256_S32x256_0_0, k0_pay6 x⟩ : View.Piece (Elt F) S128x256 .bf16),
      ⟨Rect.unit (s := S128x256) ![0, 0] S128x256.size inb_S128x256_S128x256_0_0, k0_pay5⟩] = wideNew x := by
  funext y
  by_cases h : (y 0).val < 32
  · have hy : y = (Rect.unit (s := S128x256) ![0, 0] S32x256.size inb_S128x256_S32x256_0_0).emb (ix2 (⟨(y 0).val, h⟩ : Fin 32) (y 1)) := funext fun a => Fin.ext (by
      rw [Rect.emb_apply]
      match a with
      | ⟨0, _⟩ => show (y 0).val = 0 + 1 * (y 0).val; omega
      | ⟨1, _⟩ => show (y 1).val = 0 + 1 * (y 1).val; omega)
    refine Eq.trans (b := k0_pay6 x (ix2 (⟨(y 0).val, h⟩ : Fin 32) (y 1))) ?_ ?_
    · conv_lhs => rw [hy]
      exact View.canon_cons_emb _ _ _ _
    · unfold wideNew; rw [dif_pos h]
  · rw [View.canon_cons_of_not_mem _ _ (by
      intro hm
      have h2 := (Rect.mem_set_unit (inb := inb_S128x256_S32x256_0_0) |>.mp hm) 0
      have h3 : (y 0).val < 0 + 32 := h2.2
      omega)]
    rw [View.canon_unit_zero (S := S128x256) (by funext a; fin_cases a <;> rfl)]
    unfold wideNew; rw [dif_neg h]

theorem v358_eq : kernelRun.sl.v358 (F := F) c arg2 harg2 arg13 x2 = wideNew x2 := by
  refine (View.readCov_eq_canon' _ _ _).trans ?_
  have hr : View.readAt (Elt F) arg2.view (Rect.unit (s := S32x64) ![0, 0] S32x64.size inb_S32x64_S32x64_0_0).toLoadRect (harg2.unread x2) = x2 :=
    funext fun z => (harg2.readAt_unread x2 _ z).trans (congrArg x2 (funext fun a => Fin.ext (by
      match a with
      | ⟨0, _⟩ => show 0 + 1 * (z 0).val = (z 0).val; omega
      | ⟨1, _⟩ => show 0 + 1 * (z 1).val = (z 1).val; omega)))
  have hc : View.canon (kernelRun.sl.HS4_2 (F := F) c arg2 harg2 x2) = wideNew x2 := by
    unfold kernelRun.sl.HS4_2
    rw [hr]
    exact wide_canon x2
  rw [hc]
  exact funext fun j => congrArg (wideNew x2) (funext fun a => Fin.ext (by
      match a with
      | ⟨0, _⟩ => show 0 + 1 * (j 0).val = (j 0).val; omega
      | ⟨1, _⟩ => show 0 + 1 * (j 1).val = (j 1).val; omega))

theorem v422_eq : kernelRun.sl.v422 (F := F) c arg3 harg3 arg14 x3 = wideNew x3 := by
  refine (View.readCov_eq_canon' _ _ _).trans ?_
  have hr : View.readAt (Elt F) arg3.view (Rect.unit (s := S32x64) ![0, 0] S32x64.size inb_S32x64_S32x64_0_0).toLoadRect (harg3.unread x3) = x3 :=
    funext fun z => (harg3.readAt_unread x3 _ z).trans (congrArg x3 (funext fun a => Fin.ext (by
      match a with
      | ⟨0, _⟩ => show 0 + 1 * (z 0).val = (z 0).val; omega
      | ⟨1, _⟩ => show 0 + 1 * (z 1).val = (z 1).val; omega)))
  have hc : View.canon (kernelRun.sl.HS5_2 (F := F) c arg3 harg3 x3) = wideNew x3 := by
    unfold kernelRun.sl.HS5_2 kernelRun.sl.r_8
    rw [hr]
    exact wide_canon x3
  rw [hc]
  exact funext fun j => congrArg (wideNew x3) (funext fun a => Fin.ext (by
      match a with
      | ⟨0, _⟩ => show 0 + 1 * (j 0).val = (j 0).val; omega
      | ⟨1, _⟩ => show 0 + 1 * (j 1).val = (j 1).val; omega))

/-- The cached length of batch row 0, as the kernel reads it. -/
theorem r_12_eq : kernelRun.sl.r_12 (F := F) c arg0 harg0 x0 = x0 (ix1 0) :=
  (harg0.readAt_unread x0 _ _).trans (congrArg x0 (funext fun a => Fin.ext (by
    match a with
    | ⟨0, _⟩ => rfl)))
theorem v5_eq : kernelRun.sl.v5 (F := F) c arg0 harg0 x0 = spanWord (x0 (ix1 0)) :=
  congrArg spanWord (r_12_eq c arg0 harg0 x0)

/-- The cached length of batch row 1, as the kernel reads it. -/
theorem r_21_eq : kernelRun.sl.r_21 (F := F) c arg0 harg0 x0 = x0 (ix1 1) :=
  (harg0.readAt_unread x0 _ _).trans (congrArg x0 (funext fun a => Fin.ext (by
    match a with
    | ⟨0, _⟩ => rfl)))
theorem v12_eq : kernelRun.sl.v12 (F := F) c arg0 harg0 x0 = spanWord (x0 (ix1 1)) :=
  congrArg spanWord (r_21_eq c arg0 harg0 x0)

/-- The cached length of batch row 2, as the kernel reads it. -/
theorem r_26_eq : kernelRun.sl.r_26 (F := F) c arg0 harg0 x0 = x0 (ix1 2) :=
  (harg0.readAt_unread x0 _ _).trans (congrArg x0 (funext fun a => Fin.ext (by
    match a with
    | ⟨0, _⟩ => rfl)))
theorem v19_eq : kernelRun.sl.v19 (F := F) c arg0 harg0 x0 = spanWord (x0 (ix1 2)) :=
  congrArg spanWord (r_26_eq c arg0 harg0 x0)

/-- The cached length of batch row 3, as the kernel reads it. -/
theorem r_35_eq : kernelRun.sl.r_35 (F := F) c arg0 harg0 x0 = x0 (ix1 3) :=
  (harg0.readAt_unread x0 _ _).trans (congrArg x0 (funext fun a => Fin.ext (by
    match a with
    | ⟨0, _⟩ => rfl)))
theorem v26_eq : kernelRun.sl.v26 (F := F) c arg0 harg0 x0 = spanWord (x0 (ix1 3)) :=
  congrArg spanWord (r_35_eq c arg0 harg0 x0)

/-- The cached length of batch row 4, as the kernel reads it. -/
theorem r_42_eq : kernelRun.sl.r_42 (F := F) c arg0 harg0 x0 = x0 (ix1 4) :=
  (harg0.readAt_unread x0 _ _).trans (congrArg x0 (funext fun a => Fin.ext (by
    match a with
    | ⟨0, _⟩ => rfl)))
theorem v33_eq : kernelRun.sl.v33 (F := F) c arg0 harg0 x0 = spanWord (x0 (ix1 4)) :=
  congrArg spanWord (r_42_eq c arg0 harg0 x0)

/-- The cached length of batch row 5, as the kernel reads it. -/
theorem r_47_eq : kernelRun.sl.r_47 (F := F) c arg0 harg0 x0 = x0 (ix1 5) :=
  (harg0.readAt_unread x0 _ _).trans (congrArg x0 (funext fun a => Fin.ext (by
    match a with
    | ⟨0, _⟩ => rfl)))
theorem v40_eq : kernelRun.sl.v40 (F := F) c arg0 harg0 x0 = spanWord (x0 (ix1 5)) :=
  congrArg spanWord (r_47_eq c arg0 harg0 x0)

/-- The cached length of batch row 6, as the kernel reads it. -/
theorem r_56_eq : kernelRun.sl.r_56 (F := F) c arg0 harg0 x0 = x0 (ix1 6) :=
  (harg0.readAt_unread x0 _ _).trans (congrArg x0 (funext fun a => Fin.ext (by
    match a with
    | ⟨0, _⟩ => rfl)))
theorem v47_eq : kernelRun.sl.v47 (F := F) c arg0 harg0 x0 = spanWord (x0 (ix1 6)) :=
  congrArg spanWord (r_56_eq c arg0 harg0 x0)

/-- The cached length of batch row 7, as the kernel reads it. -/
theorem r_63_eq : kernelRun.sl.r_63 (F := F) c arg0 harg0 x0 = x0 (ix1 7) :=
  (harg0.readAt_unread x0 _ _).trans (congrArg x0 (funext fun a => Fin.ext (by
    match a with
    | ⟨0, _⟩ => rfl)))
theorem v54_eq : kernelRun.sl.v54 (F := F) c arg0 harg0 x0 = spanWord (x0 (ix1 7)) :=
  congrArg spanWord (r_63_eq c arg0 harg0 x0)

/-- What one copy brings of a cache. -/
theorem copy_eq (M : Memref sig .tc .hbm S8x256x65536 .fp8e5m2) (fh : M.view.ty.Contents (Elt F)) (b : Fin 8) (n n' : BitVec 32) (hn : n' = n) (off : Fin 3 → ℕ) (h : off = ![b.val, 0, (spanWord n').toNat])
    (inb) (hr) (hq : S1x256x1152.Squeezes S256x1152) (y : S1x256x1152.Idx) :
    View.read (Elt F) ((M.slice (Rect.unit (s := S8x256x65536) off S1x256x1152.size inb) hr).squeeze S256x1152 hq).view fh (ix2 (y 1) (y 2))
      = cacheWin (M.view.read (Elt F) fh) b n y := by
  subst hn
  exact read_slice M b (spanWord n').toNat (by have := spanWord_le n'; omega) off h inb hr hq fh (y 1) (y 2)

/-- The place of batch row `b`'s block in its buffer. -/
theorem block_at {α : Type} (G : S8x256x1152.Idx → α) (b : Fin 8) (off : Fin 3 → ℕ) (h : off = ![b.val, 0, 0]) (inb) (y : S1x256x1152.Idx) :
    G ((Rect.unit (s := S8x256x1152) off S1x256x1152.size inb).toLoadRect.idx y) = G (ix3 b (y 1) (y 2)) := by
  subst h
  congr 1
  funext a
  apply Fin.ext
  match a with
  | ⟨0, _⟩ => show b.val + 1 * (y 0).val = b.val; have : (y 0).val < 1 := (y 0).isLt; omega
  | ⟨1, _⟩ => show 0 + 1 * (y 1).val = (y 1).val; omega
  | ⟨2, _⟩ => show 0 + 1 * (y 2).val = (y 2).val; omega

theorem v373_eq : kernelRun.sl.v373 (F := F) c arg0 harg0 arg9 x0 fh0 k0_hw1 k0_hw2 k0_hw3 k0_hw4 k0_hw5 k0_hw6 k0_hw7 k0_hw8 fs0 = cacheWin ((Memref.whole main_v4).view.read (Elt F) fh0) 0 (x0 (ix1 0)) := by
  funext y
  refine (block_at (arg9.view.read (Elt F) _) 0 ![0, 0, 0] rfl _ y).trans ?_
  refine (read_eight (Val := Elt F) arg9 0 fs0 ![(kernelRun.sl.dma8 (F := F) c arg0 harg0 x0 fh0 k0_hw1), (kernelRun.sl.dma8_2 (F := F) c arg0 harg0 x0 fh0 k0_hw2), (kernelRun.sl.dma8_4 (F := F) c arg0 harg0 x0 fh0 k0_hw3), (kernelRun.sl.dma8_6 (F := F) c arg0 harg0 x0 fh0 k0_hw4), (kernelRun.sl.dma8_8 (F := F) c arg0 harg0 x0 fh0 k0_hw5), (kernelRun.sl.dma8_10 (F := F) c arg0 harg0 x0 fh0 k0_hw6), (kernelRun.sl.dma8_12 (F := F) c arg0 harg0 x0 fh0 k0_hw7), (kernelRun.sl.dma8_14 (F := F) c arg0 harg0 x0 fh0 k0_hw8)] (y 1) (y 2)).trans ?_
  change kernelRun.sl.dma8 (F := F) c arg0 harg0 x0 fh0 k0_hw1 (ix2 (y 1) (y 2)) = _
  unfold kernelRun.sl.dma8
  exact copy_eq (Memref.whole main_v4) fh0 0 (x0 (ix1 0)) _ (r_12_eq c arg0 harg0 x0) (k0_off1 (kernelRun.sl.r c arg0 harg0 x0)) rfl _ _ _ y

theorem v478_eq : kernelRun.sl.v478 (F := F) c arg0 harg0 arg9 x0 fh0 k0_hw1 k0_hw2 k0_hw3 k0_hw4 k0_hw5 k0_hw6 k0_hw7 k0_hw8 fs0 = cacheWin ((Memref.whole main_v4).view.read (Elt F) fh0) 1 (x0 (ix1 1)) := by
  funext y
  refine (block_at (arg9.view.read (Elt F) _) 1 ![1, 0, 0] rfl _ y).trans ?_
  refine (read_eight (Val := Elt F) arg9 1 fs0 ![(kernelRun.sl.dma8 (F := F) c arg0 harg0 x0 fh0 k0_hw1), (kernelRun.sl.dma8_2 (F := F) c arg0 harg0 x0 fh0 k0_hw2), (kernelRun.sl.dma8_4 (F := F) c arg0 harg0 x0 fh0 k0_hw3), (kernelRun.sl.dma8_6 (F := F) c arg0 harg0 x0 fh0 k0_hw4), (kernelRun.sl.dma8_8 (F := F) c arg0 harg0 x0 fh0 k0_hw5), (kernelRun.sl.dma8_10 (F := F) c arg0 harg0 x0 fh0 k0_hw6), (kernelRun.sl.dma8_12 (F := F) c arg0 harg0 x0 fh0 k0_hw7), (kernelRun.sl.dma8_14 (F := F) c arg0 harg0 x0 fh0 k0_hw8)] (y 1) (y 2)).trans ?_
  change kernelRun.sl.dma8_2 (F := F) c arg0 harg0 x0 fh0 k0_hw2 (ix2 (y 1) (y 2)) = _
  unfold kernelRun.sl.dma8_2
  exact copy_eq (Memref.whole main_v4) fh0 1 (x0 (ix1 1)) _ (r_21_eq c arg0 harg0 x0) (k0_off2 (kernelRun.sl.r_1 c arg0 harg0 x0)) rfl _ _ _ y

theorem v583_eq : kernelRun.sl.v583 (F := F) c arg0 harg0 arg9 x0 fh0 k0_hw1 k0_hw2 k0_hw3 k0_hw4 k0_hw5 k0_hw6 k0_hw7 k0_hw8 fs0 = cacheWin ((Memref.whole main_v4).view.read (Elt F) fh0) 2 (x0 (ix1 2)) := by
  funext y
  refine (block_at (arg9.view.read (Elt F) _) 2 ![2, 0, 0] rfl _ y).trans ?_
  refine (read_eight (Val := Elt F) arg9 2 fs0 ![(kernelRun.sl.dma8 (F := F) c arg0 harg0 x0 fh0 k0_hw1), (kernelRun.sl.dma8_2 (F := F) c arg0 harg0 x0 fh0 k0_hw2), (kernelRun.sl.dma8_4 (F := F) c arg0 harg0 x0 fh0 k0_hw3), (kernelRun.sl.dma8_6 (F := F) c arg0 harg0 x0 fh0 k0_hw4), (kernelRun.sl.dma8_8 (F := F) c arg0 harg0 x0 fh0 k0_hw5), (kernelRun.sl.dma8_10 (F := F) c arg0 harg0 x0 fh0 k0_hw6), (kernelRun.sl.dma8_12 (F := F) c arg0 harg0 x0 fh0 k0_hw7), (kernelRun.sl.dma8_14 (F := F) c arg0 harg0 x0 fh0 k0_hw8)] (y 1) (y 2)).trans ?_
  change kernelRun.sl.dma8_4 (F := F) c arg0 harg0 x0 fh0 k0_hw3 (ix2 (y 1) (y 2)) = _
  unfold kernelRun.sl.dma8_4
  exact copy_eq (Memref.whole main_v4) fh0 2 (x0 (ix1 2)) _ (r_26_eq c arg0 harg0 x0) (k0_off3 (kernelRun.sl.r_2 c arg0 harg0 x0)) rfl _ _ _ y

theorem v688_eq : kernelRun.sl.v688 (F := F) c arg0 harg0 arg9 x0 fh0 k0_hw1 k0_hw2 k0_hw3 k0_hw4 k0_hw5 k0_hw6 k0_hw7 k0_hw8 fs0 = cacheWin ((Memref.whole main_v4).view.read (Elt F) fh0) 3 (x0 (ix1 3)) := by
  funext y
  refine (block_at (arg9.view.read (Elt F) _) 3 ![3, 0, 0] rfl _ y).trans ?_
  refine (read_eight (Val := Elt F) arg9 3 fs0 ![(kernelRun.sl.dma8 (F := F) c arg0 harg0 x0 fh0 k0_hw1), (kernelRun.sl.dma8_2 (F := F) c arg0 harg0 x0 fh0 k0_hw2), (kernelRun.sl.dma8_4 (F := F) c arg0 harg0 x0 fh0 k0_hw3), (kernelRun.sl.dma8_6 (F := F) c arg0 harg0 x0 fh0 k0_hw4), (kernelRun.sl.dma8_8 (F := F) c arg0 harg0 x0 fh0 k0_hw5), (kernelRun.sl.dma8_10 (F := F) c arg0 harg0 x0 fh0 k0_hw6), (kernelRun.sl.dma8_12 (F := F) c arg0 harg0 x0 fh0 k0_hw7), (kernelRun.sl.dma8_14 (F := F) c arg0 harg0 x0 fh0 k0_hw8)] (y 1) (y 2)).trans ?_
  change kernelRun.sl.dma8_6 (F := F) c arg0 harg0 x0 fh0 k0_hw4 (ix2 (y 1) (y 2)) = _
  unfold kernelRun.sl.dma8_6
  exact copy_eq (Memref.whole main_v4) fh0 3 (x0 (ix1 3)) _ (r_35_eq c arg0 harg0 x0) (k0_off4 (kernelRun.sl.r_3 c arg0 harg0 x0)) rfl _ _ _ y

theorem v793_eq : kernelRun.sl.v793 (F := F) c arg0 harg0 arg9 x0 fh0 k0_hw1 k0_hw2 k0_hw3 k0_hw4 k0_hw5 k0_hw6 k0_hw7 k0_hw8 fs0 = cacheWin ((Memref.whole main_v4).view.read (Elt F) fh0) 4 (x0 (ix1 4)) := by
  funext y
  refine (block_at (arg9.view.read (Elt F) _) 4 ![4, 0, 0] rfl _ y).trans ?_
  refine (read_eight (Val := Elt F) arg9 4 fs0 ![(kernelRun.sl.dma8 (F := F) c arg0 harg0 x0 fh0 k0_hw1), (kernelRun.sl.dma8_2 (F := F) c arg0 harg0 x0 fh0 k0_hw2), (kernelRun.sl.dma8_4 (F := F) c arg0 harg0 x0 fh0 k0_hw3), (kernelRun.sl.dma8_6 (F := F) c arg0 harg0 x0 fh0 k0_hw4), (kernelRun.sl.dma8_8 (F := F) c arg0 harg0 x0 fh0 k0_hw5), (kernelRun.sl.dma8_10 (F := F) c arg0 harg0 x0 fh0 k0_hw6), (kernelRun.sl.dma8_12 (F := F) c arg0 harg0 x0 fh0 k0_hw7), (kernelRun.sl.dma8_14 (F := F) c arg0 harg0 x0 fh0 k0_hw8)] (y 1) (y 2)).trans ?_
  change kernelRun.sl.dma8_8 (F := F) c arg0 harg0 x0 fh0 k0_hw5 (ix2 (y 1) (y 2)) = _
  unfold kernelRun.sl.dma8_8
  exact copy_eq (Memref.whole main_v4) fh0 4 (x0 (ix1 4)) _ (r_42_eq c arg0 harg0 x0) (k0_off5 (kernelRun.sl.r_4 c arg0 harg0 x0)) rfl _ _ _ y

theorem v898_eq : kernelRun.sl.v898 (F := F) c arg0 harg0 arg9 x0 fh0 k0_hw1 k0_hw2 k0_hw3 k0_hw4 k0_hw5 k0_hw6 k0_hw7 k0_hw8 fs0 = cacheWin ((Memref.whole main_v4).view.read (Elt F) fh0) 5 (x0 (ix1 5)) := by
  funext y
  refine (block_at (arg9.view.read (Elt F) _) 5 ![5, 0, 0] rfl _ y).trans ?_
  refine (read_eight (Val := Elt F) arg9 5 fs0 ![(kernelRun.sl.dma8 (F := F) c arg0 harg0 x0 fh0 k0_hw1), (kernelRun.sl.dma8_2 (F := F) c arg0 harg0 x0 fh0 k0_hw2), (kernelRun.sl.dma8_4 (F := F) c arg0 harg0 x0 fh0 k0_hw3), (kernelRun.sl.dma8_6 (F := F) c arg0 harg0 x0 fh0 k0_hw4), (kernelRun.sl.dma8_8 (F := F) c arg0 harg0 x0 fh0 k0_hw5), (kernelRun.sl.dma8_10 (F := F) c arg0 harg0 x0 fh0 k0_hw6), (kernelRun.sl.dma8_12 (F := F) c arg0 harg0 x0 fh0 k0_hw7), (kernelRun.sl.dma8_14 (F := F) c arg0 harg0 x0 fh0 k0_hw8)] (y 1) (y 2)).trans ?_
  change kernelRun.sl.dma8_10 (F := F) c arg0 harg0 x0 fh0 k0_hw6 (ix2 (y 1) (y 2)) = _
  unfold kernelRun.sl.dma8_10
  exact copy_eq (Memref.whole main_v4) fh0 5 (x0 (ix1 5)) _ (r_47_eq c arg0 harg0 x0) (k0_off6 (kernelRun.sl.r_5 c arg0 harg0 x0)) rfl _ _ _ y

theorem v1003_eq : kernelRun.sl.v1003 (F := F) c arg0 harg0 arg9 x0 fh0 k0_hw1 k0_hw2 k0_hw3 k0_hw4 k0_hw5 k0_hw6 k0_hw7 k0_hw8 fs0 = cacheWin ((Memref.whole main_v4).view.read (Elt F) fh0) 6 (x0 (ix1 6)) := by
  funext y
  refine (block_at (arg9.view.read (Elt F) _) 6 ![6, 0, 0] rfl _ y).trans ?_
  refine (read_eight (Val := Elt F) arg9 6 fs0 ![(kernelRun.sl.dma8 (F := F) c arg0 harg0 x0 fh0 k0_hw1), (kernelRun.sl.dma8_2 (F := F) c arg0 harg0 x0 fh0 k0_hw2), (kernelRun.sl.dma8_4 (F := F) c arg0 harg0 x0 fh0 k0_hw3), (kernelRun.sl.dma8_6 (F := F) c arg0 harg0 x0 fh0 k0_hw4), (kernelRun.sl.dma8_8 (F := F) c arg0 harg0 x0 fh0 k0_hw5), (kernelRun.sl.dma8_10 (F := F) c arg0 harg0 x0 fh0 k0_hw6), (kernelRun.sl.dma8_12 (F := F) c arg0 harg0 x0 fh0 k0_hw7), (kernelRun.sl.dma8_14 (F := F) c arg0 harg0 x0 fh0 k0_hw8)] (y 1) (y 2)).trans ?_
  change kernelRun.sl.dma8_12 (F := F) c arg0 harg0 x0 fh0 k0_hw7 (ix2 (y 1) (y 2)) = _
  unfold kernelRun.sl.dma8_12
  exact copy_eq (Memref.whole main_v4) fh0 6 (x0 (ix1 6)) _ (r_56_eq c arg0 harg0 x0) (k0_off7 (kernelRun.sl.r_6 c arg0 harg0 x0)) rfl _ _ _ y

theorem v1108_eq : kernelRun.sl.v1108 (F := F) c arg0 harg0 arg9 x0 fh0 k0_hw1 k0_hw2 k0_hw3 k0_hw4 k0_hw5 k0_hw6 k0_hw7 k0_hw8 fs0 = cacheWin ((Memref.whole main_v4).view.read (Elt F) fh0) 7 (x0 (ix1 7)) := by
  funext y
  refine (block_at (arg9.view.read (Elt F) _) 7 ![7, 0, 0] rfl _ y).trans ?_
  refine (read_eight (Val := Elt F) arg9 7 fs0 ![(kernelRun.sl.dma8 (F := F) c arg0 harg0 x0 fh0 k0_hw1), (kernelRun.sl.dma8_2 (F := F) c arg0 harg0 x0 fh0 k0_hw2), (kernelRun.sl.dma8_4 (F := F) c arg0 harg0 x0 fh0 k0_hw3), (kernelRun.sl.dma8_6 (F := F) c arg0 harg0 x0 fh0 k0_hw4), (kernelRun.sl.dma8_8 (F := F) c arg0 harg0 x0 fh0 k0_hw5), (kernelRun.sl.dma8_10 (F := F) c arg0 harg0 x0 fh0 k0_hw6), (kernelRun.sl.dma8_12 (F := F) c arg0 harg0 x0 fh0 k0_hw7), (kernelRun.sl.dma8_14 (F := F) c arg0 harg0 x0 fh0 k0_hw8)] (y 1) (y 2)).trans ?_
  change kernelRun.sl.dma8_14 (F := F) c arg0 harg0 x0 fh0 k0_hw8 (ix2 (y 1) (y 2)) = _
  unfold kernelRun.sl.dma8_14
  exact copy_eq (Memref.whole main_v4) fh0 7 (x0 (ix1 7)) _ (r_63_eq c arg0 harg0 x0) (k0_off8 (kernelRun.sl.r_7 c arg0 harg0 x0)) rfl _ _ _ y

theorem v419_eq : kernelRun.sl.v419 (F := F) c arg0 harg0 arg10 x0 fh1 k0_hw1 k0_hw2 k0_hw3 k0_hw4 k0_hw5 k0_hw6 k0_hw7 k0_hw8 fs1 = cacheWin ((Memref.whole main_v6).view.read (Elt F) fh1) 0 (x0 (ix1 0)) := by
  funext y
  refine (block_at (arg10.view.read (Elt F) _) 0 ![0, 0, 0] rfl _ y).trans ?_
  refine (read_eight (Val := Elt F) arg10 0 fs1 ![(kernelRun.sl.dma8_1 (F := F) c arg0 harg0 x0 fh1 k0_hw1), (kernelRun.sl.dma8_3 (F := F) c arg0 harg0 x0 fh1 k0_hw2), (kernelRun.sl.dma8_5 (F := F) c arg0 harg0 x0 fh1 k0_hw3), (kernelRun.sl.dma8_7 (F := F) c arg0 harg0 x0 fh1 k0_hw4), (kernelRun.sl.dma8_9 (F := F) c arg0 harg0 x0 fh1 k0_hw5), (kernelRun.sl.dma8_11 (F := F) c arg0 harg0 x0 fh1 k0_hw6), (kernelRun.sl.dma8_13 (F := F) c arg0 harg0 x0 fh1 k0_hw7), (kernelRun.sl.dma8_15 (F := F) c arg0 harg0 x0 fh1 k0_hw8)] (y 1) (y 2)).trans ?_
  change kernelRun.sl.dma8_1 (F := F) c arg0 harg0 x0 fh1 k0_hw1 (ix2 (y 1) (y 2)) = _
  unfold kernelRun.sl.dma8_1
  exact copy_eq (Memref.whole main_v6) fh1 0 (x0 (ix1 0)) _ (r_12_eq c arg0 harg0 x0) (k0_off1 (kernelRun.sl.r c arg0 harg0 x0)) rfl _ _ _ y

theorem v524_eq : kernelRun.sl.v524 (F := F) c arg0 harg0 arg10 x0 fh1 k0_hw1 k0_hw2 k0_hw3 k0_hw4 k0_hw5 k0_hw6 k0_hw7 k0_hw8 fs1 = cacheWin ((Memref.whole main_v6).view.read (Elt F) fh1) 1 (x0 (ix1 1)) := by
  funext y
  refine (block_at (arg10.view.read (Elt F) _) 1 ![1, 0, 0] rfl _ y).trans ?_
  refine (read_eight (Val := Elt F) arg10 1 fs1 ![(kernelRun.sl.dma8_1 (F := F) c arg0 harg0 x0 fh1 k0_hw1), (kernelRun.sl.dma8_3 (F := F) c arg0 harg0 x0 fh1 k0_hw2), (kernelRun.sl.dma8_5 (F := F) c arg0 harg0 x0 fh1 k0_hw3), (kernelRun.sl.dma8_7 (F := F) c arg0 harg0 x0 fh1 k0_hw4), (kernelRun.sl.dma8_9 (F := F) c arg0 harg0 x0 fh1 k0_hw5), (kernelRun.sl.dma8_11 (F := F) c arg0 harg0 x0 fh1 k0_hw6), (kernelRun.sl.dma8_13 (F := F) c arg0 harg0 x0 fh1 k0_hw7), (kernelRun.sl.dma8_15 (F := F) c arg0 harg0 x0 fh1 k0_hw8)] (y 1) (y 2)).trans ?_
  change kernelRun.sl.dma8_3 (F := F) c arg0 harg0 x0 fh1 k0_hw2 (ix2 (y 1) (y 2)) = _
  unfold kernelRun.sl.dma8_3
  exact copy_eq (Memref.whole main_v6) fh1 1 (x0 (ix1 1)) _ (r_21_eq c arg0 harg0 x0) (k0_off2 (kernelRun.sl.r_1 c arg0 harg0 x0)) rfl _ _ _ y

theorem v629_eq : kernelRun.sl.v629 (F := F) c arg0 harg0 arg10 x0 fh1 k0_hw1 k0_hw2 k0_hw3 k0_hw4 k0_hw5 k0_hw6 k0_hw7 k0_hw8 fs1 = cacheWin ((Memref.whole main_v6).view.read (Elt F) fh1) 2 (x0 (ix1 2)) := by
  funext y
  refine (block_at (arg10.view.read (Elt F) _) 2 ![2, 0, 0] rfl _ y).trans ?_
  refine (read_eight (Val := Elt F) arg10 2 fs1 ![(kernelRun.sl.dma8_1 (F := F) c arg0 harg0 x0 fh1 k0_hw1), (kernelRun.sl.dma8_3 (F := F) c arg0 harg0 x0 fh1 k0_hw2), (kernelRun.sl.dma8_5 (F := F) c arg0 harg0 x0 fh1 k0_hw3), (kernelRun.sl.dma8_7 (F := F) c arg0 harg0 x0 fh1 k0_hw4), (kernelRun.sl.dma8_9 (F := F) c arg0 harg0 x0 fh1 k0_hw5), (kernelRun.sl.dma8_11 (F := F) c arg0 harg0 x0 fh1 k0_hw6), (kernelRun.sl.dma8_13 (F := F) c arg0 harg0 x0 fh1 k0_hw7), (kernelRun.sl.dma8_15 (F := F) c arg0 harg0 x0 fh1 k0_hw8)] (y 1) (y 2)).trans ?_
  change kernelRun.sl.dma8_5 (F := F) c arg0 harg0 x0 fh1 k0_hw3 (ix2 (y 1) (y 2)) = _
  unfold kernelRun.sl.dma8_5
  exact copy_eq (Memref.whole main_v6) fh1 2 (x0 (ix1 2)) _ (r_26_eq c arg0 harg0 x0) (k0_off3 (kernelRun.sl.r_2 c arg0 harg0 x0)) rfl _ _ _ y

theorem v734_eq : kernelRun.sl.v734 (F := F) c arg0 harg0 arg10 x0 fh1 k0_hw1 k0_hw2 k0_hw3 k0_hw4 k0_hw5 k0_hw6 k0_hw7 k0_hw8 fs1 = cacheWin ((Memref.whole main_v6).view.read (Elt F) fh1) 3 (x0 (ix1 3)) := by
  funext y
  refine (block_at (arg10.view.read (Elt F) _) 3 ![3, 0, 0] rfl _ y).trans ?_
  refine (read_eight (Val := Elt F) arg10 3 fs1 ![(kernelRun.sl.dma8_1 (F := F) c arg0 harg0 x0 fh1 k0_hw1), (kernelRun.sl.dma8_3 (F := F) c arg0 harg0 x0 fh1 k0_hw2), (kernelRun.sl.dma8_5 (F := F) c arg0 harg0 x0 fh1 k0_hw3), (kernelRun.sl.dma8_7 (F := F) c arg0 harg0 x0 fh1 k0_hw4), (kernelRun.sl.dma8_9 (F := F) c arg0 harg0 x0 fh1 k0_hw5), (kernelRun.sl.dma8_11 (F := F) c arg0 harg0 x0 fh1 k0_hw6), (kernelRun.sl.dma8_13 (F := F) c arg0 harg0 x0 fh1 k0_hw7), (kernelRun.sl.dma8_15 (F := F) c arg0 harg0 x0 fh1 k0_hw8)] (y 1) (y 2)).trans ?_
  change kernelRun.sl.dma8_7 (F := F) c arg0 harg0 x0 fh1 k0_hw4 (ix2 (y 1) (y 2)) = _
  unfold kernelRun.sl.dma8_7
  exact copy_eq (Memref.whole main_v6) fh1 3 (x0 (ix1 3)) _ (r_35_eq c arg0 harg0 x0) (k0_off4 (kernelRun.sl.r_3 c arg0 harg0 x0)) rfl _ _ _ y

theorem v839_eq : kernelRun.sl.v839 (F := F) c arg0 harg0 arg10 x0 fh1 k0_hw1 k0_hw2 k0_hw3 k0_hw4 k0_hw5 k0_hw6 k0_hw7 k0_hw8 fs1 = cacheWin ((Memref.whole main_v6).view.read (Elt F) fh1) 4 (x0 (ix1 4)) := by
  funext y
  refine (block_at (arg10.view.read (Elt F) _) 4 ![4, 0, 0] rfl _ y).trans ?_
  refine (read_eight (Val := Elt F) arg10 4 fs1 ![(kernelRun.sl.dma8_1 (F := F) c arg0 harg0 x0 fh1 k0_hw1), (kernelRun.sl.dma8_3 (F := F) c arg0 harg0 x0 fh1 k0_hw2), (kernelRun.sl.dma8_5 (F := F) c arg0 harg0 x0 fh1 k0_hw3), (kernelRun.sl.dma8_7 (F := F) c arg0 harg0 x0 fh1 k0_hw4), (kernelRun.sl.dma8_9 (F := F) c arg0 harg0 x0 fh1 k0_hw5), (kernelRun.sl.dma8_11 (F := F) c arg0 harg0 x0 fh1 k0_hw6), (kernelRun.sl.dma8_13 (F := F) c arg0 harg0 x0 fh1 k0_hw7), (kernelRun.sl.dma8_15 (F := F) c arg0 harg0 x0 fh1 k0_hw8)] (y 1) (y 2)).trans ?_
  change kernelRun.sl.dma8_9 (F := F) c arg0 harg0 x0 fh1 k0_hw5 (ix2 (y 1) (y 2)) = _
  unfold kernelRun.sl.dma8_9
  exact copy_eq (Memref.whole main_v6) fh1 4 (x0 (ix1 4)) _ (r_42_eq c arg0 harg0 x0) (k0_off5 (kernelRun.sl.r_4 c arg0 harg0 x0)) rfl _ _ _ y

theorem v944_eq : kernelRun.sl.v944 (F := F) c arg0 harg0 arg10 x0 fh1 k0_hw1 k0_hw2 k0_hw3 k0_hw4 k0_hw5 k0_hw6 k0_hw7 k0_hw8 fs1 = cacheWin ((Memref.whole main_v6).view.read (Elt F) fh1) 5 (x0 (ix1 5)) := by
  funext y
  refine (block_at (arg10.view.read (Elt F) _) 5 ![5, 0, 0] rfl _ y).trans ?_
  refine (read_eight (Val := Elt F) arg10 5 fs1 ![(kernelRun.sl.dma8_1 (F := F) c arg0 harg0 x0 fh1 k0_hw1), (kernelRun.sl.dma8_3 (F := F) c arg0 harg0 x0 fh1 k0_hw2), (kernelRun.sl.dma8_5 (F := F) c arg0 harg0 x0 fh1 k0_hw3), (kernelRun.sl.dma8_7 (F := F) c arg0 harg0 x0 fh1 k0_hw4), (kernelRun.sl.dma8_9 (F := F) c arg0 harg0 x0 fh1 k0_hw5), (kernelRun.sl.dma8_11 (F := F) c arg0 harg0 x0 fh1 k0_hw6), (kernelRun.sl.dma8_13 (F := F) c arg0 harg0 x0 fh1 k0_hw7), (kernelRun.sl.dma8_15 (F := F) c arg0 harg0 x0 fh1 k0_hw8)] (y 1) (y 2)).trans ?_
  change kernelRun.sl.dma8_11 (F := F) c arg0 harg0 x0 fh1 k0_hw6 (ix2 (y 1) (y 2)) = _
  unfold kernelRun.sl.dma8_11
  exact copy_eq (Memref.whole main_v6) fh1 5 (x0 (ix1 5)) _ (r_47_eq c arg0 harg0 x0) (k0_off6 (kernelRun.sl.r_5 c arg0 harg0 x0)) rfl _ _ _ y

theorem v1049_eq : kernelRun.sl.v1049 (F := F) c arg0 harg0 arg10 x0 fh1 k0_hw1 k0_hw2 k0_hw3 k0_hw4 k0_hw5 k0_hw6 k0_hw7 k0_hw8 fs1 = cacheWin ((Memref.whole main_v6).view.read (Elt F) fh1) 6 (x0 (ix1 6)) := by
  funext y
  refine (block_at (arg10.view.read (Elt F) _) 6 ![6, 0, 0] rfl _ y).trans ?_
  refine (read_eight (Val := Elt F) arg10 6 fs1 ![(kernelRun.sl.dma8_1 (F := F) c arg0 harg0 x0 fh1 k0_hw1), (kernelRun.sl.dma8_3 (F := F) c arg0 harg0 x0 fh1 k0_hw2), (kernelRun.sl.dma8_5 (F := F) c arg0 harg0 x0 fh1 k0_hw3), (kernelRun.sl.dma8_7 (F := F) c arg0 harg0 x0 fh1 k0_hw4), (kernelRun.sl.dma8_9 (F := F) c arg0 harg0 x0 fh1 k0_hw5), (kernelRun.sl.dma8_11 (F := F) c arg0 harg0 x0 fh1 k0_hw6), (kernelRun.sl.dma8_13 (F := F) c arg0 harg0 x0 fh1 k0_hw7), (kernelRun.sl.dma8_15 (F := F) c arg0 harg0 x0 fh1 k0_hw8)] (y 1) (y 2)).trans ?_
  change kernelRun.sl.dma8_13 (F := F) c arg0 harg0 x0 fh1 k0_hw7 (ix2 (y 1) (y 2)) = _
  unfold kernelRun.sl.dma8_13
  exact copy_eq (Memref.whole main_v6) fh1 6 (x0 (ix1 6)) _ (r_56_eq c arg0 harg0 x0) (k0_off7 (kernelRun.sl.r_6 c arg0 harg0 x0)) rfl _ _ _ y

theorem v1154_eq : kernelRun.sl.v1154 (F := F) c arg0 harg0 arg10 x0 fh1 k0_hw1 k0_hw2 k0_hw3 k0_hw4 k0_hw5 k0_hw6 k0_hw7 k0_hw8 fs1 = cacheWin ((Memref.whole main_v6).view.read (Elt F) fh1) 7 (x0 (ix1 7)) := by
  funext y
  refine (block_at (arg10.view.read (Elt F) _) 7 ![7, 0, 0] rfl _ y).trans ?_
  refine (read_eight (Val := Elt F) arg10 7 fs1 ![(kernelRun.sl.dma8_1 (F := F) c arg0 harg0 x0 fh1 k0_hw1), (kernelRun.sl.dma8_3 (F := F) c arg0 harg0 x0 fh1 k0_hw2), (kernelRun.sl.dma8_5 (F := F) c arg0 harg0 x0 fh1 k0_hw3), (kernelRun.sl.dma8_7 (F := F) c arg0 harg0 x0 fh1 k0_hw4), (kernelRun.sl.dma8_9 (F := F) c arg0 harg0 x0 fh1 k0_hw5), (kernelRun.sl.dma8_11 (F := F) c arg0 harg0 x0 fh1 k0_hw6), (kernelRun.sl.dma8_13 (F := F) c arg0 harg0 x0 fh1 k0_hw7), (kernelRun.sl.dma8_15 (F := F) c arg0 harg0 x0 fh1 k0_hw8)] (y 1) (y 2)).trans ?_
  change kernelRun.sl.dma8_15 (F := F) c arg0 harg0 x0 fh1 k0_hw8 (ix2 (y 1) (y 2)) = _
  unfold kernelRun.sl.dma8_15
  exact copy_eq (Memref.whole main_v6) fh1 7 (x0 (ix1 7)) _ (r_63_eq c arg0 harg0 x0) (k0_off8 (kernelRun.sl.r_7 c arg0 harg0 x0)) rfl _ _ _ y

/-- A block of output rows at its place. -/
theorem orow_piece (b : Fin 8) (t : ℕ) (ht : t < 2) (kc vc : Vec F S8x256x65536 .fp8e5m2) (R : Rect S128x128) (hR : R.off = ![16 * b.val + 8 * t, 0]) (hRs : R.stride = fun _ => 1) (hsz : R.size = S8x128.size)
    (x : R.shape.Idx) (z : S8x128.Idx) (hz : ∀ a, (z a).val = (x a).val) :
    (if t = 0 then half0 else half1) (attendB x0 x1 x2 x3 kc vc b) z = orow x0 x1 x2 x3 kc vc (R.emb x) := by
  have e0 : (R.emb x 0).val = 16 * b.val + 8 * t + 1 * (x 0).val := by rw [Rect.emb_apply, hR, hRs]; rfl
  have e1 : (R.emb x 1).val = 0 + 1 * (x 1).val := by rw [Rect.emb_apply, hR, hRs]; rfl
  have hz0 := hz 0
  have hz1 := hz 1
  have l0 : (z 0).val < 8 := (z 0).isLt
  unfold orow
  have hb : (⟨(R.emb x 0).val / 16, by have : (R.emb x 0).val < 128 := (R.emb x 0).isLt; omega⟩ : Fin 8) = b := Fin.ext (by show (R.emb x 0).val / 16 = b.val; omega)
  have hz' : (ix2 (⟨(R.emb x 0).val % 8, by omega⟩ : Fin 8) (R.emb x 1) : S8x128.Idx) = z := funext fun a => Fin.ext (by
    match a with
    | ⟨0, _⟩ => show (R.emb x 0).val % 8 = (z 0).val; omega
    | ⟨1, _⟩ => show (R.emb x 1).val = (z 1).val; omega)
  have ht' : ((R.emb x 0).val / 8 % 2 = 0) ↔ (t = 0) := by omega
  rw [hb, hz']
  simp only [ht']

/-- The attention run for batch row 0 is the one stated. -/
theorem attend0_eq : attend 0#32 (kernelRun.sl.v5 (F := F) c arg0 harg0 x0) (kernelRun.sl.r_12 (F := F) c arg0 harg0 x0) (kernelRun.sl.v338 c arg1 harg1 arg11 x1) (kernelRun.sl.v346 c arg1 harg1 arg11 x1) (kernelRun.sl.v358 c arg2 harg2 arg13 x2) (kernelRun.sl.v373 c arg0 harg0 arg9 x0 fh0 k0_hw1 k0_hw2 k0_hw3 k0_hw4 k0_hw5 k0_hw6 k0_hw7 k0_hw8 fs0) (kernelRun.sl.v419 c arg0 harg0 arg10 x0 fh1 k0_hw1 k0_hw2 k0_hw3 k0_hw4 k0_hw5 k0_hw6 k0_hw7 k0_hw8 fs1) (kernelRun.sl.v422 c arg3 harg3 arg14 x3) = attendB x0 x1 x2 x3 ((Memref.whole main_v4).view.read (Elt F) fh0) ((Memref.whole main_v6).view.read (Elt F) fh1) 0 := by
  rw [v5_eq, r_12_eq, v338_eq, v346_eq, v358_eq, v373_eq, v419_eq, v422_eq]; rfl

/-- The attention run for batch row 1 is the one stated. -/
theorem attend1_eq : attend 4#32 (kernelRun.sl.v12 (F := F) c arg0 harg0 x0) (kernelRun.sl.r_21 (F := F) c arg0 harg0 x0) (kernelRun.sl.v443 c arg1 harg1 arg11 x1) (kernelRun.sl.v451 c arg1 harg1 arg11 x1) (kernelRun.sl.v358 c arg2 harg2 arg13 x2) (kernelRun.sl.v478 c arg0 harg0 arg9 x0 fh0 k0_hw1 k0_hw2 k0_hw3 k0_hw4 k0_hw5 k0_hw6 k0_hw7 k0_hw8 fs0) (kernelRun.sl.v524 c arg0 harg0 arg10 x0 fh1 k0_hw1 k0_hw2 k0_hw3 k0_hw4 k0_hw5 k0_hw6 k0_hw7 k0_hw8 fs1) (kernelRun.sl.v422 c arg3 harg3 arg14 x3) = attendB x0 x1 x2 x3 ((Memref.whole main_v4).view.read (Elt F) fh0) ((Memref.whole main_v6).view.read (Elt F) fh1) 1 := by
  rw [v12_eq, r_21_eq, v443_eq, v451_eq, v358_eq, v478_eq, v524_eq, v422_eq]; rfl

/-- The attention run for batch row 2 is the one stated. -/
theorem attend2_eq : attend 8#32 (kernelRun.sl.v19 (F := F) c arg0 harg0 x0) (kernelRun.sl.r_26 (F := F) c arg0 harg0 x0) (kernelRun.sl.v548 c arg1 harg1 arg11 x1) (kernelRun.sl.v556 c arg1 harg1 arg11 x1) (kernelRun.sl.v358 c arg2 harg2 arg13 x2) (kernelRun.sl.v583 c arg0 harg0 arg9 x0 fh0 k0_hw1 k0_hw2 k0_hw3 k0_hw4 k0_hw5 k0_hw6 k0_hw7 k0_hw8 fs0) (kernelRun.sl.v629 c arg0 harg0 arg10 x0 fh1 k0_hw1 k0_hw2 k0_hw3 k0_hw4 k0_hw5 k0_hw6 k0_hw7 k0_hw8 fs1) (kernelRun.sl.v422 c arg3 harg3 arg14 x3) = attendB x0 x1 x2 x3 ((Memref.whole main_v4).view.read (Elt F) fh0) ((Memref.whole main_v6).view.read (Elt F) fh1) 2 := by
  rw [v19_eq, r_26_eq, v548_eq, v556_eq, v358_eq, v583_eq, v629_eq, v422_eq]; rfl

/-- The attention run for batch row 3 is the one stated. -/
theorem attend3_eq : attend 12#32 (kernelRun.sl.v26 (F := F) c arg0 harg0 x0) (kernelRun.sl.r_35 (F := F) c arg0 harg0 x0) (kernelRun.sl.v653 c arg1 harg1 arg11 x1) (kernelRun.sl.v661 c arg1 harg1 arg11 x1) (kernelRun.sl.v358 c arg2 harg2 arg13 x2) (kernelRun.sl.v688 c arg0 harg0 arg9 x0 fh0 k0_hw1 k0_hw2 k0_hw3 k0_hw4 k0_hw5 k0_hw6 k0_hw7 k0_hw8 fs0) (kernelRun.sl.v734 c arg0 harg0 arg10 x0 fh1 k0_hw1 k0_hw2 k0_hw3 k0_hw4 k0_hw5 k0_hw6 k0_hw7 k0_hw8 fs1) (kernelRun.sl.v422 c arg3 harg3 arg14 x3) = attendB x0 x1 x2 x3 ((Memref.whole main_v4).view.read (Elt F) fh0) ((Memref.whole main_v6).view.read (Elt F) fh1) 3 := by
  rw [v26_eq, r_35_eq, v653_eq, v661_eq, v358_eq, v688_eq, v734_eq, v422_eq]; rfl

/-- The attention run for batch row 4 is the one stated. -/
theorem attend4_eq : attend 16#32 (kernelRun.sl.v33 (F := F) c arg0 harg0 x0) (kernelRun.sl.r_42 (F := F) c arg0 harg0 x0) (kernelRun.sl.v758 c arg1 harg1 arg11 x1) (kernelRun.sl.v766 c arg1 harg1 arg11 x1) (kernelRun.sl.v358 c arg2 harg2 arg13 x2) (kernelRun.sl.v793 c arg0 harg0 arg9 x0 fh0 k0_hw1 k0_hw2 k0_hw3 k0_hw4 k0_hw5 k0_hw6 k0_hw7 k0_hw8 fs0) (kernelRun.sl.v839 c arg0 harg0 arg10 x0 fh1 k0_hw1 k0_hw2 k0_hw3 k0_hw4 k0_hw5 k0_hw6 k0_hw7 k0_hw8 fs1) (kernelRun.sl.v422 c arg3 harg3 arg14 x3) = attendB x0 x1 x2 x3 ((Memref.whole main_v4).view.read (Elt F) fh0) ((Memref.whole main_v6).view.read (Elt F) fh1) 4 := by
  rw [v33_eq, r_42_eq, v758_eq, v766_eq, v358_eq, v793_eq, v839_eq, v422_eq]; rfl

/-- The attention run for batch row 5 is the one stated. -/
theorem attend5_eq : attend 20#32 (kernelRun.sl.v40 (F := F) c arg0 harg0 x0) (kernelRun.sl.r_47 (F := F) c arg0 harg0 x0) (kernelRun.sl.v863 c arg1 harg1 arg11 x1) (kernelRun.sl.v871 c arg1 harg1 arg11 x1) (kernelRun.sl.v358 c arg2 harg2 arg13 x2) (kernelRun.sl.v898 c arg0 harg0 arg9 x0 fh0 k0_hw1 k0_hw2 k0_hw3 k0_hw4 k0_hw5 k0_hw6 k0_hw7 k0_hw8 fs0) (kernelRun.sl.v944 c arg0 harg0 arg10 x0 fh1 k0_hw1 k0_hw2 k0_hw3 k0_hw4 k0_hw5 k0_hw6 k0_hw7 k0_hw8 fs1) (kernelRun.sl.v422 c arg3 harg3 arg14 x3) = attendB x0 x1 x2 x3 ((Memref.whole main_v4).view.read (Elt F) fh0) ((Memref.whole main_v6).view.read (Elt F) fh1) 5 := by
  rw [v40_eq, r_47_eq, v863_eq, v871_eq, v358_eq, v898_eq, v944_eq, v422_eq]; rfl

/-- The attention run for batch row 6 is the one stated. -/
theorem attend6_eq : attend 24#32 (kernelRun.sl.v47 (F := F) c arg0 harg0 x0) (kernelRun.sl.r_56 (F := F) c arg0 harg0 x0) (kernelRun.sl.v968 c arg1 harg1 arg11 x1) (kernelRun.sl.v976 c arg1 harg1 arg11 x1) (kernelRun.sl.v358 c arg2 harg2 arg13 x2) (kernelRun.sl.v1003 c arg0 harg0 arg9 x0 fh0 k0_hw1 k0_hw2 k0_hw3 k0_hw4 k0_hw5 k0_hw6 k0_hw7 k0_hw8 fs0) (kernelRun.sl.v1049 c arg0 harg0 arg10 x0 fh1 k0_hw1 k0_hw2 k0_hw3 k0_hw4 k0_hw5 k0_hw6 k0_hw7 k0_hw8 fs1) (kernelRun.sl.v422 c arg3 harg3 arg14 x3) = attendB x0 x1 x2 x3 ((Memref.whole main_v4).view.read (Elt F) fh0) ((Memref.whole main_v6).view.read (Elt F) fh1) 6 := by
  rw [v47_eq, r_56_eq, v968_eq, v976_eq, v358_eq, v1003_eq, v1049_eq, v422_eq]; rfl

/-- The attention run for batch row 7 is the one stated. -/
theorem attend7_eq : attend 28#32 (kernelRun.sl.v54 (F := F) c arg0 harg0 x0) (kernelRun.sl.r_63 (F := F) c arg0 harg0 x0) (kernelRun.sl.v1073 c arg1 harg1 arg11 x1) (kernelRun.sl.v1081 c arg1 harg1 arg11 x1) (kernelRun.sl.v358 c arg2 harg2 arg13 x2) (kernelRun.sl.v1108 c arg0 harg0 arg9 x0 fh0 k0_hw1 k0_hw2 k0_hw3 k0_hw4 k0_hw5 k0_hw6 k0_hw7 k0_hw8 fs0) (kernelRun.sl.v1154 c arg0 harg0 arg10 x0 fh1 k0_hw1 k0_hw2 k0_hw3 k0_hw4 k0_hw5 k0_hw6 k0_hw7 k0_hw8 fs1) (kernelRun.sl.v422 c arg3 harg3 arg14 x3) = attendB x0 x1 x2 x3 ((Memref.whole main_v4).view.read (Elt F) fh0) ((Memref.whole main_v6).view.read (Elt F) fh1) 7 := by
  rw [v54_eq, r_63_eq, v1073_eq, v1081_eq, v358_eq, v1108_eq, v1154_eq, v422_eq]; rfl

set_option maxHeartbeats 4000000 in
/-- The output rows, whatever the scratch held. -/
theorem orr_canon : View.canon (kernelRun.sl.HS3_16 (F := F) c arg0 harg0 arg1 harg1 arg2 harg2 arg3 harg3 arg9 arg10 arg11 arg13 arg14 x0 x1 x2 x3 fh0 fh1 k0_hw1 k0_hw2 k0_hw3 k0_hw4 k0_hw5 k0_hw6 k0_hw7 k0_hw8 fs0 fs1) = orow x0 x1 x2 x3 ((Memref.whole main_v4).view.read (Elt F) fh0) ((Memref.whole main_v6).view.read (Elt F) fh1) := by
  funext y
  refine View.canon_apply_of_pieces (orow x0 x1 x2 x3 ((Memref.whole main_v4).view.read (Elt F) fh0) ((Memref.whole main_v6).view.read (Elt F) fh1)) _ ?_ y ?_
  · unfold kernelRun.sl.HS3_16
    simp only [List.forall_mem_cons, List.not_mem_nil, false_imp_iff, implies_true, and_true]
    refine ⟨?_, ?_, ?_, ?_, ?_, ?_, ?_, ?_, ?_, ?_, ?_, ?_, ?_, ?_, ?_, ?_⟩
    · exact fun x => (congrFun ((piece7_1 _ _ _ _ _ _ _ _).trans (congrArg half1 (attend7_eq c arg0 harg0 arg1 harg1 arg2 harg2 arg3 harg3 arg9 arg10 arg11 arg13 arg14 x0 x1 x2 x3 fh0 fh1 k0_hw1 k0_hw2 k0_hw3 k0_hw4 k0_hw5 k0_hw6 k0_hw7 k0_hw8 fs0 fs1))) x).trans
        (orow_piece x0 x1 x2 x3 7 1 (by omega) ((Memref.whole main_v4).view.read (Elt F) fh0) ((Memref.whole main_v6).view.read (Elt F) fh1) _ rfl rfl rfl x x fun _ => rfl)
    · exact fun x => (congrFun ((piece7_0 _ _ _ _ _ _ _ _).trans (congrArg half0 (attend7_eq c arg0 harg0 arg1 harg1 arg2 harg2 arg3 harg3 arg9 arg10 arg11 arg13 arg14 x0 x1 x2 x3 fh0 fh1 k0_hw1 k0_hw2 k0_hw3 k0_hw4 k0_hw5 k0_hw6 k0_hw7 k0_hw8 fs0 fs1))) x).trans
        (orow_piece x0 x1 x2 x3 7 0 (by omega) ((Memref.whole main_v4).view.read (Elt F) fh0) ((Memref.whole main_v6).view.read (Elt F) fh1) _ rfl rfl rfl x x fun _ => rfl)
    · exact fun x => (congrFun ((piece6_1 _ _ _ _ _ _ _ _).trans (congrArg half1 (attend6_eq c arg0 harg0 arg1 harg1 arg2 harg2 arg3 harg3 arg9 arg10 arg11 arg13 arg14 x0 x1 x2 x3 fh0 fh1 k0_hw1 k0_hw2 k0_hw3 k0_hw4 k0_hw5 k0_hw6 k0_hw7 k0_hw8 fs0 fs1))) x).trans
        (orow_piece x0 x1 x2 x3 6 1 (by omega) ((Memref.whole main_v4).view.read (Elt F) fh0) ((Memref.whole main_v6).view.read (Elt F) fh1) _ rfl rfl rfl x x fun _ => rfl)
    · exact fun x => (congrFun ((piece6_0 _ _ _ _ _ _ _ _).trans (congrArg half0 (attend6_eq c arg0 harg0 arg1 harg1 arg2 harg2 arg3 harg3 arg9 arg10 arg11 arg13 arg14 x0 x1 x2 x3 fh0 fh1 k0_hw1 k0_hw2 k0_hw3 k0_hw4 k0_hw5 k0_hw6 k0_hw7 k0_hw8 fs0 fs1))) x).trans
        (orow_piece x0 x1 x2 x3 6 0 (by omega) ((Memref.whole main_v4).view.read (Elt F) fh0) ((Memref.whole main_v6).view.read (Elt F) fh1) _ rfl rfl rfl x x fun _ => rfl)
    · exact fun x => (congrFun ((piece5_1 _ _ _ _ _ _ _ _).trans (congrArg half1 (attend5_eq c arg0 harg0 arg1 harg1 arg2 harg2 arg3 harg3 arg9 arg10 arg11 arg13 arg14 x0 x1 x2 x3 fh0 fh1 k0_hw1 k0_hw2 k0_hw3 k0_hw4 k0_hw5 k0_hw6 k0_hw7 k0_hw8 fs0 fs1))) x).trans
        (orow_piece x0 x1 x2 x3 5 1 (by omega) ((Memref.whole main_v4).view.read (Elt F) fh0) ((Memref.whole main_v6).view.read (Elt F) fh1) _ rfl rfl rfl x x fun _ => rfl)
    · exact fun x => (congrFun ((piece5_0 _ _ _ _ _ _ _ _).trans (congrArg half0 (attend5_eq c arg0 harg0 arg1 harg1 arg2 harg2 arg3 harg3 arg9 arg10 arg11 arg13 arg14 x0 x1 x2 x3 fh0 fh1 k0_hw1 k0_hw2 k0_hw3 k0_hw4 k0_hw5 k0_hw6 k0_hw7 k0_hw8 fs0 fs1))) x).trans
        (orow_piece x0 x1 x2 x3 5 0 (by omega) ((Memref.whole main_v4).view.read (Elt F) fh0) ((Memref.whole main_v6).view.read (Elt F) fh1) _ rfl rfl rfl x x fun _ => rfl)
    · exact fun x => (congrFun ((piece4_1 _ _ _ _ _ _ _ _).trans (congrArg half1 (attend4_eq c arg0 harg0 arg1 harg1 arg2 harg2 arg3 harg3 arg9 arg10 arg11 arg13 arg14 x0 x1 x2 x3 fh0 fh1 k0_hw1 k0_hw2 k0_hw3 k0_hw4 k0_hw5 k0_hw6 k0_hw7 k0_hw8 fs0 fs1))) x).trans
        (orow_piece x0 x1 x2 x3 4 1 (by omega) ((Memref.whole main_v4).view.read (Elt F) fh0) ((Memref.whole main_v6).view.read (Elt F) fh1) _ rfl rfl rfl x x fun _ => rfl)
    · exact fun x => (congrFun ((piece4_0 _ _ _ _ _ _ _ _).trans (congrArg half0 (attend4_eq c arg0 harg0 arg1 harg1 arg2 harg2 arg3 harg3 arg9 arg10 arg11 arg13 arg14 x0 x1 x2 x3 fh0 fh1 k0_hw1 k0_hw2 k0_hw3 k0_hw4 k0_hw5 k0_hw6 k0_hw7 k0_hw8 fs0 fs1))) x).trans
        (orow_piece x0 x1 x2 x3 4 0 (by omega) ((Memref.whole main_v4).view.read (Elt F) fh0) ((Memref.whole main_v6).view.read (Elt F) fh1) _ rfl rfl rfl x x fun _ => rfl)
    · exact fun x => (congrFun ((piece3_1 _ _ _ _ _ _ _ _).trans (congrArg half1 (attend3_eq c arg0 harg0 arg1 harg1 arg2 harg2 arg3 harg3 arg9 arg10 arg11 arg13 arg14 x0 x1 x2 x3 fh0 fh1 k0_hw1 k0_hw2 k0_hw3 k0_hw4 k0_hw5 k0_hw6 k0_hw7 k0_hw8 fs0 fs1))) x).trans
        (orow_piece x0 x1 x2 x3 3 1 (by omega) ((Memref.whole main_v4).view.read (Elt F) fh0) ((Memref.whole main_v6).view.read (Elt F) fh1) _ rfl rfl rfl x x fun _ => rfl)
    · exact fun x => (congrFun ((piece3_0 _ _ _ _ _ _ _ _).trans (congrArg half0 (attend3_eq c arg0 harg0 arg1 harg1 arg2 harg2 arg3 harg3 arg9 arg10 arg11 arg13 arg14 x0 x1 x2 x3 fh0 fh1 k0_hw1 k0_hw2 k0_hw3 k0_hw4 k0_hw5 k0_hw6 k0_hw7 k0_hw8 fs0 fs1))) x).trans
        (orow_piece x0 x1 x2 x3 3 0 (by omega) ((Memref.whole main_v4).view.read (Elt F) fh0) ((Memref.whole main_v6).view.read (Elt F) fh1) _ rfl rfl rfl x x fun _ => rfl)
    · exact fun x => (congrFun ((piece2_1 _ _ _ _ _ _ _ _).trans (congrArg half1 (attend2_eq c arg0 harg0 arg1 harg1 arg2 harg2 arg3 harg3 arg9 arg10 arg11 arg13 arg14 x0 x1 x2 x3 fh0 fh1 k0_hw1 k0_hw2 k0_hw3 k0_hw4 k0_hw5 k0_hw6 k0_hw7 k0_hw8 fs0 fs1))) x).trans
        (orow_piece x0 x1 x2 x3 2 1 (by omega) ((Memref.whole main_v4).view.read (Elt F) fh0) ((Memref.whole main_v6).view.read (Elt F) fh1) _ rfl rfl rfl x x fun _ => rfl)
    · exact fun x => (congrFun ((piece2_0 _ _ _ _ _ _ _ _).trans (congrArg half0 (attend2_eq c arg0 harg0 arg1 harg1 arg2 harg2 arg3 harg3 arg9 arg10 arg11 arg13 arg14 x0 x1 x2 x3 fh0 fh1 k0_hw1 k0_hw2 k0_hw3 k0_hw4 k0_hw5 k0_hw6 k0_hw7 k0_hw8 fs0 fs1))) x).trans
        (orow_piece x0 x1 x2 x3 2 0 (by omega) ((Memref.whole main_v4).view.read (Elt F) fh0) ((Memref.whole main_v6).view.read (Elt F) fh1) _ rfl rfl rfl x x fun _ => rfl)
    · exact fun x => (congrFun ((piece1_1 _ _ _ _ _ _ _ _).trans (congrArg half1 (attend1_eq c arg0 harg0 arg1 harg1 arg2 harg2 arg3 harg3 arg9 arg10 arg11 arg13 arg14 x0 x1 x2 x3 fh0 fh1 k0_hw1 k0_hw2 k0_hw3 k0_hw4 k0_hw5 k0_hw6 k0_hw7 k0_hw8 fs0 fs1))) x).trans
        (orow_piece x0 x1 x2 x3 1 1 (by omega) ((Memref.whole main_v4).view.read (Elt F) fh0) ((Memref.whole main_v6).view.read (Elt F) fh1) _ rfl rfl rfl x x fun _ => rfl)
    · exact fun x => (congrFun ((piece1_0 _ _ _ _ _ _ _ _).trans (congrArg half0 (attend1_eq c arg0 harg0 arg1 harg1 arg2 harg2 arg3 harg3 arg9 arg10 arg11 arg13 arg14 x0 x1 x2 x3 fh0 fh1 k0_hw1 k0_hw2 k0_hw3 k0_hw4 k0_hw5 k0_hw6 k0_hw7 k0_hw8 fs0 fs1))) x).trans
        (orow_piece x0 x1 x2 x3 1 0 (by omega) ((Memref.whole main_v4).view.read (Elt F) fh0) ((Memref.whole main_v6).view.read (Elt F) fh1) _ rfl rfl rfl x x fun _ => rfl)
    · exact fun x => (congrFun ((piece0_1 _ _ _ _ _ _ _ _).trans (congrArg half1 (attend0_eq c arg0 harg0 arg1 harg1 arg2 harg2 arg3 harg3 arg9 arg10 arg11 arg13 arg14 x0 x1 x2 x3 fh0 fh1 k0_hw1 k0_hw2 k0_hw3 k0_hw4 k0_hw5 k0_hw6 k0_hw7 k0_hw8 fs0 fs1))) x).trans
        (orow_piece x0 x1 x2 x3 0 1 (by omega) ((Memref.whole main_v4).view.read (Elt F) fh0) ((Memref.whole main_v6).view.read (Elt F) fh1) _ rfl rfl rfl x x fun _ => rfl)
    · exact fun x => (congrFun ((piece0_0 _ _ _ _ _ _ _ _).trans (congrArg half0 (attend0_eq c arg0 harg0 arg1 harg1 arg2 harg2 arg3 harg3 arg9 arg10 arg11 arg13 arg14 x0 x1 x2 x3 fh0 fh1 k0_hw1 k0_hw2 k0_hw3 k0_hw4 k0_hw5 k0_hw6 k0_hw7 k0_hw8 fs0 fs1))) x).trans
        (orow_piece x0 x1 x2 x3 0 0 (by omega) ((Memref.whole main_v4).view.read (Elt F) fh0) ((Memref.whole main_v6).view.read (Elt F) fh1) _ rfl rfl rfl x x fun _ => rfl)
  · unfold kernelRun.sl.HS3_16
    have hlt : (y 0).val / 8 < 16 := by have : (y 0).val < 128 := (y 0).isLt; omega
    obtain ⟨k, hk⟩ : ∃ k, (y 0).val / 8 = k := ⟨_, rfl⟩
    rw [hk] at hlt
    interval_cases k
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), ?_⟩
      exact band_mem y 0 hk ![0, 0] rfl inb_S128x128_S8x128_0_0
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), ?_⟩
      exact band_mem y 1 hk ![8, 0] rfl inb_S128x128_S8x128_8_0
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), ?_⟩
      exact band_mem y 2 hk ![16, 0] rfl inb_S128x128_S8x128_16_0
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), ?_⟩
      exact band_mem y 3 hk ![24, 0] rfl inb_S128x128_S8x128_24_0
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), ?_⟩
      exact band_mem y 4 hk ![32, 0] rfl inb_S128x128_S8x128_32_0
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), ?_⟩
      exact band_mem y 5 hk ![40, 0] rfl inb_S128x128_S8x128_40_0
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), ?_⟩
      exact band_mem y 6 hk ![48, 0] rfl inb_S128x128_S8x128_48_0
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), ?_⟩
      exact band_mem y 7 hk ![56, 0] rfl inb_S128x128_S8x128_56_0
    · refine ⟨_, (List.mem_cons_of_mem _ (List.mem_cons_of_mem _ (List.mem_cons_of_mem _ (List.mem_cons_of_mem _ (List.mem_cons_of_mem _ (List.mem_cons_of_mem _ (List.mem_cons_of_mem _ List.mem_cons_self))))))), ?_⟩
      exact band_mem y 8 hk ![64, 0] rfl inb_S128x128_S8x128_64_0
    · refine ⟨_, (List.mem_cons_of_mem _ (List.mem_cons_of_mem _ (List.mem_cons_of_mem _ (List.mem_cons_of_mem _ (List.mem_cons_of_mem _ (List.mem_cons_of_mem _ List.mem_cons_self)))))), ?_⟩
      exact band_mem y 9 hk ![72, 0] rfl inb_S128x128_S8x128_72_0
    · refine ⟨_, (List.mem_cons_of_mem _ (List.mem_cons_of_mem _ (List.mem_cons_of_mem _ (List.mem_cons_of_mem _ (List.mem_cons_of_mem _ List.mem_cons_self))))), ?_⟩
      exact band_mem y 10 hk ![80, 0] rfl inb_S128x128_S8x128_80_0
    · refine ⟨_, (List.mem_cons_of_mem _ (List.mem_cons_of_mem _ (List.mem_cons_of_mem _ (List.mem_cons_of_mem _ List.mem_cons_self)))), ?_⟩
      exact band_mem y 11 hk ![88, 0] rfl inb_S128x128_S8x128_88_0
    · refine ⟨_, (List.mem_cons_of_mem _ (List.mem_cons_of_mem _ (List.mem_cons_of_mem _ List.mem_cons_self))), ?_⟩
      exact band_mem y 12 hk ![96, 0] rfl inb_S128x128_S8x128_96_0
    · refine ⟨_, (List.mem_cons_of_mem _ (List.mem_cons_of_mem _ List.mem_cons_self)), ?_⟩
      exact band_mem y 13 hk ![104, 0] rfl inb_S128x128_S8x128_104_0
    · refine ⟨_, (List.mem_cons_of_mem _ List.mem_cons_self), ?_⟩
      exact band_mem y 14 hk ![112, 0] rfl inb_S128x128_S8x128_112_0
    · refine ⟨_, List.mem_cons_self, ?_⟩
      exact band_mem y 15 hk ![120, 0] rfl inb_S128x128_S8x128_120_0

end Cert.KernelIdeal.Value

end
-- ==== Proof.KOut.lean ====
/- The three results of the kernel's one run, from the pieces it stores. -/
module

public import proofs.«01_k».proof.Proof.KValue
public import proofs.«01_k».proof.Proof.KBlock
public import proofs.«01_k».proof.Proof.KSlices
public import proofs.«01_k».proof.Proof.Word
public import Idealize.ShloMosaic.Lib.WholeRead
public import Idealize.ShloMosaic.Lib.Pipeline.Value

@[expose] public section

noncomputable section

namespace Cert.KernelIdeal.Value

open Cert.KernelIdeal Cert.KernelIdeal.Run Cert.KernelIdeal.Block Cert.KernelIdeal.Slices Cert.Word
open Cert.KernelIdeal.Gen hiding hmain before0_0_of before0_1_of before0_2_of before0_3_of frame_of W_main_arg0 W_main_arg1 W_main_arg2 W_main_arg3 W_main_arg4
open Idealize.ShloMosaic Idealize.ShloMosaic.TcCoe

variable {F : FTy → Type} [FloatOps F]

variable (c : Dev nD) (arg0 : Memref sig .tc .smem S8 .i32) (harg0 : arg0.IsWhole) (arg1 : Memref sig .tc .vmem S8x2048 .bf16) (harg1 : arg1.IsWhole) (arg2 : Memref sig .tc .vmem S32x64 .bf16) (harg2 : arg2.IsWhole) (arg3 : Memref sig .tc .vmem S32x64 .bf16) (harg3 : arg3.IsWhole) (arg6 : Memref sig .tc .vmem S8x2048 .bf16) (harg6 : arg6.IsWhole) (arg7 : Memref sig .tc .vmem S32x64 .fp8e5m2) (harg7 : arg7.IsWhole) (arg8 : Memref sig .tc .vmem S32x64 .fp8e5m2) (harg8 : arg8.IsWhole) (arg9 : Memref sig .tc .vmem S8x256x1152 .fp8e5m2) (harg9 : arg9.IsWhole) (arg10 : Memref sig .tc .vmem S8x256x1152 .fp8e5m2) (harg10 : arg10.IsWhole) (arg11 : Memref sig .tc .vmem S128x128 .f32) (harg11 : arg11.IsWhole) (arg12 : Memref sig .tc .vmem S128x128 .f32) (harg12 : arg12.IsWhole) (arg13 : Memref sig .tc .vmem S128x256 .bf16) (harg13 : arg13.IsWhole) (arg14 : Memref sig .tc .vmem S128x256 .bf16) (harg14 : arg14.IsWhole)
    (x0 : Vec F S8 .i32) (x1 : Vec F S8x2048 .bf16) (x2 : Vec F S32x64 .bf16) (x3 : Vec F S32x64 .bf16) (fh0 : HbBuf0 (F := F) c hbM0_0) (fh1 : HbBuf0 (F := F) c hbM0_1) (k0_hw1 : k0_chk1 (arg0.view.readAt (Elt F) (Rect.unit (s := S8) ![0] S1.size inb_S8_S1_0).toLoadRect (harg0.unread x0) (Shape.Idx.first (numel1_S1.symm ▸ Nat.one_pos)))) (k0_hw2 : k0_chk2 (arg0.view.readAt (Elt F) (Rect.unit (s := S8) ![1] S1.size inb_S8_S1_1).toLoadRect (harg0.unread x0) (Shape.Idx.first (numel1_S1.symm ▸ Nat.one_pos)))) (k0_hw3 : k0_chk3 (arg0.view.readAt (Elt F) (Rect.unit (s := S8) ![2] S1.size inb_S8_S1_2).toLoadRect (harg0.unread x0) (Shape.Idx.first (numel1_S1.symm ▸ Nat.one_pos)))) (k0_hw4 : k0_chk4 (arg0.view.readAt (Elt F) (Rect.unit (s := S8) ![3] S1.size inb_S8_S1_3).toLoadRect (harg0.unread x0) (Shape.Idx.first (numel1_S1.symm ▸ Nat.one_pos)))) (k0_hw5 : k0_chk5 (arg0.view.readAt (Elt F) (Rect.unit (s := S8) ![4] S1.size inb_S8_S1_4).toLoadRect (harg0.unread x0) (Shape.Idx.first (numel1_S1.symm ▸ Nat.one_pos)))) (k0_hw6 : k0_chk6 (arg0.view.readAt (Elt F) (Rect.unit (s := S8) ![5] S1.size inb_S8_S1_5).toLoadRect (harg0.unread x0) (Shape.Idx.first (numel1_S1.symm ▸ Nat.one_pos)))) (k0_hw7 : k0_chk7 (arg0.view.readAt (Elt F) (Rect.unit (s := S8) ![6] S1.size inb_S8_S1_6).toLoadRect (harg0.unread x0) (Shape.Idx.first (numel1_S1.symm ▸ Nat.one_pos)))) (k0_hw8 : k0_chk8 (arg0.view.readAt (Elt F) (Rect.unit (s := S8) ![7] S1.size inb_S8_S1_7).toLoadRect (harg0.unread x0) (Shape.Idx.first (numel1_S1.symm ▸ Nat.one_pos))))
  (fs0 : arg9.view.ty.Contents (Elt F)) (fs1 : arg10.view.ty.Contents (Elt F))

/-- One column band of the result. -/
theorem out_piece (j : ℕ) (hj : j < 16) (v : FVec F S8x128 .f32) (kc vc : Vec F S8x256x65536 .fp8e5m2)
    (hv : ∀ x : S8x128.Idx, v x = orow x0 x1 x2 x3 kc vc (ix2 (⟨j + 16 * (x 0).val, by have : (x 0).val < 8 := (x 0).isLt; omega⟩ : Fin 128) (x 1)))
    (oB : Fin 2 → ℕ) (hB : oB = ![0, 128 * j]) (inb) (x : S8x128.Idx) :
    (truncf .bf16 v bitsLt_bf16_f32 : FVec F S8x128 .bf16) x = outV x0 x1 x2 x3 kc vc ((Rect.unit (s := S8x2048) oB S8x128.size inb).emb x) := by
  subst hB
  have l0 : (x 0).val < 8 := (x 0).isLt
  have l1 : (x 1).val < 128 := (x 1).isLt
  show FloatOps.truncf .bf16 bitsLt_bf16_f32 (v x) = FloatOps.truncf .bf16 bitsLt_bf16_f32 (orow x0 x1 x2 x3 kc vc _)
  rw [hv]
  refine congrArg (fun z => FloatOps.truncf .bf16 bitsLt_bf16_f32 (orow x0 x1 x2 x3 kc vc z)) (funext fun a => Fin.ext ?_)
  match a with
  | ⟨0, _⟩ => show j + 16 * (x 0).val = 16 * (0 + 1 * (x 0).val) + (128 * j + 1 * (x 1).val) / 128; omega
  | ⟨1, _⟩ => show (x 1).val = (128 * j + 1 * (x 1).val) % 128; omega

/-- One of the result's bands, read out of the output rows. -/
theorem comb_at {α : Type} (G : S128x128.Idx → α) (j : ℕ) (hj : j < 16) (inb) (x : S8x128.Idx) :
    G ((⟨![j, 0], S8x128.size, ![16, 1], inb⟩ : LoadRect S128x128).idx x) = G (ix2 (⟨j + 16 * (x 0).val, by have : (x 0).val < 8 := (x 0).isLt; omega⟩ : Fin 128) (x 1)) := by
  congr 1
  funext a
  apply Fin.ext
  match a with
  | ⟨0, _⟩ => rfl
  | ⟨1, _⟩ => show 0 + 1 * (x 1).val = (x 1).val; omega

theorem v1178_eq : kernelRun.sl.v1178 (F := F) c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1 = fun x : S8x128.Idx => orow x0 x1 x2 x3 ((Memref.whole main_v4).view.read (Elt F) fh0) ((Memref.whole main_v6).view.read (Elt F) fh1) (ix2 (⟨0 + 16 * (x 0).val, by have : (x 0).val < 8 := (x 0).isLt; omega⟩ : Fin 128) (x 1)) := by
  refine (View.readCov_eq_canon' _ _ _).trans ?_
  rw [orr_canon]
  exact funext fun x => comb_at (orow x0 x1 x2 x3 ((Memref.whole main_v4).view.read (Elt F) fh0) ((Memref.whole main_v6).view.read (Elt F) fh1)) 0 (by omega) _ x
theorem v1181_eq : kernelRun.sl.v1181 (F := F) c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1 = fun x : S8x128.Idx => orow x0 x1 x2 x3 ((Memref.whole main_v4).view.read (Elt F) fh0) ((Memref.whole main_v6).view.read (Elt F) fh1) (ix2 (⟨1 + 16 * (x 0).val, by have : (x 0).val < 8 := (x 0).isLt; omega⟩ : Fin 128) (x 1)) := by
  refine (View.readCov_eq_canon' _ _ _).trans ?_
  rw [orr_canon]
  exact funext fun x => comb_at (orow x0 x1 x2 x3 ((Memref.whole main_v4).view.read (Elt F) fh0) ((Memref.whole main_v6).view.read (Elt F) fh1)) 1 (by omega) _ x
theorem v1184_eq : kernelRun.sl.v1184 (F := F) c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1 = fun x : S8x128.Idx => orow x0 x1 x2 x3 ((Memref.whole main_v4).view.read (Elt F) fh0) ((Memref.whole main_v6).view.read (Elt F) fh1) (ix2 (⟨2 + 16 * (x 0).val, by have : (x 0).val < 8 := (x 0).isLt; omega⟩ : Fin 128) (x 1)) := by
  refine (View.readCov_eq_canon' _ _ _).trans ?_
  rw [orr_canon]
  exact funext fun x => comb_at (orow x0 x1 x2 x3 ((Memref.whole main_v4).view.read (Elt F) fh0) ((Memref.whole main_v6).view.read (Elt F) fh1)) 2 (by omega) _ x
theorem v1187_eq : kernelRun.sl.v1187 (F := F) c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1 = fun x : S8x128.Idx => orow x0 x1 x2 x3 ((Memref.whole main_v4).view.read (Elt F) fh0) ((Memref.whole main_v6).view.read (Elt F) fh1) (ix2 (⟨3 + 16 * (x 0).val, by have : (x 0).val < 8 := (x 0).isLt; omega⟩ : Fin 128) (x 1)) := by
  refine (View.readCov_eq_canon' _ _ _).trans ?_
  rw [orr_canon]
  exact funext fun x => comb_at (orow x0 x1 x2 x3 ((Memref.whole main_v4).view.read (Elt F) fh0) ((Memref.whole main_v6).view.read (Elt F) fh1)) 3 (by omega) _ x
theorem v1190_eq : kernelRun.sl.v1190 (F := F) c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1 = fun x : S8x128.Idx => orow x0 x1 x2 x3 ((Memref.whole main_v4).view.read (Elt F) fh0) ((Memref.whole main_v6).view.read (Elt F) fh1) (ix2 (⟨4 + 16 * (x 0).val, by have : (x 0).val < 8 := (x 0).isLt; omega⟩ : Fin 128) (x 1)) := by
  refine (View.readCov_eq_canon' _ _ _).trans ?_
  rw [orr_canon]
  exact funext fun x => comb_at (orow x0 x1 x2 x3 ((Memref.whole main_v4).view.read (Elt F) fh0) ((Memref.whole main_v6).view.read (Elt F) fh1)) 4 (by omega) _ x
theorem v1193_eq : kernelRun.sl.v1193 (F := F) c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1 = fun x : S8x128.Idx => orow x0 x1 x2 x3 ((Memref.whole main_v4).view.read (Elt F) fh0) ((Memref.whole main_v6).view.read (Elt F) fh1) (ix2 (⟨5 + 16 * (x 0).val, by have : (x 0).val < 8 := (x 0).isLt; omega⟩ : Fin 128) (x 1)) := by
  refine (View.readCov_eq_canon' _ _ _).trans ?_
  rw [orr_canon]
  exact funext fun x => comb_at (orow x0 x1 x2 x3 ((Memref.whole main_v4).view.read (Elt F) fh0) ((Memref.whole main_v6).view.read (Elt F) fh1)) 5 (by omega) _ x
theorem v1196_eq : kernelRun.sl.v1196 (F := F) c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1 = fun x : S8x128.Idx => orow x0 x1 x2 x3 ((Memref.whole main_v4).view.read (Elt F) fh0) ((Memref.whole main_v6).view.read (Elt F) fh1) (ix2 (⟨6 + 16 * (x 0).val, by have : (x 0).val < 8 := (x 0).isLt; omega⟩ : Fin 128) (x 1)) := by
  refine (View.readCov_eq_canon' _ _ _).trans ?_
  rw [orr_canon]
  exact funext fun x => comb_at (orow x0 x1 x2 x3 ((Memref.whole main_v4).view.read (Elt F) fh0) ((Memref.whole main_v6).view.read (Elt F) fh1)) 6 (by omega) _ x
theorem v1199_eq : kernelRun.sl.v1199 (F := F) c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1 = fun x : S8x128.Idx => orow x0 x1 x2 x3 ((Memref.whole main_v4).view.read (Elt F) fh0) ((Memref.whole main_v6).view.read (Elt F) fh1) (ix2 (⟨7 + 16 * (x 0).val, by have : (x 0).val < 8 := (x 0).isLt; omega⟩ : Fin 128) (x 1)) := by
  refine (View.readCov_eq_canon' _ _ _).trans ?_
  rw [orr_canon]
  exact funext fun x => comb_at (orow x0 x1 x2 x3 ((Memref.whole main_v4).view.read (Elt F) fh0) ((Memref.whole main_v6).view.read (Elt F) fh1)) 7 (by omega) _ x
theorem v1202_eq : kernelRun.sl.v1202 (F := F) c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1 = fun x : S8x128.Idx => orow x0 x1 x2 x3 ((Memref.whole main_v4).view.read (Elt F) fh0) ((Memref.whole main_v6).view.read (Elt F) fh1) (ix2 (⟨8 + 16 * (x 0).val, by have : (x 0).val < 8 := (x 0).isLt; omega⟩ : Fin 128) (x 1)) := by
  refine (View.readCov_eq_canon' _ _ _).trans ?_
  rw [orr_canon]
  exact funext fun x => comb_at (orow x0 x1 x2 x3 ((Memref.whole main_v4).view.read (Elt F) fh0) ((Memref.whole main_v6).view.read (Elt F) fh1)) 8 (by omega) _ x
theorem v1205_eq : kernelRun.sl.v1205 (F := F) c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1 = fun x : S8x128.Idx => orow x0 x1 x2 x3 ((Memref.whole main_v4).view.read (Elt F) fh0) ((Memref.whole main_v6).view.read (Elt F) fh1) (ix2 (⟨9 + 16 * (x 0).val, by have : (x 0).val < 8 := (x 0).isLt; omega⟩ : Fin 128) (x 1)) := by
  refine (View.readCov_eq_canon' _ _ _).trans ?_
  rw [orr_canon]
  exact funext fun x => comb_at (orow x0 x1 x2 x3 ((Memref.whole main_v4).view.read (Elt F) fh0) ((Memref.whole main_v6).view.read (Elt F) fh1)) 9 (by omega) _ x
theorem v1208_eq : kernelRun.sl.v1208 (F := F) c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1 = fun x : S8x128.Idx => orow x0 x1 x2 x3 ((Memref.whole main_v4).view.read (Elt F) fh0) ((Memref.whole main_v6).view.read (Elt F) fh1) (ix2 (⟨10 + 16 * (x 0).val, by have : (x 0).val < 8 := (x 0).isLt; omega⟩ : Fin 128) (x 1)) := by
  refine (View.readCov_eq_canon' _ _ _).trans ?_
  rw [orr_canon]
  exact funext fun x => comb_at (orow x0 x1 x2 x3 ((Memref.whole main_v4).view.read (Elt F) fh0) ((Memref.whole main_v6).view.read (Elt F) fh1)) 10 (by omega) _ x
theorem v1211_eq : kernelRun.sl.v1211 (F := F) c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1 = fun x : S8x128.Idx => orow x0 x1 x2 x3 ((Memref.whole main_v4).view.read (Elt F) fh0) ((Memref.whole main_v6).view.read (Elt F) fh1) (ix2 (⟨11 + 16 * (x 0).val, by have : (x 0).val < 8 := (x 0).isLt; omega⟩ : Fin 128) (x 1)) := by
  refine (View.readCov_eq_canon' _ _ _).trans ?_
  rw [orr_canon]
  exact funext fun x => comb_at (orow x0 x1 x2 x3 ((Memref.whole main_v4).view.read (Elt F) fh0) ((Memref.whole main_v6).view.read (Elt F) fh1)) 11 (by omega) _ x
theorem v1214_eq : kernelRun.sl.v1214 (F := F) c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1 = fun x : S8x128.Idx => orow x0 x1 x2 x3 ((Memref.whole main_v4).view.read (Elt F) fh0) ((Memref.whole main_v6).view.read (Elt F) fh1) (ix2 (⟨12 + 16 * (x 0).val, by have : (x 0).val < 8 := (x 0).isLt; omega⟩ : Fin 128) (x 1)) := by
  refine (View.readCov_eq_canon' _ _ _).trans ?_
  rw [orr_canon]
  exact funext fun x => comb_at (orow x0 x1 x2 x3 ((Memref.whole main_v4).view.read (Elt F) fh0) ((Memref.whole main_v6).view.read (Elt F) fh1)) 12 (by omega) _ x
theorem v1217_eq : kernelRun.sl.v1217 (F := F) c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1 = fun x : S8x128.Idx => orow x0 x1 x2 x3 ((Memref.whole main_v4).view.read (Elt F) fh0) ((Memref.whole main_v6).view.read (Elt F) fh1) (ix2 (⟨13 + 16 * (x 0).val, by have : (x 0).val < 8 := (x 0).isLt; omega⟩ : Fin 128) (x 1)) := by
  refine (View.readCov_eq_canon' _ _ _).trans ?_
  rw [orr_canon]
  exact funext fun x => comb_at (orow x0 x1 x2 x3 ((Memref.whole main_v4).view.read (Elt F) fh0) ((Memref.whole main_v6).view.read (Elt F) fh1)) 13 (by omega) _ x
theorem v1220_eq : kernelRun.sl.v1220 (F := F) c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1 = fun x : S8x128.Idx => orow x0 x1 x2 x3 ((Memref.whole main_v4).view.read (Elt F) fh0) ((Memref.whole main_v6).view.read (Elt F) fh1) (ix2 (⟨14 + 16 * (x 0).val, by have : (x 0).val < 8 := (x 0).isLt; omega⟩ : Fin 128) (x 1)) := by
  refine (View.readCov_eq_canon' _ _ _).trans ?_
  rw [orr_canon]
  exact funext fun x => comb_at (orow x0 x1 x2 x3 ((Memref.whole main_v4).view.read (Elt F) fh0) ((Memref.whole main_v6).view.read (Elt F) fh1)) 14 (by omega) _ x
theorem v1223_eq : kernelRun.sl.v1223 (F := F) c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1 = fun x : S8x128.Idx => orow x0 x1 x2 x3 ((Memref.whole main_v4).view.read (Elt F) fh0) ((Memref.whole main_v6).view.read (Elt F) fh1) (ix2 (⟨15 + 16 * (x 0).val, by have : (x 0).val < 8 := (x 0).isLt; omega⟩ : Fin 128) (x 1)) := by
  refine (View.readCov_eq_canon' _ _ _).trans ?_
  rw [orr_canon]
  exact funext fun x => comb_at (orow x0 x1 x2 x3 ((Memref.whole main_v4).view.read (Elt F) fh0) ((Memref.whole main_v6).view.read (Elt F) fh1)) 15 (by omega) _ x

set_option maxHeartbeats 4000000 in
/-- The first result, whatever it and the window buffers held. -/
theorem out_eq (f4 : arg6.view.ty.Contents (Elt F)) : (kernelRun (F := F) c arg0 harg0 arg1 harg1 arg2 harg2 arg3 harg3 arg6 harg6 arg7 harg7 arg8 harg8 arg9 harg9 arg10 harg10 arg11 harg11 arg12 harg12 arg13 harg13 arg14 harg14 x0 x1 x2 x3 fh0 fh1 k0_hw1 k0_hw2 k0_hw3 k0_hw4 k0_hw5 k0_hw6 k0_hw7 k0_hw8).1.1 f4 fs0 fs1 = outV x0 x1 x2 x3 ((Memref.whole main_v4).view.read (Elt F) fh0) ((Memref.whole main_v6).view.read (Elt F) fh1) := by
  funext y
  refine View.read_writes_apply_of_pieces arg6.view f4 (outV x0 x1 x2 x3 ((Memref.whole main_v4).view.read (Elt F) fh0) ((Memref.whole main_v6).view.read (Elt F) fh1)) _ ?_ y ?_
  · simp only [List.forall_mem_cons, List.not_mem_nil, false_imp_iff, implies_true, and_true]
    refine ⟨?_, ?_, ?_, ?_, ?_, ?_, ?_, ?_, ?_, ?_, ?_, ?_, ?_, ?_, ?_, ?_⟩
    · exact fun x => out_piece x0 x1 x2 x3 15 (by omega) (kernelRun.sl.v1223 (F := F) c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1) ((Memref.whole main_v4).view.read (Elt F) fh0) ((Memref.whole main_v6).view.read (Elt F) fh1) (fun x => congrFun (v1223_eq c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1) x) ![0, 1920] rfl _ x
    · exact fun x => out_piece x0 x1 x2 x3 14 (by omega) (kernelRun.sl.v1220 (F := F) c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1) ((Memref.whole main_v4).view.read (Elt F) fh0) ((Memref.whole main_v6).view.read (Elt F) fh1) (fun x => congrFun (v1220_eq c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1) x) ![0, 1792] rfl _ x
    · exact fun x => out_piece x0 x1 x2 x3 13 (by omega) (kernelRun.sl.v1217 (F := F) c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1) ((Memref.whole main_v4).view.read (Elt F) fh0) ((Memref.whole main_v6).view.read (Elt F) fh1) (fun x => congrFun (v1217_eq c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1) x) ![0, 1664] rfl _ x
    · exact fun x => out_piece x0 x1 x2 x3 12 (by omega) (kernelRun.sl.v1214 (F := F) c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1) ((Memref.whole main_v4).view.read (Elt F) fh0) ((Memref.whole main_v6).view.read (Elt F) fh1) (fun x => congrFun (v1214_eq c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1) x) ![0, 1536] rfl _ x
    · exact fun x => out_piece x0 x1 x2 x3 11 (by omega) (kernelRun.sl.v1211 (F := F) c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1) ((Memref.whole main_v4).view.read (Elt F) fh0) ((Memref.whole main_v6).view.read (Elt F) fh1) (fun x => congrFun (v1211_eq c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1) x) ![0, 1408] rfl _ x
    · exact fun x => out_piece x0 x1 x2 x3 10 (by omega) (kernelRun.sl.v1208 (F := F) c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1) ((Memref.whole main_v4).view.read (Elt F) fh0) ((Memref.whole main_v6).view.read (Elt F) fh1) (fun x => congrFun (v1208_eq c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1) x) ![0, 1280] rfl _ x
    · exact fun x => out_piece x0 x1 x2 x3 9 (by omega) (kernelRun.sl.v1205 (F := F) c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1) ((Memref.whole main_v4).view.read (Elt F) fh0) ((Memref.whole main_v6).view.read (Elt F) fh1) (fun x => congrFun (v1205_eq c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1) x) ![0, 1152] rfl _ x
    · exact fun x => out_piece x0 x1 x2 x3 8 (by omega) (kernelRun.sl.v1202 (F := F) c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1) ((Memref.whole main_v4).view.read (Elt F) fh0) ((Memref.whole main_v6).view.read (Elt F) fh1) (fun x => congrFun (v1202_eq c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1) x) ![0, 1024] rfl _ x
    · exact fun x => out_piece x0 x1 x2 x3 7 (by omega) (kernelRun.sl.v1199 (F := F) c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1) ((Memref.whole main_v4).view.read (Elt F) fh0) ((Memref.whole main_v6).view.read (Elt F) fh1) (fun x => congrFun (v1199_eq c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1) x) ![0, 896] rfl _ x
    · exact fun x => out_piece x0 x1 x2 x3 6 (by omega) (kernelRun.sl.v1196 (F := F) c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1) ((Memref.whole main_v4).view.read (Elt F) fh0) ((Memref.whole main_v6).view.read (Elt F) fh1) (fun x => congrFun (v1196_eq c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1) x) ![0, 768] rfl _ x
    · exact fun x => out_piece x0 x1 x2 x3 5 (by omega) (kernelRun.sl.v1193 (F := F) c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1) ((Memref.whole main_v4).view.read (Elt F) fh0) ((Memref.whole main_v6).view.read (Elt F) fh1) (fun x => congrFun (v1193_eq c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1) x) ![0, 640] rfl _ x
    · exact fun x => out_piece x0 x1 x2 x3 4 (by omega) (kernelRun.sl.v1190 (F := F) c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1) ((Memref.whole main_v4).view.read (Elt F) fh0) ((Memref.whole main_v6).view.read (Elt F) fh1) (fun x => congrFun (v1190_eq c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1) x) ![0, 512] rfl _ x
    · exact fun x => out_piece x0 x1 x2 x3 3 (by omega) (kernelRun.sl.v1187 (F := F) c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1) ((Memref.whole main_v4).view.read (Elt F) fh0) ((Memref.whole main_v6).view.read (Elt F) fh1) (fun x => congrFun (v1187_eq c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1) x) ![0, 384] rfl _ x
    · exact fun x => out_piece x0 x1 x2 x3 2 (by omega) (kernelRun.sl.v1184 (F := F) c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1) ((Memref.whole main_v4).view.read (Elt F) fh0) ((Memref.whole main_v6).view.read (Elt F) fh1) (fun x => congrFun (v1184_eq c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1) x) ![0, 256] rfl _ x
    · exact fun x => out_piece x0 x1 x2 x3 1 (by omega) (kernelRun.sl.v1181 (F := F) c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1) ((Memref.whole main_v4).view.read (Elt F) fh0) ((Memref.whole main_v6).view.read (Elt F) fh1) (fun x => congrFun (v1181_eq c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1) x) ![0, 128] rfl _ x
    · exact fun x => out_piece x0 x1 x2 x3 0 (by omega) (kernelRun.sl.v1178 (F := F) c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1) ((Memref.whole main_v4).view.read (Elt F) fh0) ((Memref.whole main_v6).view.read (Elt F) fh1) (fun x => congrFun (v1178_eq c arg0 harg0 arg1 harg1 arg2 harg2 arg3 harg3 arg9 arg10 arg11 arg12 arg13 arg14 x0 x1 x2 x3 fh0 fh1 k0_hw1 k0_hw2 k0_hw3 k0_hw4 k0_hw5 k0_hw6 k0_hw7 k0_hw8 fs0 fs1) x) ![0, 0] rfl _ x
  · have hlt : (y 1).val / 128 < 16 := by have : (y 1).val < 2048 := (y 1).isLt; omega
    obtain ⟨k, hk⟩ : ∃ k, (y 1).val / 128 = k := ⟨_, rfl⟩
    rw [hk] at hlt
    interval_cases k
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))))), ?_⟩
      exact col_mem y 0 hk ![0, 0] rfl inb_S8x2048_S8x128_0_0
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))))), ?_⟩
      exact col_mem y 1 hk ![0, 128] rfl inb_S8x2048_S8x128_0_128
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))))), ?_⟩
      exact col_mem y 2 hk ![0, 256] rfl inb_S8x2048_S8x128_0_256
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))))), ?_⟩
      exact col_mem y 3 hk ![0, 384] rfl inb_S8x2048_S8x128_0_384
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))))), ?_⟩
      exact col_mem y 4 hk ![0, 512] rfl inb_S8x2048_S8x128_0_512
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))))), ?_⟩
      exact col_mem y 5 hk ![0, 640] rfl inb_S8x2048_S8x128_0_640
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self))))))))), ?_⟩
      exact col_mem y 6 hk ![0, 768] rfl inb_S8x2048_S8x128_0_768
    · refine ⟨_, (List.mem_cons_of_mem _ (List.mem_cons_of_mem _ (List.mem_cons_of_mem _ (List.mem_cons_of_mem _ (List.mem_cons_of_mem _ (List.mem_cons_of_mem _ (List.mem_cons_of_mem _ (List.mem_cons_of_mem _ List.mem_cons_self)))))))), ?_⟩
      exact col_mem y 7 hk ![0, 896] rfl inb_S8x2048_S8x128_0_896
    · refine ⟨_, (List.mem_cons_of_mem _ (List.mem_cons_of_mem _ (List.mem_cons_of_mem _ (List.mem_cons_of_mem _ (List.mem_cons_of_mem _ (List.mem_cons_of_mem _ (List.mem_cons_of_mem _ List.mem_cons_self))))))), ?_⟩
      exact col_mem y 8 hk ![0, 1024] rfl inb_S8x2048_S8x128_0_1024
    · refine ⟨_, (List.mem_cons_of_mem _ (List.mem_cons_of_mem _ (List.mem_cons_of_mem _ (List.mem_cons_of_mem _ (List.mem_cons_of_mem _ (List.mem_cons_of_mem _ List.mem_cons_self)))))), ?_⟩
      exact col_mem y 9 hk ![0, 1152] rfl inb_S8x2048_S8x128_0_1152
    · refine ⟨_, (List.mem_cons_of_mem _ (List.mem_cons_of_mem _ (List.mem_cons_of_mem _ (List.mem_cons_of_mem _ (List.mem_cons_of_mem _ List.mem_cons_self))))), ?_⟩
      exact col_mem y 10 hk ![0, 1280] rfl inb_S8x2048_S8x128_0_1280
    · refine ⟨_, (List.mem_cons_of_mem _ (List.mem_cons_of_mem _ (List.mem_cons_of_mem _ (List.mem_cons_of_mem _ List.mem_cons_self)))), ?_⟩
      exact col_mem y 11 hk ![0, 1408] rfl inb_S8x2048_S8x128_0_1408
    · refine ⟨_, (List.mem_cons_of_mem _ (List.mem_cons_of_mem _ (List.mem_cons_of_mem _ List.mem_cons_self))), ?_⟩
      exact col_mem y 12 hk ![0, 1536] rfl inb_S8x2048_S8x128_0_1536
    · refine ⟨_, (List.mem_cons_of_mem _ (List.mem_cons_of_mem _ List.mem_cons_self)), ?_⟩
      exact col_mem y 13 hk ![0, 1664] rfl inb_S8x2048_S8x128_0_1664
    · refine ⟨_, (List.mem_cons_of_mem _ List.mem_cons_self), ?_⟩
      exact col_mem y 14 hk ![0, 1792] rfl inb_S8x2048_S8x128_0_1792
    · refine ⟨_, List.mem_cons_self, ?_⟩
      exact col_mem y 15 hk ![0, 1920] rfl inb_S8x2048_S8x128_0_1920

/-- The new keys' codes, whatever their buffer held. -/
theorem knew_eq (f5 : arg7.view.ty.Contents (Elt F)) : (kernelRun (F := F) c arg0 harg0 arg1 harg1 arg2 harg2 arg3 harg3 arg6 harg6 arg7 harg7 arg8 harg8 arg9 harg9 arg10 harg10 arg11 harg11 arg12 harg12 arg13 harg13 arg14 harg14 x0 x1 x2 x3 fh0 fh1 k0_hw1 k0_hw2 k0_hw3 k0_hw4 k0_hw5 k0_hw6 k0_hw7 k0_hw8).1.2.1 f5 = k0_pay4 x2 := by
  have hr : View.readAt (Elt F) arg2.view (Rect.unit (s := S32x64) ![0, 0] S32x64.size inb_S32x64_S32x64_0_0).toLoadRect (harg2.unread x2) = x2 :=
    funext fun z => (harg2.readAt_unread x2 _ z).trans (congrArg x2 (funext fun a => Fin.ext (by
      match a with
      | ⟨0, _⟩ => show 0 + 1 * (z 0).val = (z 0).val; omega
      | ⟨1, _⟩ => show 0 + 1 * (z 1).val = (z 1).val; omega)))
  funext y
  refine View.read_writes_apply_of_pieces arg7.view f5 (k0_pay4 x2) _ ?_ y ?_
  · simp only [List.forall_mem_cons, List.not_mem_nil, false_imp_iff, implies_true, and_true]
    intro z
    have hz : (Rect.unit (s := S32x64) ![0, 0] S32x64.size inb_S32x64_S32x64_0_0).emb z = z := funext fun a => Fin.ext (by
      match a with
      | ⟨0, _⟩ => show 0 + 1 * (z 0).val = (z 0).val; omega
      | ⟨1, _⟩ => show 0 + 1 * (z 1).val = (z 1).val; omega)
    exact (congrFun (congrArg (k0_pay4 (F := F)) hr) z).trans (congrArg (k0_pay4 x2) hz.symm)
  · refine ⟨_, List.mem_cons_self, ?_⟩
    exact (Rect.mem_set_unit (inb := inb_S32x64_S32x64_0_0)).mpr fun a => by
      match a with
      | ⟨0, _⟩ => show 0 ≤ (y 0).val ∧ (y 0).val < 0 + 32; have : (y 0).val < 32 := (y 0).isLt; omega
      | ⟨1, _⟩ => show 0 ≤ (y 1).val ∧ (y 1).val < 0 + 64; have : (y 1).val < 64 := (y 1).isLt; omega

/-- The new values' codes, whatever their buffer held. -/
theorem vnew_eq (f6 : arg8.view.ty.Contents (Elt F)) : (kernelRun (F := F) c arg0 harg0 arg1 harg1 arg2 harg2 arg3 harg3 arg6 harg6 arg7 harg7 arg8 harg8 arg9 harg9 arg10 harg10 arg11 harg11 arg12 harg12 arg13 harg13 arg14 harg14 x0 x1 x2 x3 fh0 fh1 k0_hw1 k0_hw2 k0_hw3 k0_hw4 k0_hw5 k0_hw6 k0_hw7 k0_hw8).1.2.2 f6 = k0_pay4 x3 := by
  have hr : View.readAt (Elt F) arg3.view (Rect.unit (s := S32x64) ![0, 0] S32x64.size inb_S32x64_S32x64_0_0).toLoadRect (harg3.unread x3) = x3 :=
    funext fun z => (harg3.readAt_unread x3 _ z).trans (congrArg x3 (funext fun a => Fin.ext (by
      match a with
      | ⟨0, _⟩ => show 0 + 1 * (z 0).val = (z 0).val; omega
      | ⟨1, _⟩ => show 0 + 1 * (z 1).val = (z 1).val; omega)))
  funext y
  refine View.read_writes_apply_of_pieces arg8.view f6 (k0_pay4 x3) _ ?_ y ?_
  · simp only [List.forall_mem_cons, List.not_mem_nil, false_imp_iff, implies_true, and_true]
    intro z
    have hz : (Rect.unit (s := S32x64) ![0, 0] S32x64.size inb_S32x64_S32x64_0_0).emb z = z := funext fun a => Fin.ext (by
      match a with
      | ⟨0, _⟩ => show 0 + 1 * (z 0).val = (z 0).val; omega
      | ⟨1, _⟩ => show 0 + 1 * (z 1).val = (z 1).val; omega)
    exact (congrFun (congrArg (k0_pay4 (F := F)) hr) z).trans (congrArg (k0_pay4 x3) hz.symm)
  · refine ⟨_, List.mem_cons_self, ?_⟩
    exact (Rect.mem_set_unit (inb := inb_S32x64_S32x64_0_0)).mpr fun a => by
      match a with
      | ⟨0, _⟩ => show 0 ≤ (y 0).val ∧ (y 0).val < 0 + 32; have : (y 0).val < 32 := (y 0).isLt; omega
      | ⟨1, _⟩ => show 0 ≤ (y 1).val ∧ (y 1).val < 0 + 64; have : (y 1).val < 64 := (y 1).isLt; omega

end Cert.KernelIdeal.Value

end
-- ==== Proof.Chk_KernelIdeal.lean ====
/- The side conditions the body assumes of the cache lengths hold of every word: the span starts at a multiple of 128
   and ends inside the cache. -/
module

public import proofs.«01_k».proof.KernelIdeal
public import proofs.«01_k».proof.Proof.Gen.KernelIdeal
public import proofs.«01_k».proof.Proof.Word

@[expose] public section

namespace Cert.KernelIdeal.Chk

open Idealize.ShloMosaic Cert.KernelIdeal Cert.Word

/-- The span of batch `b` fits the cache, for every cache length. -/
theorem fits (b : Nat) (hb : b < 8) (v : BitVec 32) (a : Fin 3) :
    (![b, 0, (spanWord v).toNat] : Fin 3 → Nat) a + S1x256x1152.size a ≤ S8x256x65536.size a := by
  have := spanWord_le v
  fin_cases a
  · show b + 1 ≤ 8; omega
  · show 0 + 256 ≤ 256; omega
  · show (spanWord v).toNat + 1152 ≤ 65536; omega

/-- The side condition of batch 0. -/
theorem chk1 (v : BitVec 32) : k0_chk1 v :=
  ⟨spanWord_dvd v, fits 0 (by omega) v, fun _ => .inr ⟨by decide, rfl, rfl, rfl⟩⟩
/-- The side condition of batch 1. -/
theorem chk2 (v : BitVec 32) : k0_chk2 v :=
  ⟨spanWord_dvd v, fits 1 (by omega) v, fun _ => .inr ⟨by decide, rfl, rfl, rfl⟩⟩
/-- The side condition of batch 2. -/
theorem chk3 (v : BitVec 32) : k0_chk3 v :=
  ⟨spanWord_dvd v, fits 2 (by omega) v, fun _ => .inr ⟨by decide, rfl, rfl, rfl⟩⟩
/-- The side condition of batch 3. -/
theorem chk4 (v : BitVec 32) : k0_chk4 v :=
  ⟨spanWord_dvd v, fits 3 (by omega) v, fun _ => .inr ⟨by decide, rfl, rfl, rfl⟩⟩
/-- The side condition of batch 4. -/
theorem chk5 (v : BitVec 32) : k0_chk5 v :=
  ⟨spanWord_dvd v, fits 4 (by omega) v, fun _ => .inr ⟨by decide, rfl, rfl, rfl⟩⟩
/-- The side condition of batch 5. -/
theorem chk6 (v : BitVec 32) : k0_chk6 v :=
  ⟨spanWord_dvd v, fits 5 (by omega) v, fun _ => .inr ⟨by decide, rfl, rfl, rfl⟩⟩
/-- The side condition of batch 6. -/
theorem chk7 (v : BitVec 32) : k0_chk7 v :=
  ⟨spanWord_dvd v, fits 6 (by omega) v, fun _ => .inr ⟨by decide, rfl, rfl, rfl⟩⟩
/-- The side condition of batch 7. -/
theorem chk8 (v : BitVec 32) : k0_chk8 v :=
  ⟨spanWord_dvd v, fits 7 (by omega) v, fun _ => .inr ⟨by decide, rfl, rfl, rfl⟩⟩

end Cert.KernelIdeal.Chk

end
-- ==== Proof.KFrame.lean ====
/- The launch of the kernel with its three results named: at every final state each holds what `Value.outV` and the codes of
   the new keys and values say, every argument is as it was, and every counter is at zero. -/
module

public import proofs.«01_k».proof.Proof.KOut
public import proofs.«01_k».proof.Proof.Chk_KernelIdeal
public import Idealize.ShloMosaic.Lib.Claim

@[expose] public section

set_option maxRecDepth 16384

noncomputable section

namespace Cert.KernelIdeal.Launch

open Cert.KernelIdeal Cert.KernelIdeal.Run Cert.KernelIdeal.Value
open Cert.KernelIdeal.Gen hiding hmain before0_0_of before0_1_of before0_2_of before0_3_of frame_of W_main_arg0 W_main_arg1 W_main_arg2 W_main_arg3 W_main_arg4
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The first result's contents, of the launch memory. -/
def out4 (c : Dev nD) (t : Fin cfg0.N) : Vec F S8x2048 .bf16 :=
  outV (iblk m c 0 t) (iblk m c 1 t) (iblk m c 2 t) (iblk m c 3 t) ((Memref.whole main_v4).view.read (Elt F) (V m c main_v4)) ((Memref.whole main_v6).view.read (Elt F) (V m c main_v6))

/-- The proof data: inputs at their blocks, results at what the run leaves. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out4 m c t
    | ⟨5, _⟩ => (k0_pay4 (iblk m c 2 t) : FVec F S32x64 .fp8e5m2)
    | ⟨6, _⟩ => (k0_pay4 (iblk m c 3 t) : FVec F S32x64 .fp8e5m2)
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = out4 m c t := by dsimp only [dats]
theorem after0_5 (c : Dev nD) (t : Fin cfg0.N) : (dats m 0 c).after 5 t = (k0_pay4 (iblk m c 2 t) : FVec F S32x64 .fp8e5m2) := by dsimp only [dats]
theorem after0_6 (c : Dev nD) (t : Fin cfg0.N) : (dats m 0 c).after 6 t = (k0_pay4 (iblk m c 3 t) : FVec F S32x64 .fp8e5m2) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

/-- The run at point `t`, over the point's buffers. -/
abbrev bodyRun (c : Dev nD) (t : Fin cfg0.N) := kernelRun (F := F) c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (V m c main_v4) (V m c main_v6) (Chk.chk1 _) (Chk.chk2 _) (Chk.chk3 _) (Chk.chk4 _) (Chk.chk5 _) (Chk.chk6 _) (Chk.chk7 _) (Chk.chk8 _)

theorem out_at (c : Dev nD) (t : Fin cfg0.N) (f4) (fs0) (fs1) : (bodyRun m c t).1.1 f4 fs0 fs1 = out4 m c t := out_eq c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (V m c main_v4) (V m c main_v6) (Chk.chk1 _) (Chk.chk2 _) (Chk.chk3 _) (Chk.chk4 _) (Chk.chk5 _) (Chk.chk6 _) (Chk.chk7 _) (Chk.chk8 _) fs0 fs1 f4
theorem knew_at (c : Dev nD) (t : Fin cfg0.N) (f5) : (bodyRun m c t).1.2.1 f5 = (k0_pay4 (iblk m c 2 t) : FVec F S32x64 .fp8e5m2) := knew_eq c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (V m c main_v4) (V m c main_v6) (Chk.chk1 _) (Chk.chk2 _) (Chk.chk3 _) (Chk.chk4 _) (Chk.chk5 _) (Chk.chk6 _) (Chk.chk7 _) (Chk.chk8 _) f5
theorem vnew_at (c : Dev nD) (t : Fin cfg0.N) (f6) : (bodyRun m c t).1.2.2 f6 = (k0_pay4 (iblk m c 3 t) : FVec F S32x64 .fp8e5m2) := vnew_eq c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) scM0_5 (Memref.isWhole_whole _) (iblk m c 0 t) (iblk m c 1 t) (iblk m c 2 t) (iblk m c 3 t) (V m c main_v4) (V m c main_v6) (Chk.chk1 _) (Chk.chk2 _) (Chk.chk3 _) (Chk.chk4 _) (Chk.chk5 _) (Chk.chk6 _) (Chk.chk7 _) (Chk.chk8 _) f6

set_option maxHeartbeats 2400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    after0_0, after0_1, after0_2, after0_3, after0_4, after0_5, after0_6]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  iintro ⟨⟨⟨HS0, HS1, HS2, HS3, HS4, HS5⟩, Hg, ⟨Hq0, Hq1, Hq2, Hq3, Hq4, Hq5, Hq6, Hq7, Hq8, Hq9, Hq10, Hq11, Hq12, Hq13, Hq14, Hq15⟩, ⟨Hh0, Hh1⟩⟩, ⟨%W, -, HW⟩, ⟨%d0, H0⟩, ⟨%d1, H1⟩, ⟨%d2, H2⟩, ⟨%d3, H3⟩, ⟨%d4, H4⟩, ⟨%d5, H5⟩, ⟨%d6, H6⟩⟩
  iapply ((bodyRun m c t).2 W _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hq10]; · iexact Hq10
  isplitl [Hq11]; · iexact Hq11
  isplitl [Hq12]; · iexact Hq12
  isplitl [Hq13]; · iexact Hq13
  isplitl [Hq14]; · iexact Hq14
  isplitl [Hq15]; · iexact Hq15
  isplitl [Hh0]; · iexact Hh0
  isplitl [Hh1]; · iexact Hh1
  isplitl [HW]; · iexact HW
  iintro ⟨H0, H1, H2, H3, ⟨%f4, %fs0, %fs1, H4⟩, ⟨%f5, H5⟩, ⟨%f6, H6⟩, HS0, HS1, HS2, HS3, HS4, HS5, Hq0, Hq1, Hq2, Hq3, Hq4, Hq5, Hq6, Hq7, Hq8, Hq9, Hq10, Hq11, Hq12, Hq13, Hq14, Hq15, Hh0, Hh1, ⟨%W', HW'⟩⟩
  isplitl [HS0 HS1 HS2 HS3 HS4 HS5 Hg Hq0 Hq1 Hq2 Hq3 Hq4 Hq5 Hq6 Hq7 Hq8 Hq9 Hq10 Hq11 Hq12 Hq13 Hq14 Hq15 Hh0 Hh1]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    isplitl [Hg]
    · iexact Hg
    isplitl [Hq0 Hq1 Hq2 Hq3 Hq4 Hq5 Hq6 Hq7 Hq8 Hq9 Hq10 Hq11 Hq12 Hq13 Hq14 Hq15]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      iexact Hq15
    isplitl [Hh0]; · iexact Hh0
    iexact Hh1
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · rw [← out_at m c t f4 fs0 fs1]; iexact H4
  isplitl [H5]; · rw [← knew_at m c t f5]; iexact H5
  rw [← vnew_at m c t f6]; iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body's triple at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- THE LAUNCH: every final state holds the named contents, and every semaphore counter is at zero. -/
theorem run_main_quiescent : θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := fun _ => .rfl) (hout := fun _ => .rfl)

/-- The launch without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The argument arrays, and the three results as the host lines after the kernel leave them. -/
theorem unchanged : θ_run defs (onTc (τ := τ) (main (F := F))) ⟨m, fun _ => 0, ρ⟩ (fun r => ∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((c.tc : Thread nD τ).loc main_v8) = Pipeline.afterTail₀ cfgs (dats m) 0 (V0 m) [hostOps1] c main_v8
      ∧ r.2.mem ((c.tc : Thread nD τ).loc main_v9) = Pipeline.afterTail₀ cfgs (dats m) 0 (V0 m) [hostOps1] c main_v9
      ∧ r.2.mem ((c.tc : Thread nD τ).loc main_v10) = Pipeline.afterTail₀ cfgs (dats m) 0 (V0 m) [hostOps1] c main_v10) :=
  (θ_run defs _ _).mono (fun _ h c => ⟨⟨(((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 0).trans (((dats m 0 c).arrAt_in 0 rfl _).trans ((A_eq m c 0).trans (V_main_arg5 m c)))⟩,
      (h c).2 main_v8 (Pipeline.mem_restRefs_of main_v8 (by decide) (by decide)),
      (h c).2 main_v9 (Pipeline.mem_restRefs_of main_v9 (by decide) (by decide)),
      (h c).2 main_v10 (Pipeline.mem_restRefs_of main_v10 (by decide) (by decide))⟩) (run_main m ρ)

/-- The frame, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and ((θ_run defs _ _).mono (fun _ h c => (h c).1) (unchanged m ρ)) ((θ_run defs _ _).mono (fun _ h => h.2) (run_main_quiescent m ρ))

end Cert.KernelIdeal.Launch

end
-- ==== Proof.Spec.lean ====
/- The mathematics both programs compute, over the extended reals: the attention of one query over the cached positions a
   window admits and one new position, and the two ways the programs lay those positions out — a run of consecutive cached
   positions, those outside the window masked by `-∞`, beside lanes of new scores of which one is kept. -/
module

public import Idealize.ShloMosaic.Lib.Pointwise
public import Idealize.ShloMosaic.Lib.WordCmp
public import proofs.«01_k».proof.Proof.Word

@[expose] public section

noncomputable section

namespace Cert.Att

open Idealize.ShloMosaic Idealize.ShloMosaic.WordCmp

/-- `-∞`, as the programs write it. -/
abbrev ninf : EReal := Ideal.ofBits .f32 0xFF800000#32

theorem ninf_eq : ninf = ⊥ := by simp [Ideal.ofBits, Ideal.ieee]

/-- The attention over `T` cached scores and `N` new scores, with the values beside them: softmax weights over both runs
    together, then the weighted sum of the values. -/
def attn {T N : Nat} (sc vc : Fin T → EReal) (sn vn : Fin N → EReal) : EReal :=
  ∑ x, Ideal.exp (sc x - max (Finset.univ.fold max ninf sc) (Finset.univ.fold max ninf sn))
      * Ideal.div 1 (∑ x, Ideal.exp (sc x - max (Finset.univ.fold max ninf sc) (Finset.univ.fold max ninf sn))
          + ∑ x, Ideal.exp (sn x - max (Finset.univ.fold max ninf sc) (Finset.univ.fold max ninf sn))) * vc x
    + ∑ x, Ideal.exp (sn x - max (Finset.univ.fold max ninf sc) (Finset.univ.fold max ninf sn))
      * Ideal.div 1 (∑ x, Ideal.exp (sc x - max (Finset.univ.fold max ninf sc) (Finset.univ.fold max ninf sn))
          + ∑ x, Ideal.exp (sn x - max (Finset.univ.fold max ninf sc) (Finset.univ.fold max ninf sn))) * vn x

/-- Cached position `p` is in the window of a row whose cached length is `n`: before `n`, and after `n - 1024`. -/
def valid (n : BitVec 32) (p : Nat) : Prop := (p : Int) < n.toInt ∧ n.toInt - 1024 < (p : Int)

instance (n : BitVec 32) (p : Nat) : Decidable (valid n p) := inferInstanceAs (Decidable (_ ∧ _))

/-- The cached positions in the window. -/
def seen (n : BitVec 32) : Finset (Fin 65536) := Finset.univ.filter fun p => valid n p

/-- The attention over the window: scores `s` and values `v` of the cached positions, score `sn` and value `vn` of the
    new position. -/
def out (n : BitVec 32) (s v : Fin 65536 → EReal) (sn vn : EReal) : EReal :=
  ∑ p ∈ seen n, Ideal.exp (s p - max ((seen n).sup s) sn)
      * Ideal.div 1 (∑ p ∈ seen n, Ideal.exp (s p - max ((seen n).sup s) sn) + Ideal.exp (sn - max ((seen n).sup s) sn)) * v p
    + Ideal.exp (sn - max ((seen n).sup s) sn)
      * Ideal.div 1 (∑ p ∈ seen n, Ideal.exp (s p - max ((seen n).sup s) sn) + Ideal.exp (sn - max ((seen n).sup s) sn)) * vn

section Window

variable {T : Nat} {n : BitVec 32} {s0 : Nat} (hT : s0 + T ≤ 65536)
  (hcov : ∀ p, p < 65536 → valid n p → s0 ≤ p ∧ p < s0 + T)
include hcov

/-- A sum over a run of positions that holds the window, zero off the window, is the sum over the window. -/
theorem sum_window (F : Fin 65536 → EReal) (G : Fin T → EReal)
    (hG : ∀ t : Fin T, G t = if valid n (s0 + t) then F ⟨s0 + t, by omega⟩ else 0) : ∑ t, G t = ∑ p ∈ seen n, F p := by
  rw [Finset.sum_congr rfl fun t _ => hG t, ← Finset.sum_filter]
  refine Finset.sum_bij (fun t _ => ⟨s0 + t, by omega⟩) ?_ ?_ ?_ ?_
  · intro t ht
    exact Finset.mem_filter.2 ⟨Finset.mem_univ _, (Finset.mem_filter.1 ht).2⟩
  · intro a _ b _ h
    have := Fin.mk.inj h
    exact Fin.ext (by omega)
  · intro p hp
    have hv := (Finset.mem_filter.1 hp).2
    obtain ⟨h1, h2⟩ := hcov p p.isLt hv
    have he : s0 + ((⟨p - s0, by omega⟩ : Fin T) : Nat) = p := by show s0 + (p.1 - s0) = p.1; omega
    exact ⟨⟨p - s0, by omega⟩, Finset.mem_filter.2 ⟨Finset.mem_univ _, by rw [he]; exact hv⟩, Fin.ext he⟩
  · intro t ht; rfl

/-- The maximum over a run of positions that holds the window, `-∞` off the window, is the maximum over the window. -/
theorem sup_window (F : Fin 65536 → EReal) (G : Fin T → EReal)
    (hG : ∀ t : Fin T, G t = if valid n (s0 + t) then F ⟨s0 + t, by omega⟩ else ⊥) :
    Finset.univ.fold max ninf G = (seen n).sup F := by
  rw [ninf_eq]
  show Finset.univ.sup G = _
  apply le_antisymm
  · refine Finset.sup_le fun t _ => ?_
    rw [hG]
    split
    · rename_i h
      exact Finset.le_sup (f := F) (Finset.mem_filter.2 ⟨Finset.mem_univ _, h⟩)
    · exact bot_le
  · refine Finset.sup_le fun p hp => ?_
    have hv := (Finset.mem_filter.1 hp).2
    obtain ⟨h1, h2⟩ := hcov p p.isLt hv
    have he : s0 + ((⟨p - s0, by omega⟩ : Fin T) : Nat) = p := by show s0 + (p.1 - s0) = p.1; omega
    have hg := hG ⟨p - s0, by omega⟩
    rw [if_pos (by rw [he]; exact hv)] at hg
    have : F p = G ⟨p - s0, by omega⟩ := by rw [hg]; exact congrArg F (Fin.ext he.symm)
    rw [this]
    exact Finset.le_sup (f := G) (Finset.mem_univ _)

end Window

/-- The maximum of lanes of which one is kept is that lane's. -/
theorem sup_lane {N : Nat} (l : Fin N) (x : EReal) (G : Fin N → EReal) (hG : ∀ k, G k = if k = l then x else ⊥) :
    Finset.univ.fold max ninf G = x := by
  rw [ninf_eq]
  show Finset.univ.sup G = _
  apply le_antisymm
  · refine Finset.sup_le fun t _ => ?_
    rw [hG]; split
    · exact le_rfl
    · exact bot_le
  · have h := hG l
    rw [if_pos rfl] at h
    rw [← h]; exact Finset.le_sup (f := G) (Finset.mem_univ _)

/-- The sum of lanes of which one is kept is that lane's. -/
theorem sum_lane {N : Nat} (l : Fin N) (x : EReal) (G : Fin N → EReal) (hG : ∀ k, G k = if k = l then x else 0) :
    ∑ k, G k = x := by
  rw [Finset.sum_congr rfl fun t _ => hG t, Finset.sum_ite_eq' Finset.univ l fun _ => x, if_pos (Finset.mem_univ _)]

/-- A sum over 256 channels, zero off the 64 channels of head `kv`, is the sum over those. -/
theorem sum_block (kv : Nat) (hkv : kv < 4) (G : Fin 256 → EReal) (F : Fin 64 → EReal)
    (hG : ∀ x : Fin 256, G x = if x.val / 64 = kv then F ⟨x.val % 64, by omega⟩ else 0) : ∑ x, G x = ∑ d, F d := by
  rw [Finset.sum_congr rfl fun t _ => hG t, ← Finset.sum_filter]
  symm
  refine Finset.sum_bij (fun (d : Fin 64) _ => (⟨64 * kv + d.val, by omega⟩ : Fin 256)) ?_ ?_ ?_ ?_
  · intro d _
    exact Finset.mem_filter.2 ⟨Finset.mem_univ _, by show (64 * kv + d.val) / 64 = kv; omega⟩
  · intro a _ b _ h
    have := Fin.mk.inj h
    exact Fin.ext (by omega)
  · intro x hx
    have hv := (Finset.mem_filter.1 hx).2
    exact ⟨⟨x.val % 64, by omega⟩, Finset.mem_univ _, Fin.ext (by show 64 * kv + x.val % 64 = x.val; omega)⟩
  · intro d _
    exact congrArg F (Fin.ext (by show d.val = (64 * kv + d.val) % 64; omega))

/-- `-∞` less anything is `-∞`, whose exponential is zero. -/
theorem exp_ninf_sub (m : EReal) : Ideal.exp (⊥ - m) = 0 := by
  rw [sub_eq_add_neg, EReal.bot_add]; rfl

/-- A run of cached positions that holds the window, masked off it, beside new scores of which one is kept: the attention
    over both is the attention over the window. -/
theorem attn_eq {T N : Nat} {n : BitVec 32} {s0 : Nat} (hT : s0 + T ≤ 65536)
    (hcov : ∀ p, p < 65536 → valid n p → s0 ≤ p ∧ p < s0 + T)
    (s v : Fin 65536 → EReal) (sn vn : EReal) (sc vc : Fin T → EReal) (sn' vn' : Fin N → EReal) (l : Fin N)
    (hsc : ∀ t : Fin T, sc t = if valid n (s0 + t) then s ⟨s0 + t, by omega⟩ else ⊥)
    (hvc : ∀ t : Fin T, vc t = v ⟨s0 + t, by omega⟩)
    (hsn : ∀ k, sn' k = if k = l then sn else ⊥) (hvn : vn' l = vn) :
    attn sc vc sn' vn' = out n s v sn vn := by
  unfold attn out
  rw [sup_window hT hcov s sc hsc, sup_lane l sn sn' hsn]
  generalize max ((seen n).sup s) sn = m
  rw [sum_window hT hcov (fun p => Ideal.exp (s p - m)) (fun x => Ideal.exp (sc x - m)) (fun t => by
      rw [hsc]; split
      · rfl
      · exact exp_ninf_sub m),
    sum_lane l (Ideal.exp (sn - m)) (fun x => Ideal.exp (sn' x - m)) (fun t => by
      rw [hsn]; split
      · rfl
      · exact exp_ninf_sub m)]
  generalize Ideal.div 1 _ = inv
  rw [sum_window hT hcov (fun p => Ideal.exp (s p - m) * inv * v p) (fun x => Ideal.exp (sc x - m) * inv * vc x) (fun t => by
      rw [hsc, hvc]; split
      · rfl
      · rw [exp_ninf_sub, zero_mul, zero_mul]),
    sum_lane l (Ideal.exp (sn - m) * inv * vn) (fun x => Ideal.exp (sn' x - m) * inv * vn' x) (fun t => by
      rw [hsn]; split
      · rename_i h; rw [h, hvn]
      · rw [exp_ninf_sub, zero_mul, zero_mul])]

/-- The two masking comparisons, at a position word that holds a natural below 65536, decide `valid`. -/
theorem mask_eq (n w : BitVec 32) (p : Nat) (hp : p < 65536) (hw : w.toNat = p) {α : Type} (x y : α) :
    Scalar.select (IntOp.andi (IntOp.cmpi .slt w n) (IntOp.cmpi .sgt w (IntOp.subi n 1024#32))) x y
      = if valid n p then x else y := by
  have hwi : w.toInt = (p : Int) := by rw [BitVec.toInt_eq_toNat_cond]; omega
  have hn := n.isLt
  have hsub : (IntOp.subi n 1024#32).toInt = if n.toInt < -2147482624 then n.toInt - 1024 + 4294967296 else n.toInt - 1024 := by
    show (n - 1024#32).toInt = _
    rw [BitVec.toInt_eq_toNat_cond, BitVec.toInt_eq_toNat_cond, BitVec.toNat_sub, show (1024#32).toNat = 1024 from rfl]
    split <;> split <;> split <;> omega
  rw [cmpi_slt_eq, cmpi_sgt_eq, hwi, hsub]
  by_cases h1 : (p : Int) < n.toInt
  · have : ¬ n.toInt < -2147482624 := by omega
    rw [if_neg this]
    by_cases h2 : n.toInt - 1024 < (p : Int)
    · rw [if_pos (show valid n p from ⟨h1, h2⟩)]; simp only [h1, h2, decide_true]; rfl
    · rw [if_neg (fun h : valid n p => h2 h.2)]; simp only [h1, h2, decide_true, decide_false]; rfl
  · rw [if_neg (fun h : valid n p => h1 h.1)]
    simp only [h1, decide_false]
    have hz : ∀ q : Bool, Scalar.select (IntOp.andi (BitVec.ofBool false) (BitVec.ofBool q)) x y = y := fun q => by cases q <;> rfl
    exact hz _

theorem toInt_sub_1023 (v : BitVec 32) : (v - 1023#32).toInt
    = if v.toInt < -2147482625 then v.toInt - 1023 + 4294967296 else v.toInt - 1023 := by
  have hn := v.isLt
  rw [BitVec.toInt_eq_toNat_cond, BitVec.toInt_eq_toNat_cond, BitVec.toNat_sub, show (1023#32).toNat = 1023 from rfl]
  split <;> split <;> split <;> omega

/-- The 1152 positions that the kernel holds from its aligned start on hold the window. -/
theorem cover_span (n : BitVec 32) : ∀ p, p < 65536 → valid n p →
    (Cert.Word.spanWord n).toNat ≤ p ∧ p < (Cert.Word.spanWord n).toNat + 1152 := by
  rintro p hp ⟨h1, h2⟩
  rw [Cert.Word.spanWord_toNat]
  unfold Cert.Word.first
  rw [toInt_sub_1023, if_neg (by omega)]
  omega

/-- The start of the reference's slice: `clip(n - 1023, 0, 64513)`. -/
def clipWord (v : BitVec 32) : BitVec 32 := IntOp.minsi 64513#32 (IntOp.maxsi 0#32 (IntOp.subi v 1023#32))

theorem clipWord_toNat (v : BitVec 32) : (clipWord v).toNat = min (v - 1023#32).toInt.toNat 64513 := by
  unfold clipWord
  have e1 : IntOp.maxsi 0#32 (IntOp.subi v 1023#32) = if (v - 1023#32).slt 0#32 then 0#32 else v - 1023#32 := rfl
  rw [e1]
  generalize v - 1023#32 = w
  have hw := w.isLt
  have hc := BitVec.toInt_eq_toNat_cond w
  have e2 : ∀ u : BitVec 32, IntOp.minsi 64513#32 u = if (64513#32).slt u then 64513#32 else u := fun _ => rfl
  have h64 : (64513#32 : BitVec 32).toInt = 64513 := by decide
  rw [e2]
  simp only [BitVec.slt_iff_toInt_lt, BitVec.toInt_zero, h64]
  split at hc <;> split <;> split <;> simp_all <;> omega

/-- The 1023 positions of the reference's slice hold the window. -/
theorem cover_clip (n : BitVec 32) : ∀ p, p < 65536 → valid n p →
    (clipWord n).toNat ≤ p ∧ p < (clipWord n).toNat + 1023 := by
  rintro p hp ⟨h1, h2⟩
  rw [clipWord_toNat, toInt_sub_1023, if_neg (by omega)]
  omega

end Cert.Att
-- ==== Proof.RHost.lean ====
/- What the reference's launch finds: its window arrays, after the slices and reshapes before it, in terms of the arguments. -/
module

public import Idealize.ShloMosaic.Lib.Pipeline.ValueKit
public import Idealize.ShloMosaic.Lib.StableHlo.ReadAt
public import proofs.«01_k».proof.Proof.Gen.ReferenceIdeal.Frame
public import proofs.«01_k».proof.Proof.Spec

@[expose] public section

set_option maxRecDepth 100000

noncomputable section

namespace Cert.ReferenceIdeal.Host

open Cert.ReferenceIdeal Cert.ReferenceIdeal.Gen
open Idealize.ShloMosaic Idealize.ShloMosaic.TcCoe Idealize.ShloMosaic.Pipeline

variable (m : (ℓ : Loc nD τ sig) → Buf (Elt Ideal) ℓ)

/-- The six arguments on device `c`. -/
abbrev argQ (c : Dev nD) : Vec Ideal S8x1x2048 .bf16 := m ((c.tc : Thread nD τ).loc main_arg0)
abbrev argKn (c : Dev nD) : Vec Ideal S8x1x4x64 .bf16 := m ((c.tc : Thread nD τ).loc main_arg1)
abbrev argVn (c : Dev nD) : Vec Ideal S8x1x4x64 .bf16 := m ((c.tc : Thread nD τ).loc main_arg2)
abbrev argK (c : Dev nD) : Vec Ideal S8x65536x4x64 .fp8e5m2 := m ((c.tc : Thread nD τ).loc main_arg3)
abbrev argV (c : Dev nD) : Vec Ideal S8x65536x4x64 .fp8e5m2 := m ((c.tc : Thread nD τ).loc main_arg4)
abbrev argN (c : Dev nD) : Vec Ideal S8 .i32 := m ((c.tc : Thread nD τ).loc main_arg5)

/-- The slice starts at the clipped word on the position axis, and at 0 on the other two. -/
theorem clamp0 (h : S1023x4x64.rank = S65536x4x64.rank) (start : Fin 3 → Int) (n : BitVec 32)
    (hs : start 0 = (Scalar.select (IntOp.cmpi .slt (Att.clipWord n) 0#32) (IntOp.addi (Att.clipWord n) 65536#32) (Att.clipWord n)).toInt) :
    Host.clampedStart S65536x4x64 S1023x4x64 h start 0 = (Att.clipWord n).toNat := by
  have h1 := Att.clipWord_toNat n
  have e : (Att.clipWord n).toInt = ((Att.clipWord n).toNat : Int) := by
    rw [BitVec.toInt_eq_toNat_cond]; split <;> omega
  have e2 : Scalar.select (IntOp.cmpi .slt (Att.clipWord n) 0#32) (IntOp.addi (Att.clipWord n) 65536#32) (Att.clipWord n) = Att.clipWord n := by
    have hlt : (Att.clipWord n).slt 0#32 = false := by
      simp only [BitVec.slt, BitVec.toInt_zero, decide_eq_false_iff_not, Int.not_lt]; omega
    show (if BitVec.ofBool ((Att.clipWord n).slt 0#32) = 1 then _ else _) = _
    rw [hlt]; rfl
  rw [e2, e] at hs
  unfold Host.clampedStart
  rw [hs]
  show (min (max ((Att.clipWord n).toNat : Int) 0) ((65536 - 1023 : Nat) : Int)).toNat = _
  omega
theorem clamp1 (h : S1023x4x64.rank = S65536x4x64.rank) (start : Fin 3 → Int) :
    Host.clampedStart S65536x4x64 S1023x4x64 h start 1 = 0 := by
  show (min (max (start 1) 0) ((4 - 4 : Nat) : Int)).toNat = _
  omega
theorem clamp2 (h : S1023x4x64.rank = S65536x4x64.rank) (start : Fin 3 → Int) :
    Host.clampedStart S65536x4x64 S1023x4x64 h start 2 = 0 := by
  show (min (max (start 2) 0) ((64 - 64 : Nat) : Int)).toNat = _
  omega
/-- The slice lies in the cache. -/
theorem fits (n : BitVec 32) (t : Fin 1023) : (Att.clipWord n).toNat + t.val < 65536 := by
  have := Att.clipWord_toNat n
  omega

/-- The position that entry `t` of the slice holds. -/
def row (n : BitVec 32) (t : Fin 1023) : Fin 65536 := ⟨(Att.clipWord n).toNat + t.val, fits n t⟩

/-- An element of the slice is the cache's element at its position. -/
theorem pos_eq (h : S1023x4x64.rank = S65536x4x64.rank) (start : Fin 3 → Int) (n : BitVec 32) (t : Fin 1023) (kv : Fin 4) (d : Fin 64)
    (hs : start 0 = (Scalar.select (IntOp.cmpi .slt (Att.clipWord n) 0#32) (IntOp.addi (Att.clipWord n) 65536#32) (Att.clipWord n)).toInt)
    (X : Vec Ideal S8x65536x4x64 .fp8e5m2) (b : Fin 8) (h0 h1 h2) :
    X (ix4 b ⟨Host.clampedStart S65536x4x64 S1023x4x64 h start 0 + t.val, h0⟩ ⟨Host.clampedStart S65536x4x64 S1023x4x64 h start 1 + kv.val, h1⟩ ⟨Host.clampedStart S65536x4x64 S1023x4x64 h start 2 + d.val, h2⟩)
      = X (ix4 b (row n t) kv d) := by
  have e0 : (⟨Host.clampedStart S65536x4x64 S1023x4x64 h start 0 + t.val, h0⟩ : Fin 65536) = row n t := Fin.ext (congrArg (· + t.val) (clamp0 h start n hs))
  have e1 : (⟨Host.clampedStart S65536x4x64 S1023x4x64 h start 1 + kv.val, h1⟩ : Fin 4) = kv := Fin.ext (by simp only [clamp1, Nat.zero_add])
  have e2 : (⟨Host.clampedStart S65536x4x64 S1023x4x64 h start 2 + d.val, h2⟩ : Fin 64) = d := Fin.ext (by simp only [clamp2, Nat.zero_add])
  rw [e0, e1, e2]

/-- The element named by its batch's number. -/
theorem at_batch (X : Vec Ideal S8x65536x4x64 .fp8e5m2) (N : Vec Ideal S8 .i32) (r : Fin 32) (k : Fin 8) (h : r.val / 4 = k.val)
    (t : Fin 1023) (kv : Fin 4) (d : Fin 64) :
    X (ix4 k (row (N (ix1 k)) t) kv d) = X (ix4 (⟨r.val / 4, by omega⟩ : Fin 8) (row (N (ix1 (⟨r.val / 4, by omega⟩ : Fin 8))) t) kv d) := by
  exact (congrArg (fun z : Fin 8 => X (ix4 z (row (N (ix1 z)) t) kv d)) (Fin.ext h : (⟨r.val / 4, by omega⟩ : Fin 8) = k)).symm

/-- The stack's element, found by its batch. -/
theorem stack_apply (B0 B1 B2 B3 B4 B5 B6 B7 : Vec Ideal S1x1023x4x64 .fp8e5m2) (X : Vec Ideal S8x65536x4x64 .fp8e5m2) (N : Vec Ideal S8 .i32)
    (h0 : ∀ z t kv d, B0 (ix4 z t kv d) = X (ix4 0 (row (N (ix1 0)) t) kv d))
    (h1 : ∀ z t kv d, B1 (ix4 z t kv d) = X (ix4 1 (row (N (ix1 1)) t) kv d))
    (h2 : ∀ z t kv d, B2 (ix4 z t kv d) = X (ix4 2 (row (N (ix1 2)) t) kv d))
    (h3 : ∀ z t kv d, B3 (ix4 z t kv d) = X (ix4 3 (row (N (ix1 3)) t) kv d))
    (h4 : ∀ z t kv d, B4 (ix4 z t kv d) = X (ix4 4 (row (N (ix1 4)) t) kv d))
    (h5 : ∀ z t kv d, B5 (ix4 z t kv d) = X (ix4 5 (row (N (ix1 5)) t) kv d))
    (h6 : ∀ z t kv d, B6 (ix4 z t kv d) = X (ix4 6 (row (N (ix1 6)) t) kv d))
    (h7 : ∀ z t kv d, B7 (ix4 z t kv d) = X (ix4 7 (row (N (ix1 7)) t) kv d))
    (r : Fin 32) (t : Fin 1023) (d : Fin 64) :
    (if h : r.val / 4 < 1 then B0 (ix4 (⟨r.val / 4, by omega⟩ : Fin 1) t (⟨r.val % 4, by omega⟩ : Fin 4) d) else if h : r.val / 4 - 1 < 1 then B1 (ix4 (⟨r.val / 4 - 1, by omega⟩ : Fin 1) t (⟨r.val % 4, by omega⟩ : Fin 4) d) else if h : r.val / 4 - 1 - 1 < 1 then B2 (ix4 (⟨r.val / 4 - 1 - 1, by omega⟩ : Fin 1) t (⟨r.val % 4, by omega⟩ : Fin 4) d) else if h : r.val / 4 - 1 - 1 - 1 < 1 then B3 (ix4 (⟨r.val / 4 - 1 - 1 - 1, by omega⟩ : Fin 1) t (⟨r.val % 4, by omega⟩ : Fin 4) d) else if h : r.val / 4 - 1 - 1 - 1 - 1 < 1 then B4 (ix4 (⟨r.val / 4 - 1 - 1 - 1 - 1, by omega⟩ : Fin 1) t (⟨r.val % 4, by omega⟩ : Fin 4) d) else if h : r.val / 4 - 1 - 1 - 1 - 1 - 1 < 1 then B5 (ix4 (⟨r.val / 4 - 1 - 1 - 1 - 1 - 1, by omega⟩ : Fin 1) t (⟨r.val % 4, by omega⟩ : Fin 4) d) else if h : r.val / 4 - 1 - 1 - 1 - 1 - 1 - 1 < 1 then B6 (ix4 (⟨r.val / 4 - 1 - 1 - 1 - 1 - 1 - 1, by omega⟩ : Fin 1) t (⟨r.val % 4, by omega⟩ : Fin 4) d) else B7 (ix4 (⟨r.val / 4 - 1 - 1 - 1 - 1 - 1 - 1 - 1, by omega⟩ : Fin 1) t (⟨r.val % 4, by omega⟩ : Fin 4) d))
      = X (ix4 (⟨r.val / 4, by omega⟩ : Fin 8) (row (N (ix1 (⟨r.val / 4, by omega⟩ : Fin 8))) t) (⟨r.val % 4, by omega⟩ : Fin 4) d) := by
  split_ifs
  · exact (h0 _ t _ d).trans (at_batch _ _ _ 0 (by show r.val / 4 = 0; clear h0 h1 h2 h3 h4 h5 h6 h7; omega) _ _ _)
  · exact (h1 _ t _ d).trans (at_batch _ _ _ 1 (by show r.val / 4 = 1; clear h0 h1 h2 h3 h4 h5 h6 h7; omega) _ _ _)
  · exact (h2 _ t _ d).trans (at_batch _ _ _ 2 (by show r.val / 4 = 2; clear h0 h1 h2 h3 h4 h5 h6 h7; omega) _ _ _)
  · exact (h3 _ t _ d).trans (at_batch _ _ _ 3 (by show r.val / 4 = 3; clear h0 h1 h2 h3 h4 h5 h6 h7; omega) _ _ _)
  · exact (h4 _ t _ d).trans (at_batch _ _ _ 4 (by show r.val / 4 = 4; clear h0 h1 h2 h3 h4 h5 h6 h7; omega) _ _ _)
  · exact (h5 _ t _ d).trans (at_batch _ _ _ 5 (by show r.val / 4 = 5; clear h0 h1 h2 h3 h4 h5 h6 h7; omega) _ _ _)
  · exact (h6 _ t _ d).trans (at_batch _ _ _ 6 (by show r.val / 4 = 6; clear h0 h1 h2 h3 h4 h5 h6 h7; omega) _ _ _)
  · exact (h7 _ t _ d).trans (at_batch _ _ _ 7 (by show r.val / 4 = 7; clear h0 h1 h2 h3 h4 h5 h6 h7; omega) _ _ _)

/-- Batch 0's slice of the key cache. -/
theorem kSlice0 (c : Dev nD) (t : Fin 1023) (kv : Fin 4) (d : Fin 64) :
    (V m c main_v10 : Vec Ideal S1023x4x64 .fp8e5m2) (ix3 t kv d) = argK m c (ix4 0 (row (argN m c (ix1 0)) t) kv d) := by
  unfold V
  after_reads_at
  refine pos_eq _ _ _ _ _ _ ?_ _ _ _ _ _
  generalize hu : StableHlo.upto [hostOps0, hostOps0_1, hostOps0_2].flatten (fun b => m (c, b)) 22 = U
  change BitVec.toInt ((cast _ (U (Proc.tc.devRef main_v9)) : Vec Ideal S_ .i32) (Shape.Idx.first h_S_)) = _
  subst hu
  after_reads_at
  simp only [cast_eq, id_eq, Att.clipWord]
  rfl

/-- … as the stack takes it. -/
theorem kStack0 (c : Dev nD) (z : Fin 1) (t : Fin 1023) (kv : Fin 4) (d : Fin 64) :
    (StableHlo.upto [hostOps0, hostOps0_1, hostOps0_2].flatten (fun b => m (c, b)) 115 (Proc.tc.devRef main_v67) : Vec Ideal S1x1023x4x64 .fp8e5m2) (ix4 z t kv d)
      = (V m c main_v10 : Vec Ideal S1023x4x64 .fp8e5m2) (ix3 t kv d) := by
  unfold V
  after_reads_at

/-- Batch 1's slice of the key cache. -/
theorem kSlice1 (c : Dev nD) (t : Fin 1023) (kv : Fin 4) (d : Fin 64) :
    (V m c main_v18 : Vec Ideal S1023x4x64 .fp8e5m2) (ix3 t kv d) = argK m c (ix4 1 (row (argN m c (ix1 1)) t) kv d) := by
  unfold V
  after_reads_at
  refine pos_eq _ _ _ _ _ _ ?_ _ _ _ _ _
  generalize hu : StableHlo.upto [hostOps0, hostOps0_1, hostOps0_2].flatten (fun b => m (c, b)) 34 = U
  change BitVec.toInt ((cast _ (U (Proc.tc.devRef main_v17)) : Vec Ideal S_ .i32) (Shape.Idx.first h_S_)) = _
  subst hu
  after_reads_at
  simp only [cast_eq, id_eq, Att.clipWord]
  rfl

/-- … as the stack takes it. -/
theorem kStack1 (c : Dev nD) (z : Fin 1) (t : Fin 1023) (kv : Fin 4) (d : Fin 64) :
    (StableHlo.upto [hostOps0, hostOps0_1, hostOps0_2].flatten (fun b => m (c, b)) 115 (Proc.tc.devRef main_v68) : Vec Ideal S1x1023x4x64 .fp8e5m2) (ix4 z t kv d)
      = (V m c main_v18 : Vec Ideal S1023x4x64 .fp8e5m2) (ix3 t kv d) := by
  unfold V
  after_reads_at

/-- Batch 2's slice of the key cache. -/
theorem kSlice2 (c : Dev nD) (t : Fin 1023) (kv : Fin 4) (d : Fin 64) :
    (V m c main_v26 : Vec Ideal S1023x4x64 .fp8e5m2) (ix3 t kv d) = argK m c (ix4 2 (row (argN m c (ix1 2)) t) kv d) := by
  unfold V
  after_reads_at
  refine pos_eq _ _ _ _ _ _ ?_ _ _ _ _ _
  generalize hu : StableHlo.upto [hostOps0, hostOps0_1, hostOps0_2].flatten (fun b => m (c, b)) 46 = U
  change BitVec.toInt ((cast _ (U (Proc.tc.devRef main_v25)) : Vec Ideal S_ .i32) (Shape.Idx.first h_S_)) = _
  subst hu
  after_reads_at
  simp only [cast_eq, id_eq, Att.clipWord]
  rfl

/-- … as the stack takes it. -/
theorem kStack2 (c : Dev nD) (z : Fin 1) (t : Fin 1023) (kv : Fin 4) (d : Fin 64) :
    (StableHlo.upto [hostOps0, hostOps0_1, hostOps0_2].flatten (fun b => m (c, b)) 115 (Proc.tc.devRef main_v69) : Vec Ideal S1x1023x4x64 .fp8e5m2) (ix4 z t kv d)
      = (V m c main_v26 : Vec Ideal S1023x4x64 .fp8e5m2) (ix3 t kv d) := by
  unfold V
  after_reads_at

/-- Batch 3's slice of the key cache. -/
theorem kSlice3 (c : Dev nD) (t : Fin 1023) (kv : Fin 4) (d : Fin 64) :
    (V m c main_v34 : Vec Ideal S1023x4x64 .fp8e5m2) (ix3 t kv d) = argK m c (ix4 3 (row (argN m c (ix1 3)) t) kv d) := by
  unfold V
  after_reads_at
  refine pos_eq _ _ _ _ _ _ ?_ _ _ _ _ _
  generalize hu : StableHlo.upto [hostOps0, hostOps0_1, hostOps0_2].flatten (fun b => m (c, b)) 58 = U
  change BitVec.toInt ((cast _ (U (Proc.tc.devRef main_v33)) : Vec Ideal S_ .i32) (Shape.Idx.first h_S_)) = _
  subst hu
  after_reads_at
  simp only [cast_eq, id_eq, Att.clipWord]
  rfl

/-- … as the stack takes it. -/
theorem kStack3 (c : Dev nD) (z : Fin 1) (t : Fin 1023) (kv : Fin 4) (d : Fin 64) :
    (StableHlo.upto [hostOps0, hostOps0_1, hostOps0_2].flatten (fun b => m (c, b)) 115 (Proc.tc.devRef main_v70) : Vec Ideal S1x1023x4x64 .fp8e5m2) (ix4 z t kv d)
      = (V m c main_v34 : Vec Ideal S1023x4x64 .fp8e5m2) (ix3 t kv d) := by
  unfold V
  after_reads_at

/-- Batch 4's slice of the key cache. -/
theorem kSlice4 (c : Dev nD) (t : Fin 1023) (kv : Fin 4) (d : Fin 64) :
    (V m c main_v42 : Vec Ideal S1023x4x64 .fp8e5m2) (ix3 t kv d) = argK m c (ix4 4 (row (argN m c (ix1 4)) t) kv d) := by
  unfold V
  after_reads_at
  refine pos_eq _ _ _ _ _ _ ?_ _ _ _ _ _
  generalize hu : StableHlo.upto [hostOps0, hostOps0_1, hostOps0_2].flatten (fun b => m (c, b)) 70 = U
  change BitVec.toInt ((cast _ (U (Proc.tc.devRef main_v41)) : Vec Ideal S_ .i32) (Shape.Idx.first h_S_)) = _
  subst hu
  after_reads_at
  simp only [cast_eq, id_eq, Att.clipWord]
  rfl

/-- … as the stack takes it. -/
theorem kStack4 (c : Dev nD) (z : Fin 1) (t : Fin 1023) (kv : Fin 4) (d : Fin 64) :
    (StableHlo.upto [hostOps0, hostOps0_1, hostOps0_2].flatten (fun b => m (c, b)) 115 (Proc.tc.devRef main_v71) : Vec Ideal S1x1023x4x64 .fp8e5m2) (ix4 z t kv d)
      = (V m c main_v42 : Vec Ideal S1023x4x64 .fp8e5m2) (ix3 t kv d) := by
  unfold V
  after_reads_at

/-- Batch 5's slice of the key cache. -/
theorem kSlice5 (c : Dev nD) (t : Fin 1023) (kv : Fin 4) (d : Fin 64) :
    (V m c main_v50 : Vec Ideal S1023x4x64 .fp8e5m2) (ix3 t kv d) = argK m c (ix4 5 (row (argN m c (ix1 5)) t) kv d) := by
  unfold V
  after_reads_at
  refine pos_eq _ _ _ _ _ _ ?_ _ _ _ _ _
  generalize hu : StableHlo.upto [hostOps0, hostOps0_1, hostOps0_2].flatten (fun b => m (c, b)) 82 = U
  change BitVec.toInt ((cast _ (U (Proc.tc.devRef main_v49)) : Vec Ideal S_ .i32) (Shape.Idx.first h_S_)) = _
  subst hu
  after_reads_at
  simp only [cast_eq, id_eq, Att.clipWord]
  rfl

/-- … as the stack takes it. -/
theorem kStack5 (c : Dev nD) (z : Fin 1) (t : Fin 1023) (kv : Fin 4) (d : Fin 64) :
    (StableHlo.upto [hostOps0, hostOps0_1, hostOps0_2].flatten (fun b => m (c, b)) 115 (Proc.tc.devRef main_v72) : Vec Ideal S1x1023x4x64 .fp8e5m2) (ix4 z t kv d)
      = (V m c main_v50 : Vec Ideal S1023x4x64 .fp8e5m2) (ix3 t kv d) := by
  unfold V
  after_reads_at

/-- Batch 6's slice of the key cache. -/
theorem kSlice6 (c : Dev nD) (t : Fin 1023) (kv : Fin 4) (d : Fin 64) :
    (V m c main_v58 : Vec Ideal S1023x4x64 .fp8e5m2) (ix3 t kv d) = argK m c (ix4 6 (row (argN m c (ix1 6)) t) kv d) := by
  unfold V
  after_reads_at
  refine pos_eq _ _ _ _ _ _ ?_ _ _ _ _ _
  generalize hu : StableHlo.upto [hostOps0, hostOps0_1, hostOps0_2].flatten (fun b => m (c, b)) 94 = U
  change BitVec.toInt ((cast _ (U (Proc.tc.devRef main_v57)) : Vec Ideal S_ .i32) (Shape.Idx.first h_S_)) = _
  subst hu
  after_reads_at
  simp only [cast_eq, id_eq, Att.clipWord]
  rfl

/-- … as the stack takes it. -/
theorem kStack6 (c : Dev nD) (z : Fin 1) (t : Fin 1023) (kv : Fin 4) (d : Fin 64) :
    (StableHlo.upto [hostOps0, hostOps0_1, hostOps0_2].flatten (fun b => m (c, b)) 115 (Proc.tc.devRef main_v73) : Vec Ideal S1x1023x4x64 .fp8e5m2) (ix4 z t kv d)
      = (V m c main_v58 : Vec Ideal S1023x4x64 .fp8e5m2) (ix3 t kv d) := by
  unfold V
  after_reads_at

/-- Batch 7's slice of the key cache. -/
theorem kSlice7 (c : Dev nD) (t : Fin 1023) (kv : Fin 4) (d : Fin 64) :
    (V m c main_v66 : Vec Ideal S1023x4x64 .fp8e5m2) (ix3 t kv d) = argK m c (ix4 7 (row (argN m c (ix1 7)) t) kv d) := by
  unfold V
  after_reads_at
  refine pos_eq _ _ _ _ _ _ ?_ _ _ _ _ _
  generalize hu : StableHlo.upto [hostOps0, hostOps0_1, hostOps0_2].flatten (fun b => m (c, b)) 106 = U
  change BitVec.toInt ((cast _ (U (Proc.tc.devRef main_v65)) : Vec Ideal S_ .i32) (Shape.Idx.first h_S_)) = _
  subst hu
  after_reads_at
  simp only [cast_eq, id_eq, Att.clipWord]
  rfl

/-- … as the stack takes it. -/
theorem kStack7 (c : Dev nD) (z : Fin 1) (t : Fin 1023) (kv : Fin 4) (d : Fin 64) :
    (StableHlo.upto [hostOps0, hostOps0_1, hostOps0_2].flatten (fun b => m (c, b)) 115 (Proc.tc.devRef main_v74) : Vec Ideal S1x1023x4x64 .fp8e5m2) (ix4 z t kv d)
      = (V m c main_v66 : Vec Ideal S1023x4x64 .fp8e5m2) (ix3 t kv d) := by
  unfold V
  after_reads_at

set_option maxHeartbeats 400000 in
/-- The launch's window of the keys. -/
theorem kWindow (c : Dev nD) (r : Fin 32) (t : Fin 1023) (d : Fin 64) :
    (V m c main_v169 : Vec Ideal S32x1023x64 .fp8e5m2) (ix3 r t d)
      = argK m c (ix4 (⟨r.val / 4, by omega⟩ : Fin 8) (row (argN m c (ix1 (⟨r.val / 4, by omega⟩ : Fin 8))) t) (⟨r.val % 4, by omega⟩ : Fin 4) d) := by
  unfold V
  after_reads_at
  exact stack_apply _ _ _ _ _ _ _ _ (argK m c) (argN m c)
    (fun z t kv d => (kStack0 m c z t kv d).trans (kSlice0 m c t kv d))
    (fun z t kv d => (kStack1 m c z t kv d).trans (kSlice1 m c t kv d))
    (fun z t kv d => (kStack2 m c z t kv d).trans (kSlice2 m c t kv d))
    (fun z t kv d => (kStack3 m c z t kv d).trans (kSlice3 m c t kv d))
    (fun z t kv d => (kStack4 m c z t kv d).trans (kSlice4 m c t kv d))
    (fun z t kv d => (kStack5 m c z t kv d).trans (kSlice5 m c t kv d))
    (fun z t kv d => (kStack6 m c z t kv d).trans (kSlice6 m c t kv d))
    (fun z t kv d => (kStack7 m c z t kv d).trans (kSlice7 m c t kv d))
    r t d

/-- Batch 0's slice of the value cache. -/
theorem vSlice0 (c : Dev nD) (t : Fin 1023) (kv : Fin 4) (d : Fin 64) :
    (V m c main_v83 : Vec Ideal S1023x4x64 .fp8e5m2) (ix3 t kv d) = argV m c (ix4 0 (row (argN m c (ix1 0)) t) kv d) := by
  unfold V
  after_reads_at
  refine pos_eq _ _ _ _ _ _ ?_ _ _ _ _ _
  generalize hu : StableHlo.upto [hostOps0, hostOps0_1, hostOps0_2].flatten (fun b => m (c, b)) 127 = U
  change BitVec.toInt ((cast _ (U (Proc.tc.devRef main_v82)) : Vec Ideal S_ .i32) (Shape.Idx.first h_S_)) = _
  subst hu
  after_reads_at
  simp only [cast_eq, id_eq, Att.clipWord]
  rfl

/-- … as the stack takes it. -/
theorem vStack0 (c : Dev nD) (z : Fin 1) (t : Fin 1023) (kv : Fin 4) (d : Fin 64) :
    (StableHlo.upto [hostOps0, hostOps0_1, hostOps0_2].flatten (fun b => m (c, b)) 220 (Proc.tc.devRef main_v140) : Vec Ideal S1x1023x4x64 .fp8e5m2) (ix4 z t kv d)
      = (V m c main_v83 : Vec Ideal S1023x4x64 .fp8e5m2) (ix3 t kv d) := by
  unfold V
  after_reads_at

/-- Batch 1's slice of the value cache. -/
theorem vSlice1 (c : Dev nD) (t : Fin 1023) (kv : Fin 4) (d : Fin 64) :
    (V m c main_v91 : Vec Ideal S1023x4x64 .fp8e5m2) (ix3 t kv d) = argV m c (ix4 1 (row (argN m c (ix1 1)) t) kv d) := by
  unfold V
  after_reads_at
  refine pos_eq _ _ _ _ _ _ ?_ _ _ _ _ _
  generalize hu : StableHlo.upto [hostOps0, hostOps0_1, hostOps0_2].flatten (fun b => m (c, b)) 139 = U
  change BitVec.toInt ((cast _ (U (Proc.tc.devRef main_v90)) : Vec Ideal S_ .i32) (Shape.Idx.first h_S_)) = _
  subst hu
  after_reads_at
  simp only [cast_eq, id_eq, Att.clipWord]
  rfl

/-- … as the stack takes it. -/
theorem vStack1 (c : Dev nD) (z : Fin 1) (t : Fin 1023) (kv : Fin 4) (d : Fin 64) :
    (StableHlo.upto [hostOps0, hostOps0_1, hostOps0_2].flatten (fun b => m (c, b)) 220 (Proc.tc.devRef main_v141) : Vec Ideal S1x1023x4x64 .fp8e5m2) (ix4 z t kv d)
      = (V m c main_v91 : Vec Ideal S1023x4x64 .fp8e5m2) (ix3 t kv d) := by
  unfold V
  after_reads_at

/-- Batch 2's slice of the value cache. -/
theorem vSlice2 (c : Dev nD) (t : Fin 1023) (kv : Fin 4) (d : Fin 64) :
    (V m c main_v99 : Vec Ideal S1023x4x64 .fp8e5m2) (ix3 t kv d) = argV m c (ix4 2 (row (argN m c (ix1 2)) t) kv d) := by
  unfold V
  after_reads_at
  refine pos_eq _ _ _ _ _ _ ?_ _ _ _ _ _
  generalize hu : StableHlo.upto [hostOps0, hostOps0_1, hostOps0_2].flatten (fun b => m (c, b)) 151 = U
  change BitVec.toInt ((cast _ (U (Proc.tc.devRef main_v98)) : Vec Ideal S_ .i32) (Shape.Idx.first h_S_)) = _
  subst hu
  after_reads_at
  simp only [cast_eq, id_eq, Att.clipWord]
  rfl

/-- … as the stack takes it. -/
theorem vStack2 (c : Dev nD) (z : Fin 1) (t : Fin 1023) (kv : Fin 4) (d : Fin 64) :
    (StableHlo.upto [hostOps0, hostOps0_1, hostOps0_2].flatten (fun b => m (c, b)) 220 (Proc.tc.devRef main_v142) : Vec Ideal S1x1023x4x64 .fp8e5m2) (ix4 z t kv d)
      = (V m c main_v99 : Vec Ideal S1023x4x64 .fp8e5m2) (ix3 t kv d) := by
  unfold V
  after_reads_at

/-- Batch 3's slice of the value cache. -/
theorem vSlice3 (c : Dev nD) (t : Fin 1023) (kv : Fin 4) (d : Fin 64) :
    (V m c main_v107 : Vec Ideal S1023x4x64 .fp8e5m2) (ix3 t kv d) = argV m c (ix4 3 (row (argN m c (ix1 3)) t) kv d) := by
  unfold V
  after_reads_at
  refine pos_eq _ _ _ _ _ _ ?_ _ _ _ _ _
  generalize hu : StableHlo.upto [hostOps0, hostOps0_1, hostOps0_2].flatten (fun b => m (c, b)) 163 = U
  change BitVec.toInt ((cast _ (U (Proc.tc.devRef main_v106)) : Vec Ideal S_ .i32) (Shape.Idx.first h_S_)) = _
  subst hu
  after_reads_at
  simp only [cast_eq, id_eq, Att.clipWord]
  rfl

/-- … as the stack takes it. -/
theorem vStack3 (c : Dev nD) (z : Fin 1) (t : Fin 1023) (kv : Fin 4) (d : Fin 64) :
    (StableHlo.upto [hostOps0, hostOps0_1, hostOps0_2].flatten (fun b => m (c, b)) 220 (Proc.tc.devRef main_v143) : Vec Ideal S1x1023x4x64 .fp8e5m2) (ix4 z t kv d)
      = (V m c main_v107 : Vec Ideal S1023x4x64 .fp8e5m2) (ix3 t kv d) := by
  unfold V
  after_reads_at

/-- Batch 4's slice of the value cache. -/
theorem vSlice4 (c : Dev nD) (t : Fin 1023) (kv : Fin 4) (d : Fin 64) :
    (V m c main_v115 : Vec Ideal S1023x4x64 .fp8e5m2) (ix3 t kv d) = argV m c (ix4 4 (row (argN m c (ix1 4)) t) kv d) := by
  unfold V
  after_reads_at
  refine pos_eq _ _ _ _ _ _ ?_ _ _ _ _ _
  generalize hu : StableHlo.upto [hostOps0, hostOps0_1, hostOps0_2].flatten (fun b => m (c, b)) 175 = U
  change BitVec.toInt ((cast _ (U (Proc.tc.devRef main_v114)) : Vec Ideal S_ .i32) (Shape.Idx.first h_S_)) = _
  subst hu
  after_reads_at
  simp only [cast_eq, id_eq, Att.clipWord]
  rfl

/-- … as the stack takes it. -/
theorem vStack4 (c : Dev nD) (z : Fin 1) (t : Fin 1023) (kv : Fin 4) (d : Fin 64) :
    (StableHlo.upto [hostOps0, hostOps0_1, hostOps0_2].flatten (fun b => m (c, b)) 220 (Proc.tc.devRef main_v144) : Vec Ideal S1x1023x4x64 .fp8e5m2) (ix4 z t kv d)
      = (V m c main_v115 : Vec Ideal S1023x4x64 .fp8e5m2) (ix3 t kv d) := by
  unfold V
  after_reads_at

/-- Batch 5's slice of the value cache. -/
theorem vSlice5 (c : Dev nD) (t : Fin 1023) (kv : Fin 4) (d : Fin 64) :
    (V m c main_v123 : Vec Ideal S1023x4x64 .fp8e5m2) (ix3 t kv d) = argV m c (ix4 5 (row (argN m c (ix1 5)) t) kv d) := by
  unfold V
  after_reads_at
  refine pos_eq _ _ _ _ _ _ ?_ _ _ _ _ _
  generalize hu : StableHlo.upto [hostOps0, hostOps0_1, hostOps0_2].flatten (fun b => m (c, b)) 187 = U
  change BitVec.toInt ((cast _ (U (Proc.tc.devRef main_v122)) : Vec Ideal S_ .i32) (Shape.Idx.first h_S_)) = _
  subst hu
  after_reads_at
  simp only [cast_eq, id_eq, Att.clipWord]
  rfl

/-- … as the stack takes it. -/
theorem vStack5 (c : Dev nD) (z : Fin 1) (t : Fin 1023) (kv : Fin 4) (d : Fin 64) :
    (StableHlo.upto [hostOps0, hostOps0_1, hostOps0_2].flatten (fun b => m (c, b)) 220 (Proc.tc.devRef main_v145) : Vec Ideal S1x1023x4x64 .fp8e5m2) (ix4 z t kv d)
      = (V m c main_v123 : Vec Ideal S1023x4x64 .fp8e5m2) (ix3 t kv d) := by
  unfold V
  after_reads_at

/-- Batch 6's slice of the value cache. -/
theorem vSlice6 (c : Dev nD) (t : Fin 1023) (kv : Fin 4) (d : Fin 64) :
    (V m c main_v131 : Vec Ideal S1023x4x64 .fp8e5m2) (ix3 t kv d) = argV m c (ix4 6 (row (argN m c (ix1 6)) t) kv d) := by
  unfold V
  after_reads_at
  refine pos_eq _ _ _ _ _ _ ?_ _ _ _ _ _
  generalize hu : StableHlo.upto [hostOps0, hostOps0_1, hostOps0_2].flatten (fun b => m (c, b)) 199 = U
  change BitVec.toInt ((cast _ (U (Proc.tc.devRef main_v130)) : Vec Ideal S_ .i32) (Shape.Idx.first h_S_)) = _
  subst hu
  after_reads_at
  simp only [cast_eq, id_eq, Att.clipWord]
  rfl

/-- … as the stack takes it. -/
theorem vStack6 (c : Dev nD) (z : Fin 1) (t : Fin 1023) (kv : Fin 4) (d : Fin 64) :
    (StableHlo.upto [hostOps0, hostOps0_1, hostOps0_2].flatten (fun b => m (c, b)) 220 (Proc.tc.devRef main_v146) : Vec Ideal S1x1023x4x64 .fp8e5m2) (ix4 z t kv d)
      = (V m c main_v131 : Vec Ideal S1023x4x64 .fp8e5m2) (ix3 t kv d) := by
  unfold V
  after_reads_at

/-- Batch 7's slice of the value cache. -/
theorem vSlice7 (c : Dev nD) (t : Fin 1023) (kv : Fin 4) (d : Fin 64) :
    (V m c main_v139 : Vec Ideal S1023x4x64 .fp8e5m2) (ix3 t kv d) = argV m c (ix4 7 (row (argN m c (ix1 7)) t) kv d) := by
  unfold V
  after_reads_at
  refine pos_eq _ _ _ _ _ _ ?_ _ _ _ _ _
  generalize hu : StableHlo.upto [hostOps0, hostOps0_1, hostOps0_2].flatten (fun b => m (c, b)) 211 = U
  change BitVec.toInt ((cast _ (U (Proc.tc.devRef main_v138)) : Vec Ideal S_ .i32) (Shape.Idx.first h_S_)) = _
  subst hu
  after_reads_at
  simp only [cast_eq, id_eq, Att.clipWord]
  rfl

/-- … as the stack takes it. -/
theorem vStack7 (c : Dev nD) (z : Fin 1) (t : Fin 1023) (kv : Fin 4) (d : Fin 64) :
    (StableHlo.upto [hostOps0, hostOps0_1, hostOps0_2].flatten (fun b => m (c, b)) 220 (Proc.tc.devRef main_v147) : Vec Ideal S1x1023x4x64 .fp8e5m2) (ix4 z t kv d)
      = (V m c main_v139 : Vec Ideal S1023x4x64 .fp8e5m2) (ix3 t kv d) := by
  unfold V
  after_reads_at

set_option maxHeartbeats 400000 in
/-- The launch's window of the values. -/
theorem vWindow (c : Dev nD) (r : Fin 32) (t : Fin 1023) (d : Fin 64) :
    (V m c main_v171 : Vec Ideal S32x1023x64 .fp8e5m2) (ix3 r t d)
      = argV m c (ix4 (⟨r.val / 4, by omega⟩ : Fin 8) (row (argN m c (ix1 (⟨r.val / 4, by omega⟩ : Fin 8))) t) (⟨r.val % 4, by omega⟩ : Fin 4) d) := by
  unfold V
  after_reads_at
  exact stack_apply _ _ _ _ _ _ _ _ (argV m c) (argN m c)
    (fun z t kv d => (vStack0 m c z t kv d).trans (vSlice0 m c t kv d))
    (fun z t kv d => (vStack1 m c z t kv d).trans (vSlice1 m c t kv d))
    (fun z t kv d => (vStack2 m c z t kv d).trans (vSlice2 m c t kv d))
    (fun z t kv d => (vStack3 m c z t kv d).trans (vSlice3 m c t kv d))
    (fun z t kv d => (vStack4 m c z t kv d).trans (vSlice4 m c t kv d))
    (fun z t kv d => (vStack5 m c z t kv d).trans (vSlice5 m c t kv d))
    (fun z t kv d => (vStack6 m c z t kv d).trans (vSlice6 m c t kv d))
    (fun z t kv d => (vStack7 m c z t kv d).trans (vSlice7 m c t kv d))
    r t d

/-- The launch's queries: row `4 b + h`, group `g` is head `8 h + g` of batch `b`. -/
theorem query (c : Dev nD) (r : Fin 32) (g : Fin 8) (d : Fin 64) : (V m c main_v172 : Vec Ideal S32x8x64 .bf16) (ix3 r g d)
    = argQ m c (ix3 (⟨r.val / 4, by omega⟩ : Fin 8) 0 (⟨r.val % 4 * 512 + g.val * 64 + d.val, by omega⟩ : Fin 2048)) := by
  unfold V
  after_reads_at
/-- The launch's new keys. -/
theorem newK (c : Dev nD) (r : Fin 32) (d : Fin 64) : (V m c main_v173 : Vec Ideal S32x1x64 .bf16) (ix3 r 0 d)
    = argKn m c (ix4 (⟨r.val / 4, by omega⟩ : Fin 8) 0 (⟨r.val % 4, by omega⟩ : Fin 4) d) := by
  unfold V
  after_reads_at
/-- The launch's new values. -/
theorem newV (c : Dev nD) (r : Fin 32) (d : Fin 64) : (V m c main_v174 : Vec Ideal S32x1x64 .bf16) (ix3 r 0 d)
    = argVn m c (ix4 (⟨r.val / 4, by omega⟩ : Fin 8) 0 (⟨r.val % 4, by omega⟩ : Fin 4) d) := by
  unfold V
  after_reads_at

/-- A bit widened to a word selects as the bit does. -/
theorem select_widen (b : BitVec 1) (x y : EReal) :
    Scalar.select (IntOp.cmpi .ne (BitVec.setWidth 32 b) 0#32) x y = Scalar.select b x y := by
  have h : b = 0#1 ∨ b = 1#1 := by
    have := b.isLt
    rcases Nat.lt_or_ge b.toNat 1 with h | h
    · left; apply BitVec.eq_of_toNat_eq; show b.toNat = 0; omega
    · right; apply BitVec.eq_of_toNat_eq; show b.toNat = 1; omega
  rcases h with rfl | rfl <;> rfl

/-- The launch's mask lets a position through exactly where the window holds it. -/
theorem mask (c : Dev nD) (r : Fin 32) (g : Fin 8) (t : Fin 1023) (x y : EReal) :
    Scalar.select (IntOp.cmpi .ne ((V m c main_v167 : Vec Ideal S32x8x1023 .i32) (ix3 r g t)) 0#32) x y
      = if Att.valid (argN m c (ix1 (⟨r.val / 4, by omega⟩ : Fin 8))) (row (argN m c (ix1 (⟨r.val / 4, by omega⟩ : Fin 8))) t).val then x else y := by
  have e : (V m c main_v167 : Vec Ideal S32x8x1023 .i32) (ix3 r g t)
      = BitVec.setWidth 32 (IntOp.andi
          (IntOp.cmpi .slt (IntOp.addi (Att.clipWord (argN m c (ix1 (⟨r.val / 4, by omega⟩ : Fin 8)))) (BitVec.ofNat 32 t.val)) (argN m c (ix1 (⟨r.val / 4, by omega⟩ : Fin 8))))
          (IntOp.cmpi .sgt (IntOp.addi (Att.clipWord (argN m c (ix1 (⟨r.val / 4, by omega⟩ : Fin 8)))) (BitVec.ofNat 32 t.val)) (IntOp.subi (argN m c (ix1 (⟨r.val / 4, by omega⟩ : Fin 8))) 1024#32))) := by
    unfold V
    after_reads_at
    simp only [id_eq, Att.clipWord]
    rfl
  rw [e, select_widen]
  refine Att.mask_eq _ _ _ (row _ t).isLt ?_ x y
  show (Att.clipWord _ + BitVec.ofNat 32 t.val).toNat = (Att.clipWord _).toNat + t.val
  have h := fits (argN m c (ix1 (⟨r.val / 4, by omega⟩ : Fin 8))) t
  rw [BitVec.toNat_add, BitVec.toNat_ofNat]
  omega

end Cert.ReferenceIdeal.Host
-- ==== Proof.Code.lean ====
/- The quantiser's code over the extended reals. -/
module

public import proofs.«01_k».proof.Proof.Spec

@[expose] public section

noncomputable section

namespace Cert.Att

open Idealize.ShloMosaic

/-- The code of a new key or value: the number, cut to the format's largest magnitude, 57344. -/
def code (x : EReal) : EReal := min (Ideal.ofBits .f32 0x47600000#32) (max (Ideal.ofBits .f32 0xC7600000#32) x)

/-- Equal parts give equal attention. -/
theorem out_congr {n n' : BitVec 32} {s s' v v' : Fin 65536 → EReal} {a a' b b' : EReal} (hn : n = n') (hs : ∀ p, s p = s' p)
    (hv : ∀ p, v p = v' p) (ha : a = a') (hb : b = b') : out n s v a b = out n' s' v' a' b' := by
  subst hn ha hb
  obtain rfl : s = s' := funext hs
  obtain rfl : v = v' := funext hv
  rfl

end Cert.Att
-- ==== Proof.RValue.lean ====
/- The reference's results over the extended reals, in terms of its arguments. -/
module

public import Idealize.ShloMosaic.Lib.Pipeline.ValueKit
public import Idealize.ShloMosaic.Lib.Pointwise
public import Idealize.ShloMosaic.Lib.Claim
public import proofs.«01_k».proof.Proof.RHost
public import proofs.«01_k».proof.Proof.Code

@[expose] public section

set_option maxRecDepth 16384

noncomputable section

namespace Cert.ReferenceIdeal.Host

open Cert.ReferenceIdeal Cert.ReferenceIdeal.Gen
open Idealize.ShloMosaic Idealize.ShloMosaic.TcCoe Idealize.ShloMosaic.Pipeline Idealize.SL.Sem

variable (m : (ℓ : Loc nD τ sig) → Buf (Elt Ideal) ℓ) (ρ : Dev nD → PrngReg)

/-- The one point of the launch. -/
def t0 : Fin cfg0.N := ⟨0, by decide⟩

/-- Window 0's block is its whole array. -/
theorem iblk0 (c : Dev nD) (t : Fin cfg0.N) : (iblk m c 0 t : Vec Ideal S32x8x64 .bf16) = V m c main_v172 := by
  have e : ∀ t : Fin cfg0.N, win0_0.index t = ![0, 0, 0] := by decide +kernel
  funext i
  blk_ext [iblk, e]

/-- Window 1's block is its whole array. -/
theorem iblk1 (c : Dev nD) (t : Fin cfg0.N) : (iblk m c 1 t : Vec Ideal S32x1x64 .bf16) = V m c main_v173 := by
  have e : ∀ t : Fin cfg0.N, win0_1.index t = ![0, 0, 0] := by decide +kernel
  funext i
  blk_ext [iblk, e]

/-- Window 2's block is its whole array. -/
theorem iblk2 (c : Dev nD) (t : Fin cfg0.N) : (iblk m c 2 t : Vec Ideal S32x1x64 .bf16) = V m c main_v174 := by
  have e : ∀ t : Fin cfg0.N, win0_2.index t = ![0, 0, 0] := by decide +kernel
  funext i
  blk_ext [iblk, e]

/-- Window 3's block is its whole array. -/
theorem iblk3 (c : Dev nD) (t : Fin cfg0.N) : (iblk m c 3 t : Vec Ideal S32x1023x64 .fp8e5m2) = V m c main_v169 := by
  have e : ∀ t : Fin cfg0.N, win0_3.index t = ![0, 0, 0] := by decide +kernel
  funext i
  blk_ext [iblk, e]

/-- Window 4's block is its whole array. -/
theorem iblk4 (c : Dev nD) (t : Fin cfg0.N) : (iblk m c 4 t : Vec Ideal S32x1023x64 .fp8e5m2) = V m c main_v171 := by
  have e : ∀ t : Fin cfg0.N, win0_4.index t = ![0, 0, 0] := by decide +kernel
  funext i
  blk_ext [iblk, e]

/-- Window 5's block is its whole array. -/
theorem iblk5 (c : Dev nD) (t : Fin cfg0.N) : (iblk m c 5 t : Vec Ideal S32x8x1023 .i32) = V m c main_v167 := by
  have e : ∀ t : Fin cfg0.N, win0_5.index t = ![0, 0, 0] := by decide +kernel
  funext i
  blk_ext [iblk, e]

/-- A new key's code. -/
theorem codeK (x : Vec Ideal S32x1x64 .bf16) (r : Fin 32) (d : Fin 64) : k0_pay5 (F := Ideal) x (ix3 r 0 d) = Cert.Att.code (x (ix3 r 0 d)) := by
  pointwise [k0_pay5, k0_pay1]
  rfl
/-- A new value's code. -/
theorem codeV (x : Vec Ideal S32x1x64 .bf16) (r : Fin 32) (d : Fin 64) : k0_pay6 (F := Ideal) x (ix3 r 0 d) = Cert.Att.code (x (ix3 r 0 d)) := by
  pointwise [k0_pay6, k0_pay2]
  rfl
/-- The new keys' codes, as stored. -/
theorem storeK (x : Vec Ideal S32x1x64 .bf16) (b : Fin 8) (h : Fin 4) (d : Fin 64) :
    k0_pay3 (F := Ideal) x (ix4 b 0 h d) = Cert.Att.code (x (ix3 (⟨b.val * 4 + h.val, by omega⟩ : Fin 32) 0 d)) := by
  pointwise [k0_pay3, k0_pay1]
  rfl
/-- The new values' codes, as stored. -/
theorem storeV (x : Vec Ideal S32x1x64 .bf16) (b : Fin 8) (h : Fin 4) (d : Fin 64) :
    k0_pay4 (F := Ideal) x (ix4 b 0 h d) = Cert.Att.code (x (ix3 (⟨b.val * 4 + h.val, by omega⟩ : Fin 32) 0 d)) := by
  pointwise [k0_pay4, k0_pay2]
  rfl
/-- A cached key, widened. -/
theorem wideK (x : Vec Ideal S32x1023x64 .fp8e5m2) (r : Fin 32) (t : Fin 1023) (d : Fin 64) : k0_pay7 (F := Ideal) x (ix3 r t d) = x (ix3 r t d) := by
  pointwise [k0_pay7]
/-- A cached value, widened. -/
theorem wideV (x : Vec Ideal S32x1023x64 .fp8e5m2) (r : Fin 32) (t : Fin 1023) (d : Fin 64) : k0_pay8 (F := Ideal) x (ix3 r t d) = x (ix3 r t d) := by
  pointwise [k0_pay8]

/-- The attention's body, at an element of its result. -/
theorem body_apply (kn vn : FVec Ideal S32x1x64 .bf16) (kw vw : FVec Ideal S32x1023x64 .bf16) (q : Vec Ideal S32x8x64 .bf16) (mk : Vec Ideal S32x8x1023 .i32)
    (b : Fin 8) (j : Fin 2048) :
    k0_pay9 (F := Ideal) kn vn kw vw q mk (ix3 b 0 j)
      = Cert.Att.attn (T := 1023) (N := 1)
          (fun x => Scalar.select (IntOp.cmpi .ne (mk (ix3 (⟨b.val * 4 + j.val / 512, by omega⟩ : Fin 32) (⟨j.val / 64 % 8, by omega⟩ : Fin 8) x)) 0#32)
            ((∑ d : Fin 64, q (ix3 (⟨b.val * 4 + j.val / 512, by omega⟩ : Fin 32) (⟨j.val / 64 % 8, by omega⟩ : Fin 8) d) * kw (ix3 (⟨b.val * 4 + j.val / 512, by omega⟩ : Fin 32) x d)) * Ideal.ofBits .f32 0x3E000000#32) Cert.Att.ninf)
          (fun x => vw (ix3 (⟨b.val * 4 + j.val / 512, by omega⟩ : Fin 32) x (⟨j.val % 64, by omega⟩ : Fin 64)))
          (fun x => (∑ d : Fin 64, q (ix3 (⟨b.val * 4 + j.val / 512, by omega⟩ : Fin 32) (⟨j.val / 64 % 8, by omega⟩ : Fin 8) d) * kn (ix3 (⟨b.val * 4 + j.val / 512, by omega⟩ : Fin 32) x d)) * Ideal.ofBits .f32 0x3E000000#32)
          (fun x => vn (ix3 (⟨b.val * 4 + j.val / 512, by omega⟩ : Fin 32) x (⟨j.val % 64, by omega⟩ : Fin 64))) := by
  pointwise [k0_pay9]
  unfold Cert.Att.attn Cert.Att.ninf
  rfl

theorem zero3 : (![0, 0, 0] : Fin 3 → ℕ) = fun _ => 0 := by decide
theorem zero4 : (![0, 0, 0, 0] : Fin 4 → ℕ) = fun _ => 0 := by decide
/-- The load of a whole block is the block. -/
theorem load0 (x : Vec Ideal S32x1x64 .bf16) : View.ld x r0_0 = x := View.ld_unit_zero zero3 ..
/-- The load of a whole block is the block. -/
theorem load2 (x : Vec Ideal S32x1023x64 .fp8e5m2) : View.ld x r0_2 = x := View.ld_unit_zero zero3 ..
/-- The load of a whole block is the block. -/
theorem load3 (x : Vec Ideal S32x8x64 .bf16) : View.ld x r0_3 = x := View.ld_unit_zero zero3 ..
/-- The load of a whole block is the block. -/
theorem load4 (x : Vec Ideal S32x8x1023 .i32) : View.ld x r0_4 = x := View.ld_unit_zero zero3 ..
/-- Result array 0 after the launch. -/
theorem final6 (c : Dev nD) : (dats m 0 c).arrAt 6 cfg0.N = k0_pay9 (F := Ideal) (k0_pay5 (V m c main_v173)) (k0_pay6 (V m c main_v174)) (k0_pay7 (V m c main_v169)) (k0_pay8 (V m c main_v171)) (V m c main_v172) (V m c main_v167) := by
  refine (dats m 0 c).arrAt_eq_of_after_last 6 t0 (by decide +kernel) _ fun j => ?_
  rw [after0_6, out0_6, iblk0, iblk1, iblk2, iblk3, iblk4, iblk5, View.canon_unit_zero zero3, load0, load0, load2, load2, load3, load4]
  blk_simp
/-- Result array 1 after the launch. -/
theorem final7 (c : Dev nD) : (dats m 0 c).arrAt 7 cfg0.N = k0_pay3 (F := Ideal) (V m c main_v173) := by
  refine (dats m 0 c).arrAt_eq_of_after_last 7 t0 (by decide +kernel) _ fun j => ?_
  rw [after0_7, out0_7, iblk1, View.canon_unit_zero zero4, load0]
  blk_simp
/-- Result array 2 after the launch. -/
theorem final8 (c : Dev nD) : (dats m 0 c).arrAt 8 cfg0.N = k0_pay4 (F := Ideal) (V m c main_v174) := by
  refine (dats m 0 c).arrAt_eq_of_after_last 8 t0 (by decide +kernel) _ fun j => ?_
  rw [after0_8, out0_8, iblk2, View.canon_unit_zero zero4, load0]
  blk_simp
/-- The attention, in terms of the arguments. -/
theorem out_apply (c : Dev nD) (b : Fin 8) (j : Fin 2048) :
    ((dats m 0 c).arrAt 6 cfg0.N : Vec Ideal S8x1x2048 .bf16) (ix3 b 0 j)
      = Cert.Att.out (argN m c (ix1 b))
          (fun p => (∑ d : Fin 64, argQ m c (ix3 b 0 (⟨64 * (j.val / 64) + d.val, by omega⟩ : Fin 2048)) * argK m c (ix4 b p (⟨j.val / 512, by omega⟩ : Fin 4) d)) * Ideal.ofBits .f32 0x3E000000#32)
          (fun p => argV m c (ix4 b p (⟨j.val / 512, by omega⟩ : Fin 4) (⟨j.val % 64, by omega⟩ : Fin 64)))
          ((∑ d : Fin 64, argQ m c (ix3 b 0 (⟨64 * (j.val / 64) + d.val, by omega⟩ : Fin 2048)) * Cert.Att.code (argKn m c (ix4 b 0 (⟨j.val / 512, by omega⟩ : Fin 4) d))) * Ideal.ofBits .f32 0x3E000000#32)
          (Cert.Att.code (argVn m c (ix4 b 0 (⟨j.val / 512, by omega⟩ : Fin 4) (⟨j.val % 64, by omega⟩ : Fin 64)))) := by
  have hb : ∀ h, (⟨(b.val * 4 + j.val / 512) / 4, h⟩ : Fin 8) = b := fun _ => Fin.ext (by show (b.val * 4 + j.val / 512) / 4 = b.val; omega)
  have hh : ∀ h, (⟨(b.val * 4 + j.val / 512) % 4, h⟩ : Fin 4) = ⟨j.val / 512, by omega⟩ := fun _ => Fin.ext (by show (b.val * 4 + j.val / 512) % 4 = j.val / 512; omega)
  have hq : ∀ (d : Fin 64) h, (⟨(b.val * 4 + j.val / 512) % 4 * 512 + j.val / 64 % 8 * 64 + d.val, h⟩ : Fin 2048) = ⟨64 * (j.val / 64) + d.val, by omega⟩ :=
    fun d _ => Fin.ext (by show (b.val * 4 + j.val / 512) % 4 * 512 + j.val / 64 % 8 * 64 + d.val = 64 * (j.val / 64) + d.val; omega)
  have eq : ∀ d : Fin 64, (V m c main_v172 : Vec Ideal S32x8x64 .bf16) (ix3 (⟨b.val * 4 + j.val / 512, by omega⟩ : Fin 32) (⟨j.val / 64 % 8, by omega⟩ : Fin 8) d)
      = argQ m c (ix3 b 0 (⟨64 * (j.val / 64) + d.val, by omega⟩ : Fin 2048)) := fun d =>
    (query m c _ _ d).trans (congrArg₂ (fun (x : Fin 8) (y : Fin 2048) => argQ m c (ix3 x 0 y)) (hb _) (hq d _))
  have ek : ∀ (t : Fin 1023) (d : Fin 64), (V m c main_v169 : Vec Ideal S32x1023x64 .fp8e5m2) (ix3 (⟨b.val * 4 + j.val / 512, by omega⟩ : Fin 32) t d)
      = argK m c (ix4 b (row (argN m c (ix1 b)) t) (⟨j.val / 512, by omega⟩ : Fin 4) d) := fun t d =>
    (kWindow m c _ t d).trans (congrArg₂ (fun (x : Fin 8) (y : Fin 4) => argK m c (ix4 x (row (argN m c (ix1 x)) t) y d)) (hb _) (hh _))
  have ev : ∀ (t : Fin 1023) (d : Fin 64), (V m c main_v171 : Vec Ideal S32x1023x64 .fp8e5m2) (ix3 (⟨b.val * 4 + j.val / 512, by omega⟩ : Fin 32) t d)
      = argV m c (ix4 b (row (argN m c (ix1 b)) t) (⟨j.val / 512, by omega⟩ : Fin 4) d) := fun t d =>
    (vWindow m c _ t d).trans (congrArg₂ (fun (x : Fin 8) (y : Fin 4) => argV m c (ix4 x (row (argN m c (ix1 x)) t) y d)) (hb _) (hh _))
  have en : ∀ d : Fin 64, (V m c main_v173 : Vec Ideal S32x1x64 .bf16) (ix3 (⟨b.val * 4 + j.val / 512, by omega⟩ : Fin 32) 0 d)
      = argKn m c (ix4 b 0 (⟨j.val / 512, by omega⟩ : Fin 4) d) := fun d =>
    (newK m c _ d).trans (congrArg₂ (fun (x : Fin 8) (y : Fin 4) => argKn m c (ix4 x 0 y d)) (hb _) (hh _))
  have ew : ∀ d : Fin 64, (V m c main_v174 : Vec Ideal S32x1x64 .bf16) (ix3 (⟨b.val * 4 + j.val / 512, by omega⟩ : Fin 32) 0 d)
      = argVn m c (ix4 b 0 (⟨j.val / 512, by omega⟩ : Fin 4) d) := fun d =>
    (newV m c _ d).trans (congrArg₂ (fun (x : Fin 8) (y : Fin 4) => argVn m c (ix4 x 0 y d)) (hb _) (hh _))
  have em : ∀ (t : Fin 1023) (x y : EReal), Scalar.select (IntOp.cmpi .ne ((V m c main_v167 : Vec Ideal S32x8x1023 .i32) (ix3 (⟨b.val * 4 + j.val / 512, by omega⟩ : Fin 32) (⟨j.val / 64 % 8, by omega⟩ : Fin 8) t)) 0#32) x y
      = if Cert.Att.valid (argN m c (ix1 b)) (row (argN m c (ix1 b)) t).val then x else y := fun t x y =>
    (mask m c _ _ t x y).trans (congrArg (fun z : Fin 8 => if Cert.Att.valid (argN m c (ix1 z)) (row (argN m c (ix1 z)) t).val then x else y) (hb _))
  have hs := Cert.Att.clipWord_toNat (argN m c (ix1 b))
  rw [final6, body_apply]
  refine Cert.Att.attn_eq (s0 := (Cert.Att.clipWord (argN m c (ix1 b))).toNat) (by omega) (Cert.Att.cover_clip _) _ _ _ _ _ _ _ _ (0 : Fin 1) ?_ ?_ ?_ ?_
  · intro t
    refine (em t _ _).trans ?_
    rw [Cert.Att.ninf_eq]
    refine if_congr Iff.rfl (congrArg (· * _) (Finset.sum_congr rfl fun d _ => congrArg₂ (· * ·) (eq d) ((wideK _ _ t d).trans (ek t d)))) rfl
  · intro t
    exact (wideV _ _ t _).trans (ev t _)
  · intro k
    obtain rfl : k = 0 := Subsingleton.elim _ _
    rw [if_pos rfl]
    exact congrArg (· * _) (Finset.sum_congr rfl fun d _ => congrArg₂ (· * ·) (eq d) ((codeK _ _ d).trans (congrArg Cert.Att.code (en d))))
  · exact (codeV _ _ _).trans (congrArg Cert.Att.code (ew _))

/-- The codes of the new keys, in terms of the arguments. -/
theorem codeK_apply (c : Dev nD) (b : Fin 8) (h : Fin 4) (d : Fin 64) :
    ((dats m 0 c).arrAt 7 cfg0.N : Vec Ideal S8x1x4x64 .fp8e5m2) (ix4 b 0 h d) = Cert.Att.code (argKn m c (ix4 b 0 h d)) := by
  have hb : ∀ k, (⟨(b.val * 4 + h.val) / 4, k⟩ : Fin 8) = b := fun _ => Fin.ext (by show (b.val * 4 + h.val) / 4 = b.val; omega)
  have hh : ∀ k, (⟨(b.val * 4 + h.val) % 4, k⟩ : Fin 4) = h := fun _ => Fin.ext (by show (b.val * 4 + h.val) % 4 = h.val; omega)
  rw [final7, storeK]
  exact congrArg Cert.Att.code ((newK m c _ d).trans (congrArg₂ (fun (x : Fin 8) (y : Fin 4) => argKn m c (ix4 x 0 y d)) (hb _) (hh _)))

/-- The codes of the new values, in terms of the arguments. -/
theorem codeV_apply (c : Dev nD) (b : Fin 8) (h : Fin 4) (d : Fin 64) :
    ((dats m 0 c).arrAt 8 cfg0.N : Vec Ideal S8x1x4x64 .fp8e5m2) (ix4 b 0 h d) = Cert.Att.code (argVn m c (ix4 b 0 h d)) := by
  have hb : ∀ k, (⟨(b.val * 4 + h.val) / 4, k⟩ : Fin 8) = b := fun _ => Fin.ext (by show (b.val * 4 + h.val) / 4 = b.val; omega)
  have hh : ∀ k, (⟨(b.val * 4 + h.val) % 4, k⟩ : Fin 4) = h := fun _ => Fin.ext (by show (b.val * 4 + h.val) % 4 = h.val; omega)
  rw [final8, storeV]
  exact congrArg Cert.Att.code ((newV m c _ d).trans (congrArg₂ (fun (x : Fin 8) (y : Fin 4) => argVn m c (ix4 x 0 y d)) (hb _) (hh _)))

/-- The reference's run: each result holds what its launch leaves, and every argument is as it was. -/
theorem unchanged : θ_run defs (onTc (τ := τ) (main (F := Ideal))) ⟨m, fun _ => 0, ρ⟩ (fun r => ∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.mem ((c.tc : Thread nD τ).loc main_v175_0) = (dats m 0 c).arrAt 6 cfg0.N
      ∧ r.2.mem ((c.tc : Thread nD τ).loc main_v175_1) = (dats m 0 c).arrAt 7 cfg0.N
      ∧ r.2.mem ((c.tc : Thread nD τ).loc main_v175_2) = (dats m 0 c).arrAt 8 cfg0.N) :=
  (θ_run defs _ _).mono (fun _ h c => ⟨⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩,
      (h c).1 6, (h c).1 7, (h c).1 8⟩) (run_main m ρ)

end Cert.ReferenceIdeal.Host
-- ==== Proof.KMath.lean ====
/- The kernel's first result over the extended reals, element by element: the attention over the window. The query's rows and
   the outputs' rows are read back through the layout the kernel works in (row `j + 16 p` holds the head `2 j + p`, in the 64
   channels of its key/value head). -/
module

public import proofs.«01_k».proof.Proof.KValue
public import proofs.«01_k».proof.Proof.Spec

@[expose] public section

set_option maxRecDepth 16384

noncomputable section

namespace Cert.KernelIdeal.Math

open Cert.KernelIdeal Cert.KernelIdeal.Gen Cert.KernelIdeal.Block Cert.KernelIdeal.Value Idealize.ShloMosaic Idealize.ShloMosaic.TcCoe
open Idealize.ShloMosaic.WordCmp Cert.Att Cert.Word

/-- A select on a decided bit is an `if`. -/
theorem select_decide {α : Type} (p : Prop) [Decidable p] (x y : α) :
    Scalar.select (BitVec.ofBool (decide p)) x y = if p then x else y := by
  by_cases h : p
  · simp only [h, decide_true, if_true]; rfl
  · simp only [h, decide_false, if_false]; rfl

/-- The signed comparison of two small words, as an `if`. -/
theorem select_slt {α : Type} (a b : Nat) (ha : a < 2 ^ 31) (hb : b < 2 ^ 31) (x y : α) :
    Scalar.select (IntOp.cmpi .slt (BitVec.ofNat 32 a) (BitVec.ofNat 32 b)) x y = if a < b then x else y := by
  rw [cmpi_slt_ofNat (w := 32) ha hb, select_decide]

/-- A query row reads the key/value head of its head pair. -/
theorem kvRow_apply (r : Fin 32) (l : Fin 128) : kvRow (ix2 r l) = BitVec.ofNat 32 (r.val % 16 / 4) := by
  pointwise [kvRow, k0_pay35, k0_pay34, k0_pay33]
  fin_vals r with hr
  all_goals rw [hr]; rfl

set_option maxHeartbeats 2000000 in
/-- The query's rows. -/
theorem query_apply (e0 e1 : Vec Ideal S8x128 .f32) (r : Fin 32) (x : Fin 256) :
    query (F := Ideal) e0 e1 (ix2 r x)
      = if x.val / 64 = r.val % 16 / 4 then
          (if r.val % 16 < 8 then e0 else e1) (ix2 (⟨r.val % 8, by omega⟩ : Fin 8) (⟨64 * (r.val / 16) + x.val % 64, by omega⟩ : Fin 128))
        else (0 : EReal) := by
  have hr := r.isLt
  have hx := x.isLt
  pointwise [query, k0_pay129, k0_pay29, k0_pay30, k0_pay32]
  have h1 : ∀ (a : Nat) (u v : EReal), a < 2 ^ 31 → Scalar.select (IntOp.cmpi .slt (BitVec.ofNat 32 a) 4#32) u v = if a < 4 then u else v :=
    fun a u v h => select_slt a 4 h (by omega) u v
  have h2 : ∀ (a : Nat) (u v : EReal), a < 2 ^ 31 → Scalar.select (IntOp.cmpi .slt (BitVec.ofNat 32 a) 64#32) u v = if a < 64 then u else v :=
    fun a u v h => select_slt a 64 h (by omega) u v
  have hc : ∀ (e : Vec Ideal S8x128 .f32) (a a' : Fin 8) (b b' : Fin 128), a.val = a'.val → b.val = b'.val → e (ix2 a b) = e (ix2 a' b') :=
    fun e a a' b b' ha hb => by rw [Fin.ext ha, Fin.ext hb]
  split_ifs
  all_goals try rw [h1 _ _ _ (by omega)]
  all_goals try rw [h2 _ _ _ (by omega), h2 _ _ _ (by omega)]
  all_goals try split_ifs
  all_goals try rw [if_pos (show x.val / 64 = r.val % 16 / 4 by omega)]
  all_goals try rw [if_neg (show ¬ x.val / 64 = r.val % 16 / 4 by omega)]
  all_goals try rw [if_pos (show r.val % 16 < 8 by omega)]
  all_goals try rw [if_neg (show ¬ r.val % 16 < 8 by omega)]
  all_goals first | rfl | omega | (apply hc <;> dsimp only <;> omega)

/-- The outputs' rows: half `j / 8`, row `j % 8`, lane `l` is the output of head `2 j + l / 64` at channel `l % 64`. -/
theorem half_apply (o : FVec Ideal S32x256 .f32) (j : Fin 16) (l : Fin 128) :
    (if j.val < 8 then half0 (F := Ideal) o else half1 (F := Ideal) o) (ix2 (⟨j.val % 8, by omega⟩ : Fin 8) l)
      = o (ix2 (⟨j.val + 16 * (l.val / 64), by omega⟩ : Fin 32) (⟨64 * (j.val / 4) + l.val % 64, by omega⟩ : Fin 256)) := by
  have hj := j.isLt
  have hl := l.isLt
  have h1 : ∀ (a : Nat) (u v : EReal), a < 2 ^ 31 → Scalar.select (IntOp.cmpi .slt (BitVec.ofNat 32 a) 4#32) u v = if a < 4 then u else v :=
    fun a u v h => select_slt a 4 h (by omega) u v
  have h2 : ∀ (a b : Nat) (u v : EReal), a < 2 ^ 31 → b < 2 ^ 31 → Scalar.select (IntOp.xori (IntOp.xori (IntOp.cmpi .slt (BitVec.ofNat 32 a) 64#32)
      (IntOp.cmpi .slt (BitVec.ofNat 32 b) 4#32)) 1#1) u v = if (a < 64 ↔ b < 4) then u else v := by
    intro a b u v ha hb
    rw [show IntOp.cmpi .slt (BitVec.ofNat 32 a) 64#32 = _ from cmpi_slt_ofNat (w := 32) (b := 64) ha (by omega),
      show IntOp.cmpi .slt (BitVec.ofNat 32 b) 4#32 = _ from cmpi_slt_ofNat (w := 32) (b := 4) hb (by omega)]
    by_cases p : a < 64 <;> by_cases q : b < 4 <;> simp only [p, q, decide_true, decide_false] <;> rfl
  have hc : ∀ (a a' : Fin 32) (b b' : Fin 256), a.val = a'.val → b.val = b'.val → o (ix2 a b) = o (ix2 a' b') :=
    fun a a' b b' ha hb => by rw [Fin.ext ha, Fin.ext hb]
  by_cases h : j.val < 8
  · rw [if_pos h]
    pointwise [half0, k0_pay29, k0_pay30, k0_pay31]
    rw [h2 _ _ _ _ (by omega) (by omega), h1 _ _ _ (by omega), h1 _ _ _ (by omega)]
    split_ifs <;> first | omega | (apply hc <;> dsimp only <;> omega)
  · rw [if_neg h]
    pointwise [half1, k0_pay29, k0_pay30, k0_pay31]
    rw [h2 _ _ _ _ (by omega) (by omega), h1 _ _ _ (by omega), h1 _ _ _ (by omega)]
    split_ifs <;> first | omega | (apply hc <;> dsimp only <;> omega)

/-- The attention of a batch row is the attention over the 1152 positions held and the 128 lanes of new scores. -/
theorem attend_apply (bw w n : BitVec 32) (e0 e1 : Vec Ideal S8x128 .f32) (kn4 vn4 : Vec Ideal S128x256 .bf16)
    (kb vb : Vec Ideal S1x256x1152 .fp8e5m2) (r : Fin 32) (ch : Fin 256) :
    attend (F := Ideal) bw w n e0 e1 kn4 kb vb vn4 (ix2 r ch)
      = attn (fun t : Fin 1152 => Scalar.select
            (IntOp.andi (IntOp.cmpi .slt (IntOp.addi (BitVec.ofNat 32 t) w) n)
              (IntOp.cmpi .sgt (IntOp.addi (BitVec.ofNat 32 t) w) (Scalar.subi n 1024#32)))
            ((∑ x : Fin 256, query (F := Ideal) e0 e1 (ix2 r x) * kb (ix3 0 x t)) * Ideal.ofBits .f32 0x3E000000#32) ninf)
          (fun t => vb (ix3 0 ch t)) (fun k : Fin 128 => newScores (F := Ideal) bw e0 e1 kn4 (ix2 r k)) (fun k => vn4 (ix2 k ch)) := by
  unfold attend
  generalize newScores (F := Ideal) bw e0 e1 kn4 = sn
  generalize query (F := Ideal) e0 e1 = q
  pointwise [col, k0_pay138, k0_pay137, k0_pay136, k0_pay135, k0_pay134, k0_pay133, k0_pay132, k0_pay131]
  rfl

/-- The new scores. -/
theorem newScores_apply (bw : BitVec 32) (e0 e1 : Vec Ideal S8x128 .f32) (kn4 : Vec Ideal S128x256 .bf16) (r : Fin 32) (k : Fin 128) :
    newScores (F := Ideal) bw e0 e1 kn4 (ix2 r k)
      = Scalar.select (IntOp.cmpi .eq (BitVec.ofNat 32 k) (IntOp.addi (kvRow (ix2 r k)) bw))
          ((∑ x : Fin 256, query (F := Ideal) e0 e1 (ix2 r x) * kn4 (ix2 k x)) * Ideal.ofBits .f32 0x3E000000#32) ninf := by
  unfold newScores
  generalize query (F := Ideal) e0 e1 = q
  generalize kvRow = kr
  pointwise [lane]

/-- The query's row at a batch row's blocks. -/
theorem xBlk_apply (x1 : Vec Ideal S8x2048 .bf16) (b : Fin 8) (t : Fin 2) (i : Fin 8) (l : Fin 128) :
    xBlk (F := Ideal) x1 b t (ix2 i l) = x1 (ix2 b (⟨128 * (8 * t.val + i.val) + l.val, by omega⟩ : Fin 2048)) := by
  show x1 (ix2 (⟨(16 * b.val + 8 * t.val + i.val) / 16, _⟩ : Fin 8) (⟨128 * ((16 * b.val + 8 * t.val + i.val) % 16) + l.val, _⟩ : Fin 2048)) = _
  have h1 : (⟨(16 * b.val + 8 * t.val + i.val) / 16, by omega⟩ : Fin 8) = b := Fin.ext (by dsimp only; omega)
  have h2 : (⟨128 * ((16 * b.val + 8 * t.val + i.val) % 16) + l.val, by omega⟩ : Fin 2048) = ⟨128 * (8 * t.val + i.val) + l.val, by omega⟩ :=
    Fin.ext (by dsimp only; omega)
  rw [h1, h2]

/-- The code of an element of the new keys (values), widened. -/
theorem wideNew_apply (x2 : Vec Ideal S32x64 .bf16) (k : Fin 128) (x : Fin 256) :
    wideNew (F := Ideal) x2 (ix2 k x)
      = if h : k.val < 32 then k0_pay4 (F := Ideal) x2 (ix2 (⟨k.val, h⟩ : Fin 32) (⟨x.val % 64, by omega⟩ : Fin 64)) else (0 : EReal) := by
  show (if h : k.val < 32 then k0_pay6 (F := Ideal) x2 (ix2 (⟨k.val, h⟩ : Fin 32) x) else k0_pay5 (F := Ideal) (ix2 k x)) = _
  by_cases h : k.val < 32
  · rw [dif_pos h, dif_pos h]
    unfold k0_pay6
    generalize k0_pay4 (F := Ideal) x2 = y
    have hc : ∀ (a : Fin 32) (b b' : Fin 64), b.val = b'.val → y (ix2 a b) = y (ix2 a b') := fun a b b' hb => by rw [Fin.ext hb]
    have hx := x.isLt
    pointwise []
    split_ifs <;> (apply hc; dsimp only; omega)
  · rw [dif_neg h, dif_neg h]
    pointwise [k0_pay5]

/-- A query row of head `h` of batch row `b`, multiplied by one column over the 256 channels, is the head's product over its
    64 channels. -/
theorem query_sum (x1 : Vec Ideal S8x2048 .bf16) (b : Fin 8) (c : Fin 2048) (g : Fin 256 → EReal) :
    ∑ x : Fin 256, query (F := Ideal) (xBlk x1 b 0) (xBlk x1 b 1)
        (ix2 (⟨c.val / 128 + 16 * (c.val % 128 / 64), by omega⟩ : Fin 32) x) * g x
      = ∑ d : Fin 64, x1 (ix2 b (⟨64 * (c.val / 64) + d.val, by omega⟩ : Fin 2048)) * g ⟨64 * (c.val / 512) + d.val, by omega⟩ := by
  have hc := c.isLt
  refine sum_block (c.val / 512) (by omega) _ _ fun x => ?_
  have hx := x.isLt
  rw [query_apply]
  dsimp only
  have e16 : (c.val / 128 + 16 * (c.val % 128 / 64)) % 16 = c.val / 128 := by omega
  have d16 : (c.val / 128 + 16 * (c.val % 128 / 64)) / 16 = c.val % 128 / 64 := by omega
  have m8 : (c.val / 128 + 16 * (c.val % 128 / 64)) % 8 = c.val / 128 % 8 := by omega
  have d512 : c.val / 128 / 4 = c.val / 512 := by omega
  have e1 : (c.val / 128 + 16 * (c.val % 128 / 64)) % 16 / 4 = c.val / 512 := by rw [e16, d512]
  rw [e1]
  by_cases h : x.val / 64 = c.val / 512
  · rw [if_pos h, if_pos h]
    have e2 : (⟨64 * (c.val / 512) + x.val % 64, by omega⟩ : Fin 256) = x := Fin.ext (by dsimp only; omega)
    rw [e2]
    congr 1
    by_cases h8 : (c.val / 128 + 16 * (c.val % 128 / 64)) % 16 < 8
    · rw [if_pos h8, xBlk_apply]
      exact congrArg (fun z => x1 (ix2 b z)) (Fin.ext (by
        show 128 * (8 * 0 + (c.val / 128 + 16 * (c.val % 128 / 64)) % 8) + (64 * ((c.val / 128 + 16 * (c.val % 128 / 64)) / 16) + x.val % 64) = 64 * (c.val / 64) + x.val % 64
        rw [e16] at h8
        rw [m8, d16]
        omega))
    · rw [if_neg h8, xBlk_apply]
      exact congrArg (fun z => x1 (ix2 b z)) (Fin.ext (by
        show 128 * (8 * 1 + (c.val / 128 + 16 * (c.val % 128 / 64)) % 8) + (64 * ((c.val / 128 + 16 * (c.val % 128 / 64)) / 16) + x.val % 64) = 64 * (c.val / 64) + x.val % 64
        rw [e16] at h8
        rw [m8, d16]
        omega))
  · rw [if_neg h, if_neg h, zero_mul]

/-- The kernel's first result at batch row `b`, column `c` is the attention, over the window, of head `c / 64` at channel
    `c % 64`. -/
theorem outV_apply (x0 : Vec Ideal S8 .i32) (x1 : Vec Ideal S8x2048 .bf16) (x2 x3 : Vec Ideal S32x64 .bf16)
    (kc vc : Vec Ideal S8x256x65536 .fp8e5m2) (b : Fin 8) (c : Fin 2048) :
    outV (F := Ideal) x0 x1 x2 x3 kc vc (ix2 b c)
      = out (x0 (ix1 b))
          (fun p => (∑ d : Fin 64, x1 (ix2 b (⟨64 * (c.val / 64) + d.val, by omega⟩ : Fin 2048))
            * kc (ix3 b (⟨64 * (c.val / 512) + d.val, by omega⟩ : Fin 256) p)) * Ideal.ofBits .f32 0x3E000000#32)
          (fun p => vc (ix3 b (⟨64 * (c.val / 512) + c.val % 64, by omega⟩ : Fin 256) p))
          ((∑ d : Fin 64, x1 (ix2 b (⟨64 * (c.val / 64) + d.val, by omega⟩ : Fin 2048))
            * k0_pay4 (F := Ideal) x2 (ix2 (⟨4 * b.val + c.val / 512, by omega⟩ : Fin 32) d)) * Ideal.ofBits .f32 0x3E000000#32)
          (k0_pay4 (F := Ideal) x3 (ix2 (⟨4 * b.val + c.val / 512, by omega⟩ : Fin 32) (⟨c.val % 64, by omega⟩ : Fin 64))) := by
  have hc := c.isLt
  have hb := b.isLt
  have e16 : (c.val / 128 + 16 * (c.val % 128 / 64)) % 16 = c.val / 128 := by omega
  have d16 : (c.val / 128 + 16 * (c.val % 128 / 64)) / 16 = c.val % 128 / 64 := by omega
  have m8 : (c.val / 128 + 16 * (c.val % 128 / 64)) % 8 = c.val / 128 % 8 := by omega
  have d512 : c.val / 128 / 4 = c.val / 512 := by omega
  have h0 : outV (F := Ideal) x0 x1 x2 x3 kc vc (ix2 b c)
      = (if c.val / 128 < 8 then half0 (F := Ideal) (attendB x0 x1 x2 x3 kc vc b) else half1 (F := Ideal) (attendB x0 x1 x2 x3 kc vc b))
          (ix2 (⟨c.val / 128 % 8, by omega⟩ : Fin 8) (⟨c.val % 128, by omega⟩ : Fin 128)) := by
    show (if (16 * b.val + c.val / 128) / 8 % 2 = 0 then half0 (F := Ideal) else half1 (F := Ideal))
      (attendB x0 x1 x2 x3 kc vc ⟨(16 * b.val + c.val / 128) / 16, _⟩)
      (ix2 (⟨(16 * b.val + c.val / 128) % 8, _⟩ : Fin 8) (⟨c.val % 128, _⟩ : Fin 128)) = _
    have e1 : (⟨(16 * b.val + c.val / 128) / 16, by omega⟩ : Fin 8) = b := Fin.ext (by dsimp only; omega)
    have e2 : (⟨(16 * b.val + c.val / 128) % 8, by omega⟩ : Fin 8) = ⟨c.val / 128 % 8, by omega⟩ := Fin.ext (by dsimp only; omega)
    rw [e1, e2]
    by_cases h : c.val / 128 < 8
    · rw [if_pos h, if_pos (by omega)]
    · rw [if_neg h, if_neg (by omega)]
  rw [h0]
  refine (half_apply _ (⟨c.val / 128, by omega⟩ : Fin 16) (⟨c.val % 128, by omega⟩ : Fin 128)).trans ?_
  dsimp only
  have e3 : (⟨64 * (c.val / 128 / 4) + c.val % 128 % 64, by omega⟩ : Fin 256) = ⟨64 * (c.val / 512) + c.val % 64, by omega⟩ :=
    Fin.ext (by dsimp only; omega)
  rw [e3]
  unfold attendB
  rw [attend_apply]
  have hs := spanWord_le (x0 (ix1 b))
  refine attn_eq (s0 := (spanWord (x0 (ix1 b))).toNat) (by omega) (cover_span _) _ _ _ _ _ _ _ _
    (⟨4 * b.val + c.val / 512, by omega⟩ : Fin 128) ?_ ?_ ?_ ?_
  · intro t
    rw [query_sum]
    refine (mask_eq _ _ ((spanWord (x0 (ix1 b))).toNat + t.val) (by omega) ?_ _ _).trans ?_
    · show (BitVec.ofNat 32 t.val + spanWord (x0 (ix1 b))).toNat = _
      rw [BitVec.toNat_add, BitVec.toNat_ofNat]
      omega
    · rw [ninf_eq]; rfl
  · intro t; rfl
  · intro k
    rw [newScores_apply, kvRow_apply, query_sum]
    have hk := k.isLt
    have e : IntOp.addi (BitVec.ofNat 32 ((⟨c.val / 128 + 16 * (c.val % 128 / 64), by omega⟩ : Fin 32).val % 16 / 4)) (BitVec.ofNat 32 (4 * b.val))
        = BitVec.ofNat 32 (4 * b.val + c.val / 512) := by
      apply BitVec.eq_of_toNat_eq
      show (BitVec.ofNat 32 _ + BitVec.ofNat 32 _).toNat = _
      rw [BitVec.toNat_add, BitVec.toNat_ofNat, BitVec.toNat_ofNat, BitVec.toNat_ofNat]
      dsimp only
      rw [e16, d512]
      omega
    rw [e, cmpi_eq_eq, select_decide]
    by_cases h : k = (⟨4 * b.val + c.val / 512, by omega⟩ : Fin 128)
    · rw [if_pos h, h, if_pos rfl]
      congr 1
      refine Finset.sum_congr rfl fun d _ => ?_
      rw [wideNew_apply, dif_pos (by dsimp only; omega)]
      congr 1
      exact congrArg (fun z => k0_pay4 (F := Ideal) x2 (ix2 _ z)) (Fin.ext (by dsimp only; omega))
    · rw [if_neg h, if_neg, ninf_eq]
      intro hh
      apply h
      have := congrArg BitVec.toNat hh
      rw [BitVec.toNat_ofNat, BitVec.toNat_ofNat] at this
      exact Fin.ext (by dsimp only; omega)
  · rw [wideNew_apply, dif_pos (by dsimp only; omega)]
    exact congrArg (fun z => k0_pay4 (F := Ideal) x3 (ix2 _ z)) (Fin.ext (by dsimp only; omega))

end Cert.KernelIdeal.Math
-- ==== Proof.KHost.lean ====
/- The kernel program's results over the extended reals, in terms of its arguments: the arrays the launch finds, the arrays it
   leaves, and the reshapes after it. -/
module

public import Idealize.ShloMosaic.Lib.Pipeline.ValueKit
public import Idealize.ShloMosaic.Lib.StableHlo.ReadAt
public import proofs.«01_k».proof.Proof.KFrame
public import proofs.«01_k».proof.Proof.KMath
public import proofs.«01_k».proof.Proof.Code
public import Idealize.ShloMosaic.Lib.Pointwise

@[expose] public section

set_option maxRecDepth 16384

noncomputable section

namespace Cert.KernelIdeal.Host

open Cert.KernelIdeal Cert.KernelIdeal.Gen Cert.KernelIdeal.Launch Cert.KernelIdeal.Value
open Idealize.ShloMosaic Idealize.ShloMosaic.TcCoe Idealize.ShloMosaic.Pipeline

variable (m : (ℓ : Loc nD τ sig) → Buf (Elt Ideal) ℓ)

/-- The six arguments on device `c`. -/
abbrev argQ (c : Dev nD) : Vec Ideal S8x1x2048 .bf16 := m ((c.tc : Thread nD τ).loc main_arg0)
abbrev argKn (c : Dev nD) : Vec Ideal S8x1x4x64 .bf16 := m ((c.tc : Thread nD τ).loc main_arg1)
abbrev argVn (c : Dev nD) : Vec Ideal S8x1x4x64 .bf16 := m ((c.tc : Thread nD τ).loc main_arg2)
abbrev argK (c : Dev nD) : Vec Ideal S8x65536x4x64 .fp8e5m2 := m ((c.tc : Thread nD τ).loc main_arg3)
abbrev argV (c : Dev nD) : Vec Ideal S8x65536x4x64 .fp8e5m2 := m ((c.tc : Thread nD τ).loc main_arg4)
abbrev argN (c : Dev nD) : Vec Ideal S8 .i32 := m ((c.tc : Thread nD τ).loc main_arg5)

/-- The one point of the launch. -/
def t0 : Fin cfg0.N := ⟨0, by decide⟩

/-- Window 0's block is its whole array. -/
theorem iblk0 (c : Dev nD) (t : Fin cfg0.N) : (iblk m c 0 t : Vec Ideal S8 .i32) = V m c main_arg5 := by
  have e : ∀ t : Fin cfg0.N, win0_0.index t = ![0] := by decide +kernel
  funext i
  blk_ext [iblk, e]

/-- Window 1's block is its whole array. -/
theorem iblk1 (c : Dev nD) (t : Fin cfg0.N) : (iblk m c 1 t : Vec Ideal S8x2048 .bf16) = V m c main_v0 := by
  have e : ∀ t : Fin cfg0.N, win0_1.index t = ![0, 0] := by decide +kernel
  funext i
  blk_ext [iblk, e]

/-- Window 2's block is its whole array. -/
theorem iblk2 (c : Dev nD) (t : Fin cfg0.N) : (iblk m c 2 t : Vec Ideal S32x64 .bf16) = V m c main_v1 := by
  have e : ∀ t : Fin cfg0.N, win0_2.index t = ![0, 0] := by decide +kernel
  funext i
  blk_ext [iblk, e]

/-- Window 3's block is its whole array. -/
theorem iblk3 (c : Dev nD) (t : Fin cfg0.N) : (iblk m c 3 t : Vec Ideal S32x64 .bf16) = V m c main_v2 := by
  have e : ∀ t : Fin cfg0.N, win0_3.index t = ![0, 0] := by decide +kernel
  funext i
  blk_ext [iblk, e]

/-- The queries the launch finds. -/
theorem readQ (c : Dev nD) (b : Fin 8) (j : Fin 2048) :
    (V m c main_v0 : Vec Ideal S8x2048 .bf16) (ix2 b j) = argQ m c (ix3 b 0 j) := by
  unfold V V0
  after_reads_at
/-- The new keys the launch finds. -/
theorem readNewK (c : Dev nD) (r : Fin 32) (d : Fin 64) :
    (V m c main_v1 : Vec Ideal S32x64 .bf16) (ix2 r d) = argKn m c (ix4 (⟨r.val / 4, by omega⟩ : Fin 8) 0 (⟨r.val % 4, by omega⟩ : Fin 4) d) := by
  unfold V V0
  after_reads_at
/-- The new values the launch finds. -/
theorem readNewV (c : Dev nD) (r : Fin 32) (d : Fin 64) :
    (V m c main_v2 : Vec Ideal S32x64 .bf16) (ix2 r d) = argVn m c (ix4 (⟨r.val / 4, by omega⟩ : Fin 8) 0 (⟨r.val % 4, by omega⟩ : Fin 4) d) := by
  unfold V V0
  after_reads_at
/-- The key cache the launch finds. -/
theorem readCacheK (c : Dev nD) (b : Fin 8) (ch : Fin 256) (p : Fin 65536) :
    ((Memref.whole main_v4).view.read (Elt Ideal) (V m c main_v4) : Vec Ideal S8x256x65536 .fp8e5m2) (ix3 b ch p)
      = argK m c (ix4 b p (⟨ch.val / 64, by omega⟩ : Fin 4) (⟨ch.val % 64, by omega⟩ : Fin 64)) := by
  show (V m c main_v4 : Vec Ideal S8x256x65536 .fp8e5m2) (ix3 b ch p) = _
  unfold V V0
  after_reads_at
/-- The value cache the launch finds. -/
theorem readCacheV (c : Dev nD) (b : Fin 8) (ch : Fin 256) (p : Fin 65536) :
    ((Memref.whole main_v6).view.read (Elt Ideal) (V m c main_v6) : Vec Ideal S8x256x65536 .fp8e5m2) (ix3 b ch p)
      = argV m c (ix4 b p (⟨ch.val / 64, by omega⟩ : Fin 4) (⟨ch.val % 64, by omega⟩ : Fin 64)) := by
  show (V m c main_v6 : Vec Ideal S8x256x65536 .fp8e5m2) (ix3 b ch p) = _
  unfold V V0
  after_reads_at

/-- A code: the value cut to the format's largest magnitude. -/
theorem code_apply (x : Vec Ideal S32x64 .bf16) (i : Fin 32) (d : Fin 64) : k0_pay4 (F := Ideal) x (ix2 i d) = Cert.Att.code (x (ix2 i d)) := by
  pointwise [k0_pay4]
  rfl

/-- Result array 0 after the launch. -/
theorem final4 (c : Dev nD) : (dats m 0 c).arrAt 4 cfg0.N = out4 m c t0 := by
  refine (dats m 0 c).arrAt_eq_of_after_last 4 t0 (by decide +kernel) _ fun j => ?_
  rw [after0_4]
  blk_simp

/-- Result array 1 after the launch. -/
theorem final5 (c : Dev nD) : (dats m 0 c).arrAt 5 cfg0.N = k0_pay4 (F := Ideal) (V m c main_v1) := by
  refine (dats m 0 c).arrAt_eq_of_after_last 5 t0 (by decide +kernel) _ fun j => ?_
  rw [after0_5, iblk2]
  blk_simp

/-- Result array 2 after the launch. -/
theorem final6 (c : Dev nD) : (dats m 0 c).arrAt 6 cfg0.N = k0_pay4 (F := Ideal) (V m c main_v2) := by
  refine (dats m 0 c).arrAt_eq_of_after_last 6 t0 (by decide +kernel) _ fun j => ?_
  rw [after0_6, iblk3]
  blk_simp

/-- Result 0, reshaped after the launch. -/
theorem tail8 (c : Dev nD) (b : Fin 8) (j : Fin 2048) :
    (Pipeline.afterTail₀ cfgs (dats m) 0 (V0 m) [hostOps1] c main_v8 : Vec Ideal S8x1x2048 .bf16) (ix3 b 0 j) = (out4 m c t0 : Vec Ideal S8x2048 .bf16) (ix2 b j) := by
  unfold Pipeline.afterTail₀
  after_reads_at
  refine (congrFun (withArrays_arr spec0 (by decide +kernel) c _ _ 4) _).trans ?_
  exact congrFun (final4 m c) _

/-- Result 1, reshaped after the launch. -/
theorem tail9 (c : Dev nD) (b : Fin 8) (h : Fin 4) (d : Fin 64) :
    (Pipeline.afterTail₀ cfgs (dats m) 0 (V0 m) [hostOps1] c main_v9 : Vec Ideal S8x1x4x64 .fp8e5m2) (ix4 b 0 h d) = ((dats m 0 c).arrAt 5 cfg0.N : Vec Ideal S32x64 .fp8e5m2) (ix2 (⟨b.val * 4 + h.val, by omega⟩ : Fin 32) d) := by
  unfold Pipeline.afterTail₀
  after_reads_at
  exact congrFun (withArrays_arr spec0 (by decide +kernel) c _ _ 5) _

/-- Result 2, reshaped after the launch. -/
theorem tail10 (c : Dev nD) (b : Fin 8) (h : Fin 4) (d : Fin 64) :
    (Pipeline.afterTail₀ cfgs (dats m) 0 (V0 m) [hostOps1] c main_v10 : Vec Ideal S8x1x4x64 .fp8e5m2) (ix4 b 0 h d) = ((dats m 0 c).arrAt 6 cfg0.N : Vec Ideal S32x64 .fp8e5m2) (ix2 (⟨b.val * 4 + h.val, by omega⟩ : Fin 32) d) := by
  unfold Pipeline.afterTail₀
  after_reads_at
  exact congrFun (withArrays_arr spec0 (by decide +kernel) c _ _ 6) _

/-- The attention, in terms of the arguments. -/
theorem out_apply (c : Dev nD) (b : Fin 8) (j : Fin 2048) :
    (Pipeline.afterTail₀ cfgs (dats m) 0 (V0 m) [hostOps1] c main_v8 : Vec Ideal S8x1x2048 .bf16) (ix3 b 0 j)
      = Cert.Att.out (argN m c (ix1 b))
          (fun p => (∑ d : Fin 64, argQ m c (ix3 b 0 (⟨64 * (j.val / 64) + d.val, by omega⟩ : Fin 2048)) * argK m c (ix4 b p (⟨j.val / 512, by omega⟩ : Fin 4) d)) * Ideal.ofBits .f32 0x3E000000#32)
          (fun p => argV m c (ix4 b p (⟨j.val / 512, by omega⟩ : Fin 4) (⟨j.val % 64, by omega⟩ : Fin 64)))
          ((∑ d : Fin 64, argQ m c (ix3 b 0 (⟨64 * (j.val / 64) + d.val, by omega⟩ : Fin 2048)) * Cert.Att.code (argKn m c (ix4 b 0 (⟨j.val / 512, by omega⟩ : Fin 4) d))) * Ideal.ofBits .f32 0x3E000000#32)
          (Cert.Att.code (argVn m c (ix4 b 0 (⟨j.val / 512, by omega⟩ : Fin 4) (⟨j.val % 64, by omega⟩ : Fin 64)))) := by
  rw [tail8, out4, iblk0, iblk1, iblk2, iblk3, Math.outV_apply]
  have hb : ∀ h, (⟨(4 * b.val + j.val / 512) / 4, h⟩ : Fin 8) = b := fun _ => Fin.ext (by show (4 * b.val + j.val / 512) / 4 = b.val; omega)
  have hh : ∀ h, (⟨(4 * b.val + j.val / 512) % 4, h⟩ : Fin 4) = ⟨j.val / 512, by omega⟩ := fun _ => Fin.ext (by show (4 * b.val + j.val / 512) % 4 = j.val / 512; omega)
  have hk : ∀ (d : Fin 64) h, (⟨(64 * (j.val / 512) + d.val) / 64, h⟩ : Fin 4) = ⟨j.val / 512, by omega⟩ := fun d _ => Fin.ext (by show (64 * (j.val / 512) + d.val) / 64 = j.val / 512; omega)
  have hd : ∀ (d : Fin 64) h, (⟨(64 * (j.val / 512) + d.val) % 64, h⟩ : Fin 64) = d := fun d _ => Fin.ext (by show (64 * (j.val / 512) + d.val) % 64 = d.val; omega)
  have hv : ∀ h, (⟨(64 * (j.val / 512) + j.val % 64) / 64, h⟩ : Fin 4) = ⟨j.val / 512, by omega⟩ := fun _ => Fin.ext (by show (64 * (j.val / 512) + j.val % 64) / 64 = j.val / 512; omega)
  have hw : ∀ h, (⟨(64 * (j.val / 512) + j.val % 64) % 64, h⟩ : Fin 64) = ⟨j.val % 64, by omega⟩ := fun _ => Fin.ext (by show (64 * (j.val / 512) + j.val % 64) % 64 = j.val % 64; omega)
  refine Cert.Att.out_congr (congrFun (V_main_arg5 m c) _) (fun p => ?_) (fun p => ?_) ?_ ?_
  · refine congrArg (· * _) (Finset.sum_congr rfl fun d _ => congrArg₂ (· * ·) (readQ m c b _) ((readCacheK m c b _ p).trans ?_))
    exact congrArg₂ (fun (x : Fin 4) (y : Fin 64) => argK m c (ix4 b p x y)) (hk d _) (hd d _)
  · exact (readCacheV m c b _ p).trans (congrArg₂ (fun (x : Fin 4) (y : Fin 64) => argV m c (ix4 b p x y)) (hv _) (hw _))
  · refine congrArg (· * _) (Finset.sum_congr rfl fun d _ => congrArg₂ (· * ·) (readQ m c b _) ((code_apply _ _ d).trans (congrArg Cert.Att.code ((readNewK m c _ d).trans ?_))))
    exact congrArg₂ (fun (x : Fin 8) (y : Fin 4) => argKn m c (ix4 x 0 y d)) (hb _) (hh _)
  · refine (code_apply _ _ _).trans (congrArg Cert.Att.code ((readNewV m c _ _).trans ?_))
    exact congrArg₂ (fun (x : Fin 8) (y : Fin 4) => argVn m c (ix4 x 0 y (⟨j.val % 64, by omega⟩ : Fin 64))) (hb _) (hh _)

/-- The codes of the new keys, in terms of the arguments. -/
theorem codeK_apply (c : Dev nD) (b : Fin 8) (h : Fin 4) (d : Fin 64) :
    (Pipeline.afterTail₀ cfgs (dats m) 0 (V0 m) [hostOps1] c main_v9 : Vec Ideal S8x1x4x64 .fp8e5m2) (ix4 b 0 h d) = Cert.Att.code (argKn m c (ix4 b 0 h d)) := by
  have hb : ∀ k, (⟨(b.val * 4 + h.val) / 4, k⟩ : Fin 8) = b := fun _ => Fin.ext (by show (b.val * 4 + h.val) / 4 = b.val; omega)
  have hh : ∀ k, (⟨(b.val * 4 + h.val) % 4, k⟩ : Fin 4) = h := fun _ => Fin.ext (by show (b.val * 4 + h.val) % 4 = h.val; omega)
  rw [tail9, final5, code_apply, readNewK, hb, hh]

/-- The codes of the new values, in terms of the arguments. -/
theorem codeV_apply (c : Dev nD) (b : Fin 8) (h : Fin 4) (d : Fin 64) :
    (Pipeline.afterTail₀ cfgs (dats m) 0 (V0 m) [hostOps1] c main_v10 : Vec Ideal S8x1x4x64 .fp8e5m2) (ix4 b 0 h d) = Cert.Att.code (argVn m c (ix4 b 0 h d)) := by
  have hb : ∀ k, (⟨(b.val * 4 + h.val) / 4, k⟩ : Fin 8) = b := fun _ => Fin.ext (by show (b.val * 4 + h.val) / 4 = b.val; omega)
  have hh : ∀ k, (⟨(b.val * 4 + h.val) % 4, k⟩ : Fin 4) = h := fun _ => Fin.ext (by show (b.val * 4 + h.val) % 4 = h.val; omega)
  rw [tail10, final6, code_apply, readNewV, hb, hh]

end Cert.KernelIdeal.Host
-- ==== Proof.Equal.lean ====
/- The kernel program's results and the reference's, from equal arguments: the same arrays of extended reals. -/
module

public import proofs.«01_k».proof.Proof.KHost
public import proofs.«01_k».proof.Proof.RValue

@[expose] public section

noncomputable section

namespace Cert.Equal

open Idealize.ShloMosaic Idealize.ShloMosaic.TcCoe

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The kernel program's attention. -/
abbrev kout (c : Dev Cert.KernelIdeal.nD) : Vec Ideal ⟨3, ![8, 1, 2048]⟩ .bf16 :=
  Pipeline.afterTail₀ Cert.KernelIdeal.cfgs (Cert.KernelIdeal.Launch.dats m) 0 (Cert.KernelIdeal.Gen.V0 m) [Cert.KernelIdeal.Gen.hostOps1] c Cert.KernelIdeal.main_v8
/-- Its codes of the new keys. -/
abbrev kcodeK (c : Dev Cert.KernelIdeal.nD) : Vec Ideal ⟨4, ![8, 1, 4, 64]⟩ .fp8e5m2 :=
  Pipeline.afterTail₀ Cert.KernelIdeal.cfgs (Cert.KernelIdeal.Launch.dats m) 0 (Cert.KernelIdeal.Gen.V0 m) [Cert.KernelIdeal.Gen.hostOps1] c Cert.KernelIdeal.main_v9
/-- Its codes of the new values. -/
abbrev kcodeV (c : Dev Cert.KernelIdeal.nD) : Vec Ideal ⟨4, ![8, 1, 4, 64]⟩ .fp8e5m2 :=
  Pipeline.afterTail₀ Cert.KernelIdeal.cfgs (Cert.KernelIdeal.Launch.dats m) 0 (Cert.KernelIdeal.Gen.V0 m) [Cert.KernelIdeal.Gen.hostOps1] c Cert.KernelIdeal.main_v10

/-- The reference's attention. -/
abbrev rout (c : Dev Cert.ReferenceIdeal.nD) : Vec Ideal ⟨3, ![8, 1, 2048]⟩ .bf16 :=
  (Cert.ReferenceIdeal.Gen.dats m' 0 c).arrAt 6 Cert.ReferenceIdeal.cfg0.N
/-- Its codes of the new keys. -/
abbrev rcodeK (c : Dev Cert.ReferenceIdeal.nD) : Vec Ideal ⟨4, ![8, 1, 4, 64]⟩ .fp8e5m2 :=
  (Cert.ReferenceIdeal.Gen.dats m' 0 c).arrAt 7 Cert.ReferenceIdeal.cfg0.N
/-- Its codes of the new values. -/
abbrev rcodeV (c : Dev Cert.ReferenceIdeal.nD) : Vec Ideal ⟨4, ![8, 1, 4, 64]⟩ .fp8e5m2 :=
  (Cert.ReferenceIdeal.Gen.dats m' 0 c).arrAt 8 Cert.ReferenceIdeal.cfg0.N

/-- An element of an array with one row on its middle axis. -/
theorem idx3 (i : (⟨3, ![8, 1, 2048]⟩ : Shape).Idx) : i = ix3 (i 0 : Fin 8) (0 : Fin 1) (i 2 : Fin 2048) := by
  funext a
  match a with
  | ⟨0, _⟩ => rfl
  | ⟨1, _⟩ => exact Subsingleton.elim (α := Fin 1) _ _
  | ⟨2, _⟩ => rfl
/-- … of four axes. -/
theorem idx4 (i : (⟨4, ![8, 1, 4, 64]⟩ : Shape).Idx) : i = ix4 (i 0 : Fin 8) (0 : Fin 1) (i 2 : Fin 4) (i 3 : Fin 64) := by
  funext a
  match a with
  | ⟨0, _⟩ => rfl
  | ⟨1, _⟩ => exact Subsingleton.elim (α := Fin 1) _ _
  | ⟨2, _⟩ => rfl
  | ⟨3, _⟩ => rfl

/-- The attention is the reference's. -/
theorem out_eq (c : Dev Cert.KernelIdeal.nD)
    (h0 : Cert.ReferenceIdeal.Host.argQ m' c = Cert.KernelIdeal.Host.argQ m c) (h1 : Cert.ReferenceIdeal.Host.argKn m' c = Cert.KernelIdeal.Host.argKn m c)
    (h2 : Cert.ReferenceIdeal.Host.argVn m' c = Cert.KernelIdeal.Host.argVn m c) (h3 : Cert.ReferenceIdeal.Host.argK m' c = Cert.KernelIdeal.Host.argK m c)
    (h4 : Cert.ReferenceIdeal.Host.argV m' c = Cert.KernelIdeal.Host.argV m c) (h5 : Cert.ReferenceIdeal.Host.argN m' c = Cert.KernelIdeal.Host.argN m c) :
    rout m' c = kout m c := by
  funext i
  rw [idx3 i]
  generalize (i 0 : Fin 8) = b
  generalize (i 2 : Fin 2048) = j
  refine (Cert.ReferenceIdeal.Host.out_apply m' c b j).trans (Eq.trans ?_ (Cert.KernelIdeal.Host.out_apply m c b j).symm)
  rw [h0, h1, h2, h3, h4, h5]

/-- The new keys' codes are the reference's. -/
theorem codeK_eq (c : Dev Cert.KernelIdeal.nD) (h1 : Cert.ReferenceIdeal.Host.argKn m' c = Cert.KernelIdeal.Host.argKn m c) :
    rcodeK m' c = kcodeK m c := by
  funext i
  rw [idx4 i]
  refine (Cert.ReferenceIdeal.Host.codeK_apply m' c _ _ _).trans (Eq.trans ?_ (Cert.KernelIdeal.Host.codeK_apply m c _ _ _).symm)
  rw [h1]

/-- The new values' codes are the reference's. -/
theorem codeV_eq (c : Dev Cert.KernelIdeal.nD) (h2 : Cert.ReferenceIdeal.Host.argVn m' c = Cert.KernelIdeal.Host.argVn m c) :
    rcodeV m' c = kcodeV m c := by
  funext i
  rw [idx4 i]
  refine (Cert.ReferenceIdeal.Host.codeV_apply m' c _ _ _).trans (Eq.trans ?_ (Cert.KernelIdeal.Host.codeV_apply m c _ _ _).symm)
  rw [h2]

end Cert.Equal
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Chk_Kernel
public import proofs.«01_k».proof.Proof.PFrame
public import proofs.«01_k».proof.Proof.KFrame
public import proofs.«01_k».proof.Proof.RValue
public import proofs.«01_k».proof.Proof.Equal
public import Idealize.ShloMosaic.Adequacy
public import Idealize.ShloMosaic.Init

@[expose] public section

noncomputable section

namespace Cert.Proof

open Idealize.ShloMosaic Idealize.SL.Sem Cert.Kernel

/-- The kernel's side conditions hold at every point, whatever the cache lengths. -/
theorem hyps {F : FTy → Type} [FloatOps F] (m : (ℓ : Loc Cert.Kernel.nD Cert.Kernel.τ Cert.Kernel.sig) → Buf (Elt F) ℓ) : Cert.Kernel.Run.Hyps m :=
  fun _ _ => ⟨Cert.Kernel.Chk.chk1 _, Cert.Kernel.Chk.chk2 _, Cert.Kernel.Chk.chk3 _, Cert.Kernel.Chk.chk4 _, Cert.Kernel.Chk.chk5 _, Cert.Kernel.Chk.chk6 _, Cert.Kernel.Chk.chk7 _, Cert.Kernel.Chk.chk8 _⟩

/-- The kernel and the reference, at the ideal numbers and from equal arguments, both run, end with equal results and
    leave their arguments unchanged. -/
theorem algebraic : algebraic_KernelIdeal_ReferenceIdeal (hKernelIdeal := Cert.KernelIdeal.Gen.facts) (hReferenceIdeal := Cert.ReferenceIdeal.Gen.facts) := by
  intro m g m' g' _ hA
  refine ⟨fun c => Cert.Equal.kout m c, fun c => Cert.Equal.kcodeK m c, fun c => Cert.Equal.kcodeV m c, ?_, ?_⟩
  · refine (θ_run _ _ _).mono (fun r h c => ?_) (Cert.KernelIdeal.Launch.unchanged m g)
    obtain ⟨ha, h8, h9, h10⟩ := h c
    exact ⟨h8, h9, h10, ha⟩
  · refine (θ_run _ _ _).mono (fun r h c => ?_) (Cert.ReferenceIdeal.Host.unchanged m' g')
    obtain ⟨ha, h0, h1, h2⟩ := h c
    obtain ⟨a0, a1, a2, a3, a4, a5⟩ := hA c
    exact ⟨h0.trans (Cert.Equal.out_eq m m' c a0 a1 a2 a3 a4 a5), h1.trans (Cert.Equal.codeK_eq m m' c a1),
      h2.trans (Cert.Equal.codeV_eq m m' c a2), ha⟩

/-- The claim: the two kernel programs and the reference run clean, nothing was rewritten, and the kernel's three results
    are the reference's. -/
theorem claim : Cert.Claim := ⟨Cert.Kernel.Gen.facts, Cert.KernelIdeal.Gen.facts, Cert.ReferenceIdeal.Gen.facts,
  fun m ρ _ => Cert.Kernel.Run.frame m ρ (hyps m),
  fun m ρ _ => Cert.KernelIdeal.Launch.frame m ρ,
  fun m ρ _ => Cert.ReferenceIdeal.Gen.frame m ρ, trivial, algebraic⟩

end Cert.Proof

end
